-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownIdeal_padded [hPre_padded : Cert.Pre_padded.Facts] (m : (ℓ : Loc Cert.DownIdeal.nD Cert.DownIdeal.τ Cert.DownIdeal.sig) → Buf (Elt Ideal) ℓ) : Prop :=
  ∀ c : Dev Cert.DownIdeal.nD,
    (Cert.Pre_padded.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5))) = (fun _ => 1#1)

def Pre_DownReferenceIdeal (m : (ℓ : Loc Cert.DownReferenceIdeal.nD Cert.DownReferenceIdeal.τ Cert.DownReferenceIdeal.sig) → Buf (Elt Ideal) ℓ) : Prop :=
  True

def Pre_DownReferenceIdeal_padded [hPre_padded : Cert.Pre_padded.Facts] (m : (ℓ : Loc Cert.DownReferenceIdeal.nD Cert.DownReferenceIdeal.τ Cert.DownReferenceIdeal.sig) → Buf (Elt Ideal) ℓ) : Prop :=
  ∀ c : Dev Cert.DownReferenceIdeal.nD,
    (Cert.Pre_padded.fn (F := Ideal) (m ((c.tc : Thread Cert.DownReferenceIdeal.nD Cert.DownReferenceIdeal.τ).loc Cert.DownReferenceIdeal.main_arg0)) (m ((c.tc : Thread Cert.DownReferenceIdeal.nD Cert.DownReferenceIdeal.τ).loc Cert.DownReferenceIdeal.main_arg1)) (m ((c.tc : Thread Cert.DownReferenceIdeal.nD Cert.DownReferenceIdeal.τ).loc Cert.DownReferenceIdeal.main_arg2)) (m ((c.tc : Thread Cert.DownReferenceIdeal.nD Cert.DownReferenceIdeal.τ).loc Cert.DownReferenceIdeal.main_arg3)) (m ((c.tc : Thread Cert.DownReferenceIdeal.nD Cert.DownReferenceIdeal.τ).loc Cert.DownReferenceIdeal.main_arg4)) (m ((c.tc : Thread Cert.DownReferenceIdeal.nD Cert.DownReferenceIdeal.τ).loc Cert.DownReferenceIdeal.main_arg5))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownIdeal_pre_padded [hDownIdeal : Cert.DownIdeal.Facts] [hPre_padded : Cert.Pre_padded.Facts] : Prop :=
  ∀ (m : (ℓ : Loc Cert.DownIdeal.nD Cert.DownIdeal.τ Cert.DownIdeal.sig) → Buf (Elt Ideal) ℓ) (g : Dev Cert.DownIdeal.nD → PrngReg), Pre_DownIdeal_padded m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4)
      ∧ r.2.mem ((c.tc : Thread Cert.DownReferenceIdeal.nD Cert.DownReferenceIdeal.τ).loc Cert.DownReferenceIdeal.main_arg5) = m ((c.tc : Thread Cert.DownReferenceIdeal.nD Cert.DownReferenceIdeal.τ).loc Cert.DownReferenceIdeal.main_arg5))
      ∧ r.2.sem = fun _ => 0)

def quiescent_DownReferenceIdeal_pre_padded [hDownReferenceIdeal : Cert.DownReferenceIdeal.Facts] [hPre_padded : Cert.Pre_padded.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal_padded m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4)
      ∧ r.2.mem ((c.tc : Thread Cert.DownReferenceIdeal.nD Cert.DownReferenceIdeal.τ).loc Cert.DownReferenceIdeal.main_arg5) = m ((c.tc : Thread Cert.DownReferenceIdeal.nD Cert.DownReferenceIdeal.τ).loc Cert.DownReferenceIdeal.main_arg5))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Down_DownIdeal : Prop :=
  True

def algebraic_DownIdeal_DownReferenceIdeal_pre_padded [hDownIdeal : Cert.DownIdeal.Facts] [hDownReferenceIdeal : Cert.DownReferenceIdeal.Facts] [hPre_padded : Cert.Pre_padded.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal_padded m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)
      ∧ m' ((c.tc : Thread Cert.DownReferenceIdeal.nD Cert.DownReferenceIdeal.τ).loc Cert.DownReferenceIdeal.main_arg4) = m ((c.tc : Thread Cert.DownIdeal.nD Cert.DownIdeal.τ).loc Cert.DownIdeal.main_arg4)
      ∧ m' ((c.tc : Thread Cert.DownReferenceIdeal.nD Cert.DownReferenceIdeal.τ).loc Cert.DownReferenceIdeal.main_arg5) = m ((c.tc : Thread Cert.DownIdeal.nD Cert.DownIdeal.τ).loc Cert.DownIdeal.main_arg5)) →
    ∃ (v0 : (c : Dev Cert.DownIdeal.nD) → Buf (Elt Ideal) ((c.tc : Thread Cert.DownIdeal.nD Cert.DownIdeal.τ).loc Cert.DownIdeal.main_v3)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v3) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v61) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4)
          ∧ r.2.mem ((c.tc : Thread Cert.DownReferenceIdeal.nD Cert.DownReferenceIdeal.τ).loc Cert.DownReferenceIdeal.main_arg5) = m' ((c.tc : Thread Cert.DownReferenceIdeal.nD Cert.DownReferenceIdeal.τ).loc Cert.DownReferenceIdeal.main_arg5))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v14) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)) →
    ∃ (v0 : (c : Dev Cert.MixIdeal.nD) → Buf (Elt Ideal) ((c.tc : Thread Cert.MixIdeal.nD Cert.MixIdeal.τ).loc Cert.MixIdeal.main_v4)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v4) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v28) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v47_0)) (v1 : (c : Dev Cert.ProjIdeal.nD) → Buf (Elt Ideal) ((c.tc : Thread Cert.ProjIdeal.nD Cert.ProjIdeal.τ).loc Cert.ProjIdeal.main_v47_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v47_0) = v0 c
          ∧ r.2.mem ((c.tc : Thread Cert.ProjIdeal.nD Cert.ProjIdeal.τ).loc Cert.ProjIdeal.main_v47_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v131) = v0 c
          ∧ r.2.mem ((c.tc : Thread Cert.ProjReferenceIdeal.nD Cert.ProjReferenceIdeal.τ).loc Cert.ProjReferenceIdeal.main_v132) = v1 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def Claim : Prop :=
  ∃ (hKernel : Cert.Kernel.Facts) (hKernelIdeal : Cert.KernelIdeal.Facts) (hReferenceIdeal : Cert.ReferenceIdeal.Facts) (hDown : Cert.Down.Facts) (hDownIdeal : Cert.DownIdeal.Facts) (hDownReferenceIdeal : Cert.DownReferenceIdeal.Facts) (hUp : Cert.Up.Facts) (hUpIdeal : Cert.UpIdeal.Facts) (hUpReferenceIdeal : Cert.UpReferenceIdeal.Facts) (hMix : Cert.Mix.Facts) (hMixIdeal : Cert.MixIdeal.Facts) (hMixReferenceIdeal : Cert.MixReferenceIdeal.Facts) (hProj : Cert.Proj.Facts) (hProjIdeal : Cert.ProjIdeal.Facts) (hProjReferenceIdeal : Cert.ProjReferenceIdeal.Facts) (hPre_finite : Cert.Pre_finite.Facts) (hPre_padded : Cert.Pre_padded.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Down (hDown := hDown)
    ∧ quiescent_DownIdeal (hDownIdeal := hDownIdeal)
    ∧ quiescent_DownIdeal_pre_padded (hDownIdeal := hDownIdeal) (hPre_padded := hPre_padded)
    ∧ quiescent_DownReferenceIdeal (hDownReferenceIdeal := hDownReferenceIdeal)
    ∧ quiescent_DownReferenceIdeal_pre_padded (hDownReferenceIdeal := hDownReferenceIdeal) (hPre_padded := hPre_padded)
    ∧ quiescent_Up (hUp := hUp)
    ∧ quiescent_UpIdeal (hUpIdeal := hUpIdeal)
    ∧ quiescent_UpReferenceIdeal (hUpReferenceIdeal := hUpReferenceIdeal)
    ∧ quiescent_Mix (hMix := hMix)
    ∧ quiescent_MixIdeal (hMixIdeal := hMixIdeal)
    ∧ quiescent_MixReferenceIdeal (hMixReferenceIdeal := hMixReferenceIdeal)
    ∧ quiescent_Proj (hProj := hProj)
    ∧ quiescent_ProjIdeal (hProjIdeal := hProjIdeal)
    ∧ quiescent_ProjReferenceIdeal (hProjReferenceIdeal := hProjReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Down_DownIdeal
    ∧ algebraic_DownIdeal_DownReferenceIdeal_pre_padded (hDownIdeal := hDownIdeal) (hDownReferenceIdeal := hDownReferenceIdeal) (hPre_padded := hPre_padded)
    ∧ preserves_Up_UpIdeal
    ∧ algebraic_UpIdeal_UpReferenceIdeal (hUpIdeal := hUpIdeal) (hUpReferenceIdeal := hUpReferenceIdeal)
    ∧ preserves_Mix_MixIdeal
    ∧ algebraic_MixIdeal_MixReferenceIdeal (hMixIdeal := hMixIdeal) (hMixReferenceIdeal := hMixReferenceIdeal)
    ∧ preserves_Proj_ProjIdeal
    ∧ algebraic_ProjIdeal_ProjReferenceIdeal (hProjIdeal := hProjIdeal) (hProjReferenceIdeal := hProjReferenceIdeal)
-- ==== Pre_finite.lean ====
abbrev S33280x8192 : Shape := ⟨2, ![33280, 8192]⟩
abbrev S2048x33280 : Shape := ⟨2, ![2048, 33280]⟩
abbrev S128 : Shape := ⟨1, ![128]⟩
abbrev S256 : Shape := ⟨1, ![256]⟩
abbrev S33280x2048 : Shape := ⟨2, ![33280, 2048]⟩
abbrev S1024x33280 : Shape := ⟨2, ![1024, 33280]⟩
abbrev S_ : Shape := ⟨0, ![]⟩

class Facts : Prop where
  slices_S33280x8192_S33280x2048_0_0 : S33280x8192.Slices ![0, 0] S33280x2048
  bitsLt_bf16_f32 : FTy.bits .bf16 < FTy.bits .f32
  slices_S2048x33280_S1024x33280_0_0 : S2048x33280.Slices ![0, 0] S1024x33280
  bcast_S_S33280x2048 : S_.BroadcastsInDim S33280x2048 (![] : Fin 0 → Fin S33280x2048.rank)
  reducesTo_S33280x2048_S_d0_1 : S33280x2048.ReducesTo [0, 1] S_
  h_S_ : 0 < S_.numel
  bcast_S_S1024x33280 : S_.BroadcastsInDim S1024x33280 (![] : Fin 0 → Fin S1024x33280.rank)
  reducesTo_S1024x33280_S_d0_1 : S1024x33280.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg3 : FVec F S128 .f32) (main_arg4 : FVec F S128 .f32) (main_arg5 : FVec F S128 .f32) (main_v17 : IVec S_ 1) : IVec S_ 1 :=
  let main_v18 : FVec F S128 .f32 := Host.absf main_arg3
  let main_cst_4 : FVec F S_ .f32 := constant S_ .f32 0x7F800000#32
  let main_v19 : FVec F S128 .f32 := broadcastInDim S128 ![] bcast_S_S128 main_cst_4
  let main_v20 : IVec S128 1 := cmpf .olt main_v18 main_v19
  let main_c_5 : IVec S_ 1 := constantI S_ 1 1#1
  let main_v21 : IVec S_ 1 := (fun x v => Host.reduce IntOp.andi x v reducesTo_S128_S_d0 h_S_) main_v20 main_c_5
  let main_v22 : IVec S_ 1 := andi main_v17 main_v21
  let main_v23 : FVec F S128 .f32 := Host.absf main_arg4
  let main_cst_6 : FVec F S_ .f32 := constant S_ .f32 0x7F800000#32
  let main_v24 : FVec F S128 .f32 := broadcastInDim S128 ![] bcast_S_S128 main_cst_6
  let main_v25 : IVec S128 1 := cmpf .olt main_v23 main_v24
  let main_c_7 : IVec S_ 1 := constantI S_ 1 1#1
  let main_v26 : IVec S_ 1 := (fun x v => Host.reduce IntOp.andi x v reducesTo_S128_S_d0 h_S_) main_v25 main_c_7
  let main_v27 : IVec S_ 1 := andi main_v22 main_v26
  let main_v28 : FVec F S128 .f32 := Host.absf main_arg5
  let main_cst_8 : FVec F S_ .f32 := constant S_ .f32 0x7F800000#32
  let main_v29 : FVec F S128 .f32 := broadcastInDim S128 ![] bcast_S_S128 main_cst_8
  let main_v30 : IVec S128 1 := cmpf .olt main_v28 main_v29
  let main_c_9 : IVec S_ 1 := constantI S_ 1 1#1
  let main_v31 : IVec S_ 1 := (fun x v => Host.reduce IntOp.andi x v reducesTo_S128_S_d0 h_S_) main_v30 main_c_9
  let main_v32 : IVec S_ 1 := andi main_v27 main_v31
  main_v32

def fn {F : FTy → Type} [FloatOps F] (main_arg0 : FVec F S33280x8192 .bf16) (main_arg1 : FVec F S2048x33280 .bf16) (main_arg2 : FVec F S128 .f32) (main_arg3 : FVec F S128 .f32) (main_arg4 : FVec F S128 .f32) (main_arg5 : FVec F S128 .f32) (main_arg6 : FVec F S256 .f32) : IVec S_ 1 :=
  let main_v0 : FVec F S33280x2048 .bf16 := (extractStridedSlice S33280x2048 ![0, 0] · slices_S33280x8192_S33280x2048_0_0) main_arg0
  let main_v1 : FVec F S33280x2048 .f32 := (extf .f32 · bitsLt_bf16_f32) main_v0
  let main_v2 : FVec F S1024x33280 .bf16 := (extractStridedSlice S1024x33280 ![0, 0] · slices_S2048x33280_S1024x33280_0_0) main_arg1
  let main_v3 : FVec F S1024x33280 .f32 := (extf .f32 · bitsLt_bf16_f32) main_v2
  let main_v4 : FVec F S33280x2048 .f32 := Host.absf main_v1
  let main_cst : FVec F S_ .f32 := constant S_ .f32 0x7F800000#32
  let main_v5 : FVec F S33280x2048 .f32 := broadcastInDim S33280x2048 ![] bcast_S_S33280x2048 main_cst
  let main_v6 : IVec S33280x2048 1 := cmpf .olt main_v4 main_v5
  let main_c : IVec S_ 1 := constantI S_ 1 1#1
  let main_v7 : IVec S_ 1 := (fun x v => Host.reduce IntOp.andi x v reducesTo_S33280x2048_S_d0_1 h_S_) main_v6 main_c
  let main_v8 : FVec F S1024x33280 .f32 := Host.absf main_v3
  let main_cst_0 : FVec F S_ .f32 := constant S_ .f32 0x7F800000#32
  let main_v9 : FVec F S1024x33280 .f32 := broadcastInDim S1024x33280 ![] bcast_S_S1024x33280 main_cst_0
  let main_v10 : IVec S1024x33280 1 := cmpf .olt main_v8 main_v9
  let main_c_1 : IVec S_ 1 := constantI S_ 1 1#1
  let main_v11 : IVec S_ 1 := (fun x v => Host.reduce IntOp.andi x v reducesTo_S1024x33280_S_d0_1 h_S_) main_v10 main_c_1
  let main_v12 : IVec S_ 1 := andi main_v7 main_v11
  let main_v13 : FVec F S128 .f32 := Host.absf main_arg2
  let main_cst_2 : FVec F S_ .f32 := constant S_ .f32 0x7F800000#32
  let main_v14 : FVec F S128 .f32 := broadcastInDim S128 ![] bcast_S_S128 main_cst_2
  let main_v15 : IVec S128 1 := cmpf .olt main_v13 main_v14
  let main_c_3 : IVec S_ 1 := constantI S_ 1 1#1
  let main_v16 : IVec S_ 1 := (fun x v => Host.reduce IntOp.andi x v reducesTo_S128_S_d0 h_S_) main_v15 main_c_3
  let main_v17 : IVec S_ 1 := andi main_v12 main_v16
  fn_part1 (F := F) main_arg3 main_arg4 main_arg5 main_v17
-- ==== Pre_padded.lean ====
abbrev S33280x11264 : Shape := ⟨2, ![33280, 11264]⟩
abbrev S33280x2048 : Shape := ⟨2, ![33280, 2048]⟩
abbrev S3x5632 : Shape := ⟨2, ![3, 5632]⟩
abbrev S5632 : Shape := ⟨1, ![5632]⟩
abbrev S5632x2048 : Shape := ⟨2, ![5632, 2048]⟩
abbrev S2048 : Shape := ⟨1, ![2048]⟩
abbrev S4x8320x11264 : Shape := ⟨3, ![4, 8320, 11264]⟩
abbrev S4x112x5632 : Shape := ⟨3, ![4, 112, 5632]⟩
abbrev S_ : Shape := ⟨0, ![]⟩

class Facts : Prop where
  bitsLt_bf16_f32 : FTy.bits .bf16 < FTy.bits .f32
  shapeCasts_S33280x11264_S4x8320x11264 : S33280x11264.ShapeCasts S4x8320x11264
  slices_S4x8320x11264_S4x112x5632_0_0_0 : S4x8320x11264.Slices ![0, 0, 0] S4x112x5632
  bcast_S_S4x112x5632 : S_.BroadcastsInDim S4x112x5632 (![] : Fin 0 → Fin S4x112x5632.rank)
  reducesTo_S4x112x5632_S_d0_1_2 : S4x112x5632.ReducesTo [0, 1, 2] S_
  h_S_ : 0 < S_.numel

variable [Facts]

def fn {F : FTy → Type} [FloatOps F] (main_arg0 : FVec F S33280x11264 .bf16) (main_arg1 : FVec F S33280x2048 .f32) (main_arg2 : FVec F S3x5632 .f32) (main_arg3 : FVec F S5632 .f32) (main_arg4 : FVec F S5632x2048 .f32) (main_arg5 : FVec F S2048 .f32) : IVec S_ 1 :=
  let main_v0 : FVec F S33280x11264 .f32 := (extf .f32 · bitsLt_bf16_f32) main_arg0
  let main_v1 : FVec F S4x8320x11264 .f32 := shapeCast S4x8320x11264 main_v0 shapeCasts_S33280x11264_S4x8320x11264
  let main_v2 : FVec F S4x112x5632 .f32 := (extractStridedSlice S4x112x5632 ![0, 0, 0] · slices_S4x8320x11264_S4x112x5632_0_0_0) main_v1
  let main_cst : FVec F S_ .f32 := constant S_ .f32 0x00000000#32
  let main_v3 : FVec F S4x112x5632 .f32 := broadcastInDim S4x112x5632 ![] bcast_S_S4x112x5632 main_cst
  let main_v4 : IVec S4x112x5632 1 := cmpf .oeq main_v2 main_v3
  let main_c : IVec S_ 1 := constantI S_ 1 1#1
  let main_v5 : IVec S_ 1 := (fun x v => Host.reduce IntOp.andi x v reducesTo_S4x112x5632_S_d0_1_2 h_S_) main_v4 main_c
  main_v5
-- ==== Kernel.lean ====
abbrev S33280x8192 : Shape := ⟨2, ![33280, 8192]⟩
abbrev S2048x33280 : Shape := ⟨2, ![2048, 33280]⟩
abbrev S128 : Shape := ⟨1, ![128]⟩
abbrev S256 : Shape := ⟨1, ![256]⟩
abbrev S1x128 : Shape := ⟨2, ![1, 128]⟩
abbrev S4x128 : Shape := ⟨2, ![4, 128]⟩
abbrev S4x8320x8192 : Shape := ⟨3, ![4, 8320, 8192]⟩
abbrev S256x1 : Shape := ⟨2, ![256, 1]⟩
abbrev S4x8320x1024 : Shape := ⟨3, ![4, 8320, 1024]⟩
abbrev S1x8320x256 : Shape := ⟨3, ![1, 8320, 256]⟩
abbrev S256x8320 : Shape := ⟨2, ![256, 8320]⟩
abbrev S256x256 : Shape := ⟨2, ![256, 256]⟩
abbrev S512x256 : Shape := ⟨2, ![512, 256]⟩
abbrev S1 : Shape := ⟨1, ![1]⟩
abbrev S1x1 : Shape := ⟨2, ![1, 1]⟩
abbrev S1x16x256 : Shape := ⟨3, ![1, 16, 256]⟩
abbrev S16x256 : Shape := ⟨2, ![16, 256]⟩
abbrev S256x16 : Shape := ⟨2, ![256, 16]⟩
abbrev S1x128x256 : Shape := ⟨3, ![1, 128, 256]⟩
abbrev S128x256 : Shape := ⟨2, ![128, 256]⟩
abbrev S128x128 : Shape := ⟨2, ![128, 128]⟩
abbrev S16x128 : Shape := ⟨2, ![16, 128]⟩
abbrev S256x128 : Shape := ⟨2, ![256, 128]⟩
abbrev S1x512x256 : Shape := ⟨3, ![1, 512, 256]⟩
abbrev S512x128 : Shape := ⟨2, ![512, 128]⟩
abbrev S256x512 : Shape := ⟨2, ![256, 512]⟩
abbrev S1x256x256 : Shape := ⟨3, ![1, 256, 256]⟩
abbrev S1x256 : Shape := ⟨2, ![1, 256]⟩

abbrev nBuf : Space → Nat
  | .hbm => 15
  | .vmem => 16
  | .smem => 0
  | _ => 0

abbrev bufTy : (tb : Table) → Fin (tcTables nBuf tb) → BufTy
  | .hbm, ⟨0, _⟩ => ⟨S33280x8192, .bf16⟩
  | .hbm, ⟨1, _⟩ => ⟨S2048x33280, .bf16⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S256, .f32⟩
  | .hbm, ⟨7, _⟩ => ⟨S1x128, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S4x128, .f32⟩
  | .hbm, ⟨12, _⟩ => ⟨S4x8320x8192, .bf16⟩
  | .hbm, ⟨13, _⟩ => ⟨S256x1, .f32⟩
  | .hbm, ⟨14, _⟩ => ⟨S4x8320x1024, .bf16⟩
  | .local _ .vmem, ⟨0, _⟩ => ⟨S1x8320x256, .bf16⟩
  | .local _ .vmem, ⟨1, _⟩ => ⟨S1x8320x256, .bf16⟩
  | .local _ .vmem, ⟨2, _⟩ => ⟨S1x8320x256, .bf16⟩
  | .local _ .vmem, ⟨3, _⟩ => ⟨S1x8320x256, .bf16⟩
  | .local _ .vmem, ⟨4, _⟩ => ⟨S256x8320, .bf16⟩
  | .local _ .vmem, ⟨5, _⟩ => ⟨S256x8320, .bf16⟩
  | .local _ .vmem, ⟨6, _⟩ => ⟨S4x128, .f32⟩
  | .local _ .vmem, ⟨7, _⟩ => ⟨S256x1, .f32⟩
  | .local _ .vmem, ⟨8, _⟩ => ⟨S1x8320x256, .bf16⟩
  | .local _ .vmem, ⟨9, _⟩ => ⟨S1x8320x256, .bf16⟩
  | .local _ .vmem, ⟨10, _⟩ => ⟨S256x256, .f32⟩
  | .local _ .vmem, ⟨11, _⟩ => ⟨S256x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | _, _ => ⟨S33280x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 4], ![false, false]⟩

def k0_mult1 : BitVec 32 :=
  let c128_i32 : BitVec 32 := 128#32
  c128_i32
@[reducible] def k0_t1_loop : Scf.Loop 32 :=
  let c0_i32 : BitVec 32 := 0#32
  let c4_i32 : BitVec 32 := 4#32
  let v68 : BitVec 32 := Scalar.addi c0_i32 c4_i32
  let c1_i32 : BitVec 32 := 1#32
  ⟨c0_i32, v68, c1_i32⟩
def k0_mult2 (k0_t1 : Fin k0_t1_loop.trips) : BitVec 32 :=
  let c128_i32_50 : BitVec 32 := 128#32
  let c4_i32_47 : BitVec 32 := 4#32
  let c0_i32 : BitVec 32 := 0#32
  let c1_i32 : BitVec 32 := 1#32
  let arg14 : BitVec 32 := Scf.iv c0_i32 c1_i32 k0_t1
  let v99 : BitVec 32 := Scalar.muli c4_i32_47 arg14
  let c0_i32_48 : BitVec 32 := 0#32
  let v100 : BitVec 32 := Scalar.addi v99 c0_i32_48
  let c1_i32_49 : BitVec 32 := 1#32
  let v101 : BitVec 32 := Scalar.addi v100 c1_i32_49
  let c512_i32 : BitVec 32 := 512#32
  let v102 : BitVec 32 := Scalar.muli v101 c512_i32
  let v103 : BitVec 32 := Scalar.addi c128_i32_50 v102
  v103
def k0_off1 (k0_t1 : Fin k0_t1_loop.trips) (c0_i32_48 : BitVec 32) : Fin 3 → Nat :=
  let c0_51 : Index := 0#32
  let c128_i32_50 : BitVec 32 := 128#32
  let c4_i32_47 : BitVec 32 := 4#32
  let c0_i32 : BitVec 32 := 0#32
  let c1_i32 : BitVec 32 := 1#32
  let arg14 : BitVec 32 := Scf.iv c0_i32 c1_i32 k0_t1
  let v99 : BitVec 32 := Scalar.muli c4_i32_47 arg14
  let v100 : BitVec 32 := Scalar.addi v99 c0_i32_48
  let c1_i32_49 : BitVec 32 := 1#32
  let v101 : BitVec 32 := Scalar.addi v100 c1_i32_49
  let c512_i32 : BitVec 32 := 512#32
  let v102 : BitVec 32 := Scalar.muli v101 c512_i32
  let v103 : BitVec 32 := Scalar.addi c128_i32_50 v102
  let v104 : BitVec 32 := v103
  let v105 : Index := Scalar.indexCast v104
  let c0_52 : Index := 0#32
  ![0, v105.toNat, 0]
def k0_mult3 (k0_t1 : Fin k0_t1_loop.trips) : BitVec 32 :=
  let c128_i32_61 : BitVec 32 := 128#32
  let c4_i32_47 : BitVec 32 := 4#32
  let c0_i32 : BitVec 32 := 0#32
  let c1_i32 : BitVec 32 := 1#32
  let arg14 : BitVec 32 := Scf.iv c0_i32 c1_i32 k0_t1
  let v99 : BitVec 32 := Scalar.muli c4_i32_47 arg14
  let c0_i32_59 : BitVec 32 := 0#32
  let v118 : BitVec 32 := Scalar.addi v99 c0_i32_59
  let c512_i32_60 : BitVec 32 := 512#32
  let v119 : BitVec 32 := Scalar.muli v118 c512_i32_60
  let v120 : BitVec 32 := Scalar.addi c128_i32_61 v119
  v120
def k0_off2 (k0_t1 : Fin k0_t1_loop.trips) (c0_i32_59 : BitVec 32) : Fin 2 → Nat :=
  let c0_62 : Index := 0#32
  let c128_i32_61 : BitVec 32 := 128#32
  let c4_i32_47 : BitVec 32 := 4#32
  let c0_i32 : BitVec 32 := 0#32
  let c1_i32 : BitVec 32 := 1#32
  let arg14 : BitVec 32 := Scf.iv c0_i32 c1_i32 k0_t1
  let v99 : BitVec 32 := Scalar.muli c4_i32_47 arg14
  let v118 : BitVec 32 := Scalar.addi v99 c0_i32_59
  let c512_i32_60 : BitVec 32 := 512#32
  let v119 : BitVec 32 := Scalar.muli v118 c512_i32_60
  let v120 : BitVec 32 := Scalar.addi c128_i32_61 v119
  let v121 : BitVec 32 := v120
  let v122 : Index := Scalar.indexCast v121
  ![0, v122.toNat]
def k0_mult4 (k0_t1 : Fin k0_t1_loop.trips) : BitVec 32 :=
  let c128_i32_84 : BitVec 32 := 128#32
  let c4_i32_47 : BitVec 32 := 4#32
  let c0_i32 : BitVec 32 := 0#32
  let c1_i32 : BitVec 32 := 1#32
  let arg14 : BitVec 32 := Scf.iv c0_i32 c1_i32 k0_t1
  let v99 : BitVec 32 := Scalar.muli c4_i32_47 arg14
  let c1_i32_81 : BitVec 32 := 1#32
  let v168 : BitVec 32 := Scalar.addi v99 c1_i32_81
  let c1_i32_82 : BitVec 32 := 1#32
  let v169 : BitVec 32 := Scalar.addi v168 c1_i32_82
  let c512_i32_83 : BitVec 32 := 512#32
  let v170 : BitVec 32 := Scalar.muli v169 c512_i32_83
  let v171 : BitVec 32 := Scalar.addi c128_i32_84 v170
  v171
def k0_mult5 (k0_t1 : Fin k0_t1_loop.trips) : BitVec 32 :=
  let c128_i32_95 : BitVec 32 := 128#32
  let c4_i32_47 : BitVec 32 := 4#32
  let c0_i32 : BitVec 32 := 0#32
  let c1_i32 : BitVec 32 := 1#32
  let arg14 : BitVec 32 := Scf.iv c0_i32 c1_i32 k0_t1
  let v99 : BitVec 32 := Scalar.muli c4_i32_47 arg14
  let c1_i32_93 : BitVec 32 := 1#32
  let v186 : BitVec 32 := Scalar.addi v99 c1_i32_93
  let c512_i32_94 : BitVec 32 := 512#32
  let v187 : BitVec 32 := Scalar.muli v186 c512_i32_94
  let v188 : BitVec 32 := Scalar.addi c128_i32_95 v187
  v188
def k0_mult6 (k0_t1 : Fin k0_t1_loop.trips) : BitVec 32 :=
  let c128_i32_117 : BitVec 32 := 128#32
  let c4_i32_47 : BitVec 32 := 4#32
  let c0_i32 : BitVec 32 := 0#32
  let c1_i32 : BitVec 32 := 1#32
  let arg14 : BitVec 32 := Scf.iv c0_i32 c1_i32 k0_t1
  let v99 : BitVec 32 := Scalar.muli c4_i32_47 arg14
  let c2_i32 : BitVec 32 := 2#32
  let v236 : BitVec 32 := Scalar.addi v99 c2_i32
  let c1_i32_115 : BitVec 32 := 1#32
  let v237 : BitVec 32 := Scalar.addi v236 c1_i32_115
  let c512_i32_116 : BitVec 32 := 512#32
  let v238 : BitVec 32 := Scalar.muli v237 c512_i32_116
  let v239 : BitVec 32 := Scalar.addi c128_i32_117 v238
  v239
def k0_mult7 (k0_t1 : Fin k0_t1_loop.trips) : BitVec 32 :=
  let c128_i32_128 : BitVec 32 := 128#32
  let c4_i32_47 : BitVec 32 := 4#32
  let c0_i32 : BitVec 32 := 0#32
  let c1_i32 : BitVec 32 := 1#32
  let arg14 : BitVec 32 := Scf.iv c0_i32 c1_i32 k0_t1
  let v99 : BitVec 32 := Scalar.muli c4_i32_47 arg14
  let c2_i32_126 : BitVec 32 := 2#32
  let v254 : BitVec 32 := Scalar.addi v99 c2_i32_126
  let c512_i32_127 : BitVec 32 := 512#32
  let v255 : BitVec 32 := Scalar.muli v254 c512_i32_127
  let v256 : BitVec 32 := Scalar.addi c128_i32_128 v255
  v256
def k0_mult8 (k0_t1 : Fin k0_t1_loop.trips) : BitVec 32 :=
  let c128_i32_150 : BitVec 32 := 128#32
  let c4_i32_47 : BitVec 32 := 4#32
  let c0_i32 : BitVec 32 := 0#32
  let c1_i32 : BitVec 32 := 1#32
  let arg14 : BitVec 32 := Scf.iv c0_i32 c1_i32 k0_t1
  let v99 : BitVec 32 := Scalar.muli c4_i32_47 arg14
  let c3_i32 : BitVec 32 := 3#32
  let v304 : BitVec 32 := Scalar.addi v99 c3_i32
  let c1_i32_148 : BitVec 32 := 1#32
  let v305 : BitVec 32 := Scalar.addi v304 c1_i32_148
  let c15_i32 : BitVec 32 := 15#32
  let v306 : BitVec 32 := Scalar.minsi v305 c15_i32
  let c512_i32_149 : BitVec 32 := 512#32
  let v307 : BitVec 32 := Scalar.muli v306 c512_i32_149
  let v308 : BitVec 32 := Scalar.addi c128_i32_150 v307
  v308
def k0_off3 (k0_t1 : Fin k0_t1_loop.trips) : Fin 3 → Nat :=
  let c0_151 : Index := 0#32
  let c128_i32_150 : BitVec 32 := 128#32
  let c4_i32_47 : BitVec 32 := 4#32
  let c0_i32 : BitVec 32 := 0#32
  let c1_i32 : BitVec 32 := 1#32
  let arg14 : BitVec 32 := Scf.iv c0_i32 c1_i32 k0_t1
  let v99 : BitVec 32 := Scalar.muli c4_i32_47 arg14
  let c3_i32 : BitVec 32 := 3#32
  let v304 : BitVec 32 := Scalar.addi v99 c3_i32
  let c1_i32_148 : BitVec 32 := 1#32
  let v305 : BitVec 32 := Scalar.addi v304 c1_i32_148
  let c15_i32 : BitVec 32 := 15#32
  let v306 : BitVec 32 := Scalar.minsi v305 c15_i32
  let c512_i32_149 : BitVec 32 := 512#32
  let v307 : BitVec 32 := Scalar.muli v306 c512_i32_149
  let v308 : BitVec 32 := Scalar.addi c128_i32_150 v307
  let v309 : BitVec 32 := v308
  let v310 : Index := Scalar.indexCast v309
  let c0_152 : Index := 0#32
  ![0, v310.toNat, 0]
def k0_mult9 (k0_t1 : Fin k0_t1_loop.trips) : BitVec 32 :=
  let c128_i32_161 : BitVec 32 := 128#32
  let c4_i32_47 : BitVec 32 := 4#32
  let c0_i32 : BitVec 32 := 0#32
  let c1_i32 : BitVec 32 := 1#32
  let arg14 : BitVec 32 := Scf.iv c0_i32 c1_i32 k0_t1
  let v99 : BitVec 32 := Scalar.muli c4_i32_47 arg14
  let c3_i32_159 : BitVec 32 := 3#32
  let v323 : BitVec 32 := Scalar.addi v99 c3_i32_159
  let c512_i32_160 : BitVec 32 := 512#32
  let v324 : BitVec 32 := Scalar.muli v323 c512_i32_160
  let v325 : BitVec 32 := Scalar.addi c128_i32_161 v324
  v325
@[reducible] def k0_t2_loop : Scf.Loop 32 :=
  let c0_i32_44 : BitVec 32 := 0#32
  let c32_i32 : BitVec 32 := 32#32
  let v98 : BitVec 32 := Scalar.addi c0_i32_44 c32_i32
  let c1_i32_45 : BitVec 32 := 1#32
  ⟨c0_i32_44, v98, c1_i32_45⟩
def k0_mult10 (k0_t2 : Fin k0_t2_loop.trips) : BitVec 32 :=
  let c128_i32_47 : BitVec 32 := 128#32
  let c0_i32_44 : BitVec 32 := 0#32
  let c1_i32_45 : BitVec 32 := 1#32
  let arg14 : BitVec 32 := Scf.iv c0_i32_44 c1_i32_45 k0_t2
  let c256_i32 : BitVec 32 := 256#32
  let v99 : BitVec 32 := Scalar.muli arg14 c256_i32
  let v100 : BitVec 32 := Scalar.addi c128_i32_47 v99
  v100
def k0_off4 (k0_t2 : Fin k0_t2_loop.trips) : Fin 3 → Nat :=
  let c0_48 : Index := 0#32
  let c128_i32_47 : BitVec 32 := 128#32
  let c0_i32_44 : BitVec 32 := 0#32
  let c1_i32_45 : BitVec 32 := 1#32
  let arg14 : BitVec 32 := Scf.iv c0_i32_44 c1_i32_45 k0_t2
  let c256_i32 : BitVec 32 := 256#32
  let v99 : BitVec 32 := Scalar.muli arg14 c256_i32
  let v100 : BitVec 32 := Scalar.addi c128_i32_47 v99
  let v101 : BitVec 32 := v100
  let v102 : Index := Scalar.indexCast v101
  let c0_49 : Index := 0#32
  ![0, v102.toNat, 0]
def k0_mult11 : BitVec 32 :=
  let c128_i32_62 : BitVec 32 := 128#32
  c128_i32_62
@[reducible] def k0_t3_loop : Scf.Loop 32 :=
  let c0_i32_71 : BitVec 32 := 0#32
  let c4_i32_72 : BitVec 32 := 4#32
  let v149 : BitVec 32 := Scalar.addi c0_i32_71 c4_i32_72
  let c1_i32_73 : BitVec 32 := 1#32
  ⟨c0_i32_71, v149, c1_i32_73⟩
def k0_mult12 (k0_t3 : Fin k0_t3_loop.trips) : BitVec 32 :=
  let c128_i32_88 : BitVec 32 := 128#32
  let c4_i32_85 : BitVec 32 := 4#32
  let c0_i32_71 : BitVec 32 := 0#32
  let c1_i32_73 : BitVec 32 := 1#32
  let arg15 : BitVec 32 := Scf.iv c0_i32_71 c1_i32_73 k0_t3
  let v180 : BitVec 32 := Scalar.muli c4_i32_85 arg15
  let c0_i32_86 : BitVec 32 := 0#32
  let v181 : BitVec 32 := Scalar.addi v180 c0_i32_86
  let c1_i32_87 : BitVec 32 := 1#32
  let v182 : BitVec 32 := Scalar.addi v181 c1_i32_87
  let c512_i32 : BitVec 32 := 512#32
  let v183 : BitVec 32 := Scalar.muli v182 c512_i32
  let v184 : BitVec 32 := Scalar.addi c128_i32_88 v183
  v184
def k0_off5 (k0_t3 : Fin k0_t3_loop.trips) (c0_i32_86 : BitVec 32) : Fin 3 → Nat :=
  let c0_89 : Index := 0#32
  let c128_i32_88 : BitVec 32 := 128#32
  let c4_i32_85 : BitVec 32 := 4#32
  let c0_i32_71 : BitVec 32 := 0#32
  let c1_i32_73 : BitVec 32 := 1#32
  let arg15 : BitVec 32 := Scf.iv c0_i32_71 c1_i32_73 k0_t3
  let v180 : BitVec 32 := Scalar.muli c4_i32_85 arg15
  let v181 : BitVec 32 := Scalar.addi v180 c0_i32_86
  let c1_i32_87 : BitVec 32 := 1#32
  let v182 : BitVec 32 := Scalar.addi v181 c1_i32_87
  let c512_i32 : BitVec 32 := 512#32
  let v183 : BitVec 32 := Scalar.muli v182 c512_i32
  let v184 : BitVec 32 := Scalar.addi c128_i32_88 v183
  let v185 : BitVec 32 := v184
  let v186 : Index := Scalar.indexCast v185
  let c0_90 : Index := 0#32
  ![0, v186.toNat, 0]
def k0_mult13 (k0_t3 : Fin k0_t3_loop.trips) : BitVec 32 :=
  let c128_i32_99 : BitVec 32 := 128#32
  let c4_i32_85 : BitVec 32 := 4#32
  let c0_i32_71 : BitVec 32 := 0#32
  let c1_i32_73 : BitVec 32 := 1#32
  let arg15 : BitVec 32 := Scf.iv c0_i32_71 c1_i32_73 k0_t3
  let v180 : BitVec 32 := Scalar.muli c4_i32_85 arg15
  let c0_i32_97 : BitVec 32 := 0#32
  let v199 : BitVec 32 := Scalar.addi v180 c0_i32_97
  let c512_i32_98 : BitVec 32 := 512#32
  let v200 : BitVec 32 := Scalar.muli v199 c512_i32_98
  let v201 : BitVec 32 := Scalar.addi c128_i32_99 v200
  v201
def k0_off6 (k0_t3 : Fin k0_t3_loop.trips) (c0_i32_97 : BitVec 32) : Fin 2 → Nat :=
  let c0_100 : Index := 0#32
  let c128_i32_99 : BitVec 32 := 128#32
  let c4_i32_85 : BitVec 32 := 4#32
  let c0_i32_71 : BitVec 32 := 0#32
  let c1_i32_73 : BitVec 32 := 1#32
  let arg15 : BitVec 32 := Scf.iv c0_i32_71 c1_i32_73 k0_t3
  let v180 : BitVec 32 := Scalar.muli c4_i32_85 arg15
  let v199 : BitVec 32 := Scalar.addi v180 c0_i32_97
  let c512_i32_98 : BitVec 32 := 512#32
  let v200 : BitVec 32 := Scalar.muli v199 c512_i32_98
  let v201 : BitVec 32 := Scalar.addi c128_i32_99 v200
  let v202 : BitVec 32 := v201
  let v203 : Index := Scalar.indexCast v202
  ![0, v203.toNat]
def k0_mult14 (k0_t3 : Fin k0_t3_loop.trips) : BitVec 32 :=
  let c128_i32_122 : BitVec 32 := 128#32
  let c4_i32_85 : BitVec 32 := 4#32
  let c0_i32_71 : BitVec 32 := 0#32
  let c1_i32_73 : BitVec 32 := 1#32
  let arg15 : BitVec 32 := Scf.iv c0_i32_71 c1_i32_73 k0_t3
  let v180 : BitVec 32 := Scalar.muli c4_i32_85 arg15
  let c1_i32_119 : BitVec 32 := 1#32
  let v249 : BitVec 32 := Scalar.addi v180 c1_i32_119
  let c1_i32_120 : BitVec 32 := 1#32
  let v250 : BitVec 32 := Scalar.addi v249 c1_i32_120
  let c512_i32_121 : BitVec 32 := 512#32
  let v251 : BitVec 32 := Scalar.muli v250 c512_i32_121
  let v252 : BitVec 32 := Scalar.addi c128_i32_122 v251
  v252
def k0_mult15 (k0_t3 : Fin k0_t3_loop.trips) : BitVec 32 :=
  let c128_i32_133 : BitVec 32 := 128#32
  let c4_i32_85 : BitVec 32 := 4#32
  let c0_i32_71 : BitVec 32 := 0#32
  let c1_i32_73 : BitVec 32 := 1#32
  let arg15 : BitVec 32 := Scf.iv c0_i32_71 c1_i32_73 k0_t3
  let v180 : BitVec 32 := Scalar.muli c4_i32_85 arg15
  let c1_i32_131 : BitVec 32 := 1#32
  let v267 : BitVec 32 := Scalar.addi v180 c1_i32_131
  let c512_i32_132 : BitVec 32 := 512#32
  let v268 : BitVec 32 := Scalar.muli v267 c512_i32_132
  let v269 : BitVec 32 := Scalar.addi c128_i32_133 v268
  v269
def k0_mult16 (k0_t3 : Fin k0_t3_loop.trips) : BitVec 32 :=
  let c128_i32_155 : BitVec 32 := 128#32
  let c4_i32_85 : BitVec 32 := 4#32
  let c0_i32_71 : BitVec 32 := 0#32
  let c1_i32_73 : BitVec 32 := 1#32
  let arg15 : BitVec 32 := Scf.iv c0_i32_71 c1_i32_73 k0_t3
  let v180 : BitVec 32 := Scalar.muli c4_i32_85 arg15
  let c2_i32 : BitVec 32 := 2#32
  let v317 : BitVec 32 := Scalar.addi v180 c2_i32
  let c1_i32_153 : BitVec 32 := 1#32
  let v318 : BitVec 32 := Scalar.addi v317 c1_i32_153
  let c512_i32_154 : BitVec 32 := 512#32
  let v319 : BitVec 32 := Scalar.muli v318 c512_i32_154
  let v320 : BitVec 32 := Scalar.addi c128_i32_155 v319
  v320
def k0_mult17 (k0_t3 : Fin k0_t3_loop.trips) : BitVec 32 :=
  let c128_i32_166 : BitVec 32 := 128#32
  let c4_i32_85 : BitVec 32 := 4#32
  let c0_i32_71 : BitVec 32 := 0#32
  let c1_i32_73 : BitVec 32 := 1#32
  let arg15 : BitVec 32 := Scf.iv c0_i32_71 c1_i32_73 k0_t3
  let v180 : BitVec 32 := Scalar.muli c4_i32_85 arg15
  let c2_i32_164 : BitVec 32 := 2#32
  let v335 : BitVec 32 := Scalar.addi v180 c2_i32_164
  let c512_i32_165 : BitVec 32 := 512#32
  let v336 : BitVec 32 := Scalar.muli v335 c512_i32_165
  let v337 : BitVec 32 := Scalar.addi c128_i32_166 v336
  v337
def k0_mult18 (k0_t3 : Fin k0_t3_loop.trips) : BitVec 32 :=
  let c128_i32_188 : BitVec 32 := 128#32
  let c4_i32_85 : BitVec 32 := 4#32
  let c0_i32_71 : BitVec 32 := 0#32
  let c1_i32_73 : BitVec 32 := 1#32
  let arg15 : BitVec 32 := Scf.iv c0_i32_71 c1_i32_73 k0_t3
  let v180 : BitVec 32 := Scalar.muli c4_i32_85 arg15
  let c3_i32 : BitVec 32 := 3#32
  let v385 : BitVec 32 := Scalar.addi v180 c3_i32
  let c1_i32_186 : BitVec 32 := 1#32
  let v386 : BitVec 32 := Scalar.addi v385 c1_i32_186
  let c15_i32 : BitVec 32 := 15#32
  let v387 : BitVec 32 := Scalar.minsi v386 c15_i32
  let c512_i32_187 : BitVec 32 := 512#32
  let v388 : BitVec 32 := Scalar.muli v387 c512_i32_187
  let v389 : BitVec 32 := Scalar.addi c128_i32_188 v388
  v389
def k0_off7 (k0_t3 : Fin k0_t3_loop.trips) : Fin 3 → Nat :=
  let c0_189 : Index := 0#32
  let c128_i32_188 : BitVec 32 := 128#32
  let c4_i32_85 : BitVec 32 := 4#32
  let c0_i32_71 : BitVec 32 := 0#32
  let c1_i32_73 : BitVec 32 := 1#32
  let arg15 : BitVec 32 := Scf.iv c0_i32_71 c1_i32_73 k0_t3
  let v180 : BitVec 32 := Scalar.muli c4_i32_85 arg15
  let c3_i32 : BitVec 32 := 3#32
  let v385 : BitVec 32 := Scalar.addi v180 c3_i32
  let c1_i32_186 : BitVec 32 := 1#32
  let v386 : BitVec 32 := Scalar.addi v385 c1_i32_186
  let c15_i32 : BitVec 32 := 15#32
  let v387 : BitVec 32 := Scalar.minsi v386 c15_i32
  let c512_i32_187 : BitVec 32 := 512#32
  let v388 : BitVec 32 := Scalar.muli v387 c512_i32_187
  let v389 : BitVec 32 := Scalar.addi c128_i32_188 v388
  let v390 : BitVec 32 := v389
  let v391 : Index := Scalar.indexCast v390
  let c0_190 : Index := 0#32
  ![0, v391.toNat, 0]
def k0_mult19 (k0_t3 : Fin k0_t3_loop.trips) : BitVec 32 :=
  let c128_i32_199 : BitVec 32 := 128#32
  let c4_i32_85 : BitVec 32 := 4#32
  let c0_i32_71 : BitVec 32 := 0#32
  let c1_i32_73 : BitVec 32 := 1#32
  let arg15 : BitVec 32 := Scf.iv c0_i32_71 c1_i32_73 k0_t3
  let v180 : BitVec 32 := Scalar.muli c4_i32_85 arg15
  let c3_i32_197 : BitVec 32 := 3#32
  let v404 : BitVec 32 := Scalar.addi v180 c3_i32_197
  let c512_i32_198 : BitVec 32 := 512#32
  let v405 : BitVec 32 := Scalar.muli v404 c512_i32_198
  let v406 : BitVec 32 := Scalar.addi c128_i32_199 v405
  v406
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x8320x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8320x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x8320 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x8320x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S33280x8192 : Shape := ⟨2, ![33280, 8192]⟩
abbrev S2048x33280 : Shape := ⟨2, ![2048, 33280]⟩
abbrev S128 : Shape := ⟨1, ![128]⟩
abbrev S256 : Shape := ⟨1, ![256]⟩
abbrev S4x8320x8192 : Shape := ⟨3, ![4, 8320, 8192]⟩
abbrev S4x8320x1024 : Shape := ⟨3, ![4, 8320, 1024]⟩
abbrev S4x8320x4x2x128 : Shape := ⟨5, ![4, 8320, 4, 2, 128]⟩
abbrev S4x8208x1024 : Shape := ⟨3, ![4, 8208, 1024]⟩
abbrev S4x8208x4x2x128 : Shape := ⟨5, ![4, 8208, 4, 2, 128]⟩
abbrev S1024x33280 : Shape := ⟨2, ![1024, 33280]⟩
abbrev S33280x1024 : Shape := ⟨2, ![33280, 1024]⟩
abbrev S4x8320x4x256 : Shape := ⟨4, ![4, 8320, 4, 256]⟩
abbrev S4x8208x4x256 : Shape := ⟨4, ![4, 8208, 4, 256]⟩
abbrev S_ : Shape := ⟨0, ![]⟩
abbrev S4x4x2x8320x8208 : Shape := ⟨5, ![4, 4, 2, 8320, 8208]⟩
abbrev S4x4x2x8320 : Shape := ⟨4, ![4, 4, 2, 8320]⟩
abbrev S4x4x2x8320x1 : Shape := ⟨5, ![4, 4, 2, 8320, 1]⟩
abbrev S4x4x1x8320x8208 : Shape := ⟨5, ![4, 4, 1, 8320, 8208]⟩
abbrev S4x4x8320x8208 : Shape := ⟨4, ![4, 4, 8320, 8208]⟩
abbrev S4x4x256x8320 : Shape := ⟨4, ![4, 4, 256, 8320]⟩
abbrev S4x8320x4 : Shape := ⟨3, ![4, 8320, 4]⟩
abbrev S4x8320x4x1 : Shape := ⟨4, ![4, 8320, 4, 1]⟩
abbrev S1x1x1x256 : Shape := ⟨4, ![1, 1, 1, 256]⟩

abbrev nBuf : Space → Nat
  | .hbm => 78
  | .vmem => 0
  | .smem => 0
  | _ => 0

abbrev bufTy : (tb : Table) → Fin (tcTables nBuf tb) → BufTy
  | .hbm, ⟨0, _⟩ => ⟨S33280x8192, .bf16⟩
  | .hbm, ⟨1, _⟩ => ⟨S2048x33280, .bf16⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S256, .f32⟩
  | .hbm, ⟨7, _⟩ => ⟨S33280x8192, .f32⟩
  | .hbm, ⟨8, _⟩ => ⟨S4x8320x8192, .f32⟩
  | .hbm, ⟨9, _⟩ => ⟨S4x8320x1024, .f32⟩
  | .hbm, ⟨10, _⟩ => ⟨S4x8320x4x2x128, .f32⟩
  | .hbm, ⟨11, _⟩ => ⟨S4x8208x1024, .f32⟩
  | .hbm, ⟨12, _⟩ => ⟨S4x8208x4x2x128, .f32⟩
  | .hbm, ⟨13, _⟩ => ⟨S2048x33280, .f32⟩
  | .hbm, ⟨14, _⟩ => ⟨S1024x33280, .f32⟩
  | .hbm, ⟨15, _⟩ => ⟨S33280x1024, .f32⟩
  | .hbm, ⟨16, _⟩ => ⟨S4x8320x4x256, .f32⟩
  | .hbm, ⟨17, _⟩ => ⟨S4x8208x4x256, .f32⟩
  | .hbm, ⟨18, _⟩ => ⟨S128, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S128, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S4x4x2x8320x8208, .f32⟩
  | .hbm, ⟨30, _⟩ => ⟨S_, .f32⟩
  | .hbm, ⟨31, _⟩ => ⟨S_, .f32⟩
  | .hbm, ⟨32, _⟩ => ⟨S4x4x2x8320x8208, .f32⟩
  | .hbm, ⟨33, _⟩ => ⟨S4x4x2x8320x8208, .f32⟩
  | .hbm, ⟨34, _⟩ => ⟨S_, .f32⟩
  | .hbm, ⟨35, _⟩ => ⟨S4x4x2x8320, .f32⟩
  | .hbm, ⟨36, _⟩ => ⟨S_, .f32⟩
  | .hbm, ⟨37, _⟩ => ⟨S4x4x2x8320, .f32⟩
  | .hbm, ⟨38, _⟩ => ⟨S4x4x2x8320, .f32⟩
  | .hbm, ⟨39, _⟩ => ⟨S4x4x2x8320x1, .f32⟩
  | .hbm, ⟨40, _⟩ => ⟨S4x4x2x8320x8208, .f32⟩
  | .hbm, ⟨41, _⟩ => ⟨S4x4x2x8320x8208, .f32⟩
  | .hbm, ⟨42, _⟩ => ⟨S4x4x2x8320x8208, .f32⟩
  | .hbm, ⟨43, _⟩ => ⟨S_, .f32⟩
  | .hbm, ⟨44, _⟩ => ⟨S4x4x2x8320, .f32⟩
  | .hbm, ⟨45, _⟩ => ⟨S4x4x2x8320x1, .f32⟩
  | .hbm, ⟨46, _⟩ => ⟨S4x4x2x8320x8208, .f32⟩
  | .hbm, ⟨47, _⟩ => ⟨S4x4x2x8320x8208, .f32⟩
  | .hbm, ⟨48, _⟩ => ⟨S4x4x1x8320x8208, .f32⟩
  | .hbm, ⟨49, _⟩ => ⟨S4x4x8320x8208, .f32⟩
  | .hbm, ⟨50, _⟩ => ⟨S4x4x1x8320x8208, .f32⟩
  | .hbm, ⟨51, _⟩ => ⟨S4x4x8320x8208, .f32⟩
  | .hbm, ⟨52, _⟩ => ⟨S4x4x8320x8208, .f32⟩
  | .hbm, ⟨53, _⟩ => ⟨S4x4x8320x8208, .f32⟩
  | .hbm, ⟨54, _⟩ => ⟨S4x4x8320x8208, .f32⟩
  | .hbm, ⟨55, _⟩ => ⟨S4x4x256x8320, .f32⟩
  | .hbm, ⟨56, _⟩ => ⟨S4x8320x4x256, .f32⟩
  | .hbm, ⟨57, _⟩ => ⟨S4x8320x4x256, .f32⟩
  | .hbm, ⟨58, _⟩ => ⟨S_, .f32⟩
  | .hbm, ⟨59, _⟩ => ⟨S4x8320x4, .f32⟩
  | .hbm, ⟨60, _⟩ => ⟨S4x8320x4x1, .f32⟩
  | .hbm, ⟨61, _⟩ => ⟨S_, .f32⟩
  | .hbm, ⟨62, _⟩ => ⟨S4x8320x4x1, .f32⟩
  | .hbm, ⟨63, _⟩ => ⟨S4x8320x4x1, .f32⟩
  | .hbm, ⟨64, _⟩ => ⟨S_, .f32⟩
  | .hbm, ⟨65, _⟩ => ⟨S4x8320x4x1, .f32⟩
  | .hbm, ⟨66, _⟩ => ⟨S4x8320x4x1, .f32⟩
  | .hbm, ⟨67, _⟩ => ⟨S4x8320x4x1, .f32⟩
  | .hbm, ⟨68, _⟩ => ⟨S4x8320x4x256, .f32⟩
  | .hbm, ⟨69, _⟩ => ⟨S4x8320x4x256, .f32⟩
  | .hbm, ⟨70, _⟩ => ⟨S1x1x1x256, .f32⟩
  | .hbm, ⟨71, _⟩ => ⟨S4x8320x4x256, .f32⟩
  | .hbm, ⟨72, _⟩ => ⟨S4x8320x4x256, .f32⟩
  | .hbm, ⟨73, _⟩ => ⟨S_, .f32⟩
  | .hbm, ⟨74, _⟩ => ⟨S4x8320x4x256, .f32⟩
  | .hbm, ⟨75, _⟩ => ⟨S4x8320x4x256, .f32⟩
  | .hbm, ⟨76, _⟩ => ⟨S4x8320x1024, .f32⟩
  | .hbm, ⟨77, _⟩ => ⟨S4x8320x1024, .bf16⟩
  | _, _ => ⟨S33280x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_9 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩

abbrev nD : Nat := 1
abbrev τ : Topo := Topo.v7x

variable {F : FTy → Type} [FloatOps F]
-- ==== Down.lean ====
abbrev S33280x11264 : Shape := ⟨2, ![33280, 11264]⟩
abbrev S33280x2048 : Shape := ⟨2, ![33280, 2048]⟩
abbrev S3x5632 : Shape := ⟨2, ![3, 5632]⟩
abbrev S5632 : Shape := ⟨1, ![5632]⟩
abbrev S5632x2048 : Shape := ⟨2, ![5632, 2048]⟩
abbrev S2048 : Shape := ⟨1, ![2048]⟩
abbrev S1x5632 : Shape := ⟨2, ![1, 5632]⟩
abbrev S1x2048 : Shape := ⟨2, ![1, 2048]⟩
abbrev S512x512 : Shape := ⟨2, ![512, 512]⟩
abbrev S16x512 : Shape := ⟨2, ![16, 512]⟩
abbrev S3x512 : Shape := ⟨2, ![3, 512]⟩
abbrev S1x512 : Shape := ⟨2, ![1, 512]⟩
abbrev S512x2048 : Shape := ⟨2, ![512, 2048]⟩
abbrev S512x1 : Shape := ⟨2, ![512, 1]⟩
abbrev S512 : Shape := ⟨1, ![512]⟩

abbrev nBuf : Space → Nat
  | .hbm => 10
  | .vmem => 20
  | .smem => 0
  | _ => 0

abbrev bufTy : (tb : Table) → Fin (tcTables nBuf tb) → BufTy
  | .hbm, ⟨0, _⟩ => ⟨S33280x11264, .bf16⟩
  | .hbm, ⟨1, _⟩ => ⟨S33280x2048, .f32⟩
  | .hbm, ⟨2, _⟩ => ⟨S3x5632, .f32⟩
  | .hbm, ⟨3, _⟩ => ⟨S5632, .f32⟩
  | .hbm, ⟨4, _⟩ => ⟨S5632x2048, .f32⟩
  | .hbm, ⟨5, _⟩ => ⟨S2048, .f32⟩
  | .hbm, ⟨6, _⟩ => ⟨S1x5632, .f32⟩
  | .hbm, ⟨7, _⟩ => ⟨S5632x2048, .bf16⟩
  | .hbm, ⟨8, _⟩ => ⟨S1x2048, .f32⟩
  | .hbm, ⟨9, _⟩ => ⟨S33280x2048, .f32⟩
  | .local _ .vmem, ⟨0, _⟩ => ⟨S512x512, .bf16⟩
  | .local _ .vmem, ⟨1, _⟩ => ⟨S512x512, .bf16⟩
  | .local _ .vmem, ⟨2, _⟩ => ⟨S16x512, .bf16⟩
  | .local _ .vmem, ⟨3, _⟩ => ⟨S16x512, .bf16⟩
  | .local _ .vmem, ⟨4, _⟩ => ⟨S16x512, .bf16⟩
  | .local _ .vmem, ⟨5, _⟩ => ⟨S16x512, .bf16⟩
  | .local _ .vmem, ⟨6, _⟩ => ⟨S512x512, .bf16⟩
  | .local _ .vmem, ⟨7, _⟩ => ⟨S512x512, .bf16⟩
  | .local _ .vmem, ⟨8, _⟩ => ⟨S3x512, .f32⟩
  | .local _ .vmem, ⟨9, _⟩ => ⟨S3x512, .f32⟩
  | .local _ .vmem, ⟨10, _⟩ => ⟨S1x512, .f32⟩
  | .local _ .vmem, ⟨11, _⟩ => ⟨S1x512, .f32⟩
  | .local _ .vmem, ⟨12, _⟩ => ⟨S512x2048, .bf16⟩
  | .local _ .vmem, ⟨13, _⟩ => ⟨S512x2048, .bf16⟩
  | .local _ .vmem, ⟨14, _⟩ => ⟨S512x2048, .f32⟩
  | .local _ .vmem, ⟨15, _⟩ => ⟨S512x2048, .f32⟩
  | .local _ .vmem, ⟨16, _⟩ => ⟨S1x2048, .f32⟩
  | .local _ .vmem, ⟨17, _⟩ => ⟨S512x2048, .f32⟩
  | .local _ .vmem, ⟨18, _⟩ => ⟨S512x2048, .f32⟩
  | .local _ .vmem, ⟨19, _⟩ => ⟨S512x2048, .f32⟩
  | _, _ => ⟨S33280x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![65, 11], ![false, false]⟩

def k0_cond3 (i : grid0.Coords) : BitVec 1 :=
  let arg1 : BitVec 32 := BitVec.ofNat 32 (i 1).val
  let c10_i32 : BitVec 32 := 10#32
  let v71 : BitVec 1 := Scalar.cmpi .eq arg1 c10_i32
  let v72 : BitVec 32 := Scalar.extui v71
  let c0_i32_24 : BitVec 32 := 0#32
  let v73 : BitVec 1 := Scalar.cmpi .ne v72 c0_i32_24
  v73

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c2079_i32 : BitVec 32 := 2079#32
  let v2 : BitVec 32 := Scalar.minsi v1 c2079_i32
  let c0_i32 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== DownReferenceIdeal.lean ====
abbrev S33280x11264 : Shape := ⟨2, ![33280, 11264]⟩
abbrev S33280x2048 : Shape := ⟨2, ![33280, 2048]⟩
abbrev S3x5632 : Shape := ⟨2, ![3, 5632]⟩
abbrev S5632 : Shape := ⟨1, ![5632]⟩
abbrev S5632x2048 : Shape := ⟨2, ![5632, 2048]⟩
abbrev S2048 : Shape := ⟨1, ![2048]⟩
abbrev S4x8320x11264 : Shape := ⟨3, ![4, 8320, 11264]⟩
abbrev S4x8208x11264 : Shape := ⟨3, ![4, 8208, 11264]⟩
abbrev S4x8208x5632 : Shape := ⟨3, ![4, 8208, 5632]⟩
abbrev S_ : Shape := ⟨0, ![]⟩
abbrev S4x8210x5632 : Shape := ⟨3, ![4, 8210, 5632]⟩
abbrev S1x5632 : Shape := ⟨2, ![1, 5632]⟩
abbrev S1x1x5632 : Shape := ⟨3, ![1, 1, 5632]⟩
abbrev S4x8208x2048 : Shape := ⟨3, ![4, 8208, 2048]⟩
abbrev S4x8320x2048 : Shape := ⟨3, ![4, 8320, 2048]⟩
abbrev S4x8208 : Shape := ⟨2, ![4, 8208]⟩
abbrev S4x8208x1 : Shape := ⟨3, ![4, 8208, 1]⟩
abbrev S1x1x2048 : Shape := ⟨3, ![1, 1, 2048]⟩

abbrev nBuf : Space → Nat
  | .hbm => 79
  | .vmem => 0
  | .smem => 0
  | _ => 0

abbrev bufTy : (tb : Table) → Fin (tcTables nBuf tb) → BufTy
  | .hbm, ⟨0, _⟩ => ⟨S33280x11264, .bf16⟩
  | .hbm, ⟨1, _⟩ => ⟨S33280x2048, .f32⟩
  | .hbm, ⟨2, _⟩ => ⟨S3x5632, .f32⟩
  | .hbm, ⟨3, _⟩ => ⟨S5632, .f32⟩
  | .hbm, ⟨4, _⟩ => ⟨S5632x2048, .f32⟩
  | .hbm, ⟨5, _⟩ => ⟨S2048, .f32⟩
  | .hbm, ⟨6, _⟩ => ⟨S33280x11264, .f32⟩
  | .hbm, ⟨7, _⟩ => ⟨S4x8320x11264, .f32⟩
  | .hbm, ⟨8, _⟩ => ⟨S4x8208x11264, .f32⟩
  | .hbm, ⟨9, _⟩ => ⟨S4x8208x5632, .f32⟩
  | .hbm, ⟨10, _⟩ => ⟨S4x8208x5632, .f32⟩
  | .hbm, ⟨11, _⟩ => ⟨S_, .i32⟩
  | .hbm, ⟨12, _⟩ => ⟨S_, .f32⟩
  | .hbm, ⟨13, _⟩ => ⟨S4x8210x5632, .f32⟩
  | .hbm, ⟨14, _⟩ => ⟨S4x8208x5632, .f32⟩
  | .hbm, ⟨15, _⟩ => ⟨S1x5632, .f32⟩
  | .hbm, ⟨16, _⟩ => ⟨S5632, .f32⟩
  | .hbm, ⟨17, _⟩ => ⟨S1x1x5632, .f32⟩
  | .hbm, ⟨18, _⟩ => ⟨S4x8208x5632, .f32⟩
  | .hbm, ⟨19, _⟩ => ⟨S4x8208x5632, .f32⟩
  | .hbm, ⟨20, _⟩ => ⟨S1x1x5632, .f32⟩
  | .hbm, ⟨21, _⟩ => ⟨S4x8208x5632, .f32⟩
  | .hbm, ⟨22, _⟩ => ⟨S4x8208x5632, .f32⟩
  | .hbm, ⟨23, _⟩ => ⟨S4x8208x5632, .f32⟩
  | .hbm, ⟨24, _⟩ => ⟨S1x5632, .f32⟩
  | .hbm, ⟨25, _⟩ => ⟨S5632, .f32⟩
  | .hbm, ⟨26, _⟩ => ⟨S1x1x5632, .f32⟩
  | .hbm, ⟨27, _⟩ => ⟨S4x8208x5632, .f32⟩
  | .hbm, ⟨28, _⟩ => ⟨S4x8208x5632, .f32⟩
  | .hbm, ⟨29, _⟩ => ⟨S4x8208x5632, .f32⟩
  | .hbm, ⟨30, _⟩ => ⟨S4x8208x5632, .f32⟩
  | .hbm, ⟨31, _⟩ => ⟨S1x5632, .f32⟩
  | .hbm, ⟨32, _⟩ => ⟨S5632, .f32⟩
  | .hbm, ⟨33, _⟩ => ⟨S1x1x5632, .f32⟩
  | .hbm, ⟨34, _⟩ => ⟨S4x8208x5632, .f32⟩
  | .hbm, ⟨35, _⟩ => ⟨S4x8208x5632, .f32⟩
  | .hbm, ⟨36, _⟩ => ⟨S4x8208x5632, .f32⟩
  | .hbm, ⟨37, _⟩ => ⟨S4x8208x5632, .f32⟩
  | .hbm, ⟨38, _⟩ => ⟨S4x8208x5632, .f32⟩
  | .hbm, ⟨39, _⟩ => ⟨S_, .f32⟩
  | .hbm, ⟨40, _⟩ => ⟨S4x8208x5632, .f32⟩
  | .hbm, ⟨41, _⟩ => ⟨S4x8208x5632, .f32⟩
  | .hbm, ⟨42, _⟩ => ⟨S4x8208x5632, .f32⟩
  | .hbm, ⟨43, _⟩ => ⟨S_, .f32⟩
  | .hbm, ⟨44, _⟩ => ⟨S4x8208x5632, .f32⟩
  | .hbm, ⟨45, _⟩ => ⟨S4x8208x5632, .f32⟩
  | .hbm, ⟨46, _⟩ => ⟨S4x8208x5632, .f32⟩
  | .hbm, ⟨47, _⟩ => ⟨S_, .f32⟩
  | .hbm, ⟨48, _⟩ => ⟨S4x8208x5632, .f32⟩
  | .hbm, ⟨49, _⟩ => ⟨S4x8208x5632, .f32⟩
  | .hbm, ⟨50, _⟩ => ⟨S_, .f32⟩
  | .hbm, ⟨51, _⟩ => ⟨S4x8208x5632, .f32⟩
  | .hbm, ⟨52, _⟩ => ⟨S4x8208x5632, .f32⟩
  | .hbm, ⟨53, _⟩ => ⟨S4x8208x5632, .f32⟩
  | .hbm, ⟨54, _⟩ => ⟨S4x8208x5632, .f32⟩
  | .hbm, ⟨55, _⟩ => ⟨S4x8208x2048, .f32⟩
  | .hbm, ⟨56, _⟩ => ⟨S4x8320x2048, .f32⟩
  | .hbm, ⟨57, _⟩ => ⟨S4x8208x2048, .f32⟩
  | .hbm, ⟨58, _⟩ => ⟨S4x8208x2048, .f32⟩
  | .hbm, ⟨59, _⟩ => ⟨S_, .f32⟩
  | .hbm, ⟨60, _⟩ => ⟨S4x8208, .f32⟩
  | .hbm, ⟨61, _⟩ => ⟨S4x8208x1, .f32⟩
  | .hbm, ⟨62, _⟩ => ⟨S_, .f32⟩
  | .hbm, ⟨63, _⟩ => ⟨S4x8208x1, .f32⟩
  | .hbm, ⟨64, _⟩ => ⟨S4x8208x1, .f32⟩
  | .hbm, ⟨65, _⟩ => ⟨S_, .f32⟩
  | .hbm, ⟨66, _⟩ => ⟨S4x8208x1, .f32⟩
  | .hbm, ⟨67, _⟩ => ⟨S4x8208x1, .f32⟩
  | .hbm, ⟨68, _⟩ => ⟨S4x8208x1, .f32⟩
  | .hbm, ⟨69, _⟩ => ⟨S4x8208x2048, .f32⟩
  | .hbm, ⟨70, _⟩ => ⟨S4x8208x2048, .f32⟩
  | .hbm, ⟨71, _⟩ => ⟨S1x1x2048, .f32⟩
  | .hbm, ⟨72, _⟩ => ⟨S4x8208x2048, .f32⟩
  | .hbm, ⟨73, _⟩ => ⟨S4x8208x2048, .f32⟩
  | .hbm, ⟨74, _⟩ => ⟨S4x8208x2048, .f32⟩
  | .hbm, ⟨75, _⟩ => ⟨S_, .i32⟩
  | .hbm, ⟨76, _⟩ => ⟨S_, .f32⟩
  | .hbm, ⟨77, _⟩ => ⟨S4x8320x2048, .f32⟩
  | .hbm, ⟨78, _⟩ => ⟨S33280x2048, .f32⟩
  | _, _ => ⟨S33280x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_0 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_1 : Ref sig .tc := ⟨.hbm, 47, rfl⟩
abbrev main_v37 : Ref sig .tc := ⟨.hbm, 48, rfl⟩
abbrev main_v38 : Ref sig .tc := ⟨.hbm, 49, rfl⟩
abbrev main_cst_2 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_3 : Ref sig .tc := ⟨.hbm, 59, rfl⟩
abbrev main_v47 : Ref sig .tc := ⟨.hbm, 60, rfl⟩
abbrev main_v48 : Ref sig .tc := ⟨.hbm, 61, rfl⟩
abbrev main_cst_4 : Ref sig .tc := ⟨.hbm, 62, rfl⟩
abbrev main_v49 : Ref sig .tc := ⟨.hbm, 63, rfl⟩
abbrev main_v50 : Ref sig .tc := ⟨.hbm, 64, rfl⟩
abbrev main_cst_5 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_c_6 : Ref sig .tc := ⟨.hbm, 75, rfl⟩
abbrev main_call1_v0 : Ref sig .tc := ⟨.hbm, 76, rfl⟩
abbrev main_v60 : Ref sig .tc := ⟨.hbm, 77, rfl⟩
abbrev main_v61 : Ref sig .tc := ⟨.hbm, 78, rfl⟩

abbrev nD : Nat := 1
abbrev τ : Topo := Topo.v7x

variable {F : FTy → Type} [FloatOps F]
-- ==== Up.lean ====
abbrev S33280x2048 : Shape := ⟨2, ![33280, 2048]⟩
abbrev S2048 : Shape := ⟨1, ![2048]⟩
abbrev S2048x11264 : Shape := ⟨2, ![2048, 11264]⟩
abbrev S1x2048 : Shape := ⟨2, ![1, 2048]⟩
abbrev S33280x11264 : Shape := ⟨2, ![33280, 11264]⟩
abbrev S1040x2048 : Shape := ⟨2, ![1040, 2048]⟩
abbrev S2048x1024 : Shape := ⟨2, ![2048, 1024]⟩
abbrev S1040x1024 : Shape := ⟨2, ![1040, 1024]⟩
abbrev S1040 : Shape := ⟨1, ![1040]⟩
abbrev S1040x1 : Shape := ⟨2, ![1040, 1]⟩

abbrev nBuf : Space → Nat
  | .hbm => 6
  | .vmem => 8
  | .smem => 0
  | _ => 0

abbrev bufTy : (tb : Table) → Fin (tcTables nBuf tb) → BufTy
  | .hbm, ⟨0, _⟩ => ⟨S33280x2048, .f32⟩
  | .hbm, ⟨1, _⟩ => ⟨S2048, .f32⟩
  | .hbm, ⟨2, _⟩ => ⟨S2048x11264, .f32⟩
  | .hbm, ⟨3, _⟩ => ⟨S1x2048, .f32⟩
  | .hbm, ⟨4, _⟩ => ⟨S2048x11264, .bf16⟩
  | .hbm, ⟨5, _⟩ => ⟨S33280x11264, .bf16⟩
  | .local _ .vmem, ⟨0, _⟩ => ⟨S1040x2048, .f32⟩
  | .local _ .vmem, ⟨1, _⟩ => ⟨S1040x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1040x1024, .bf16⟩
  | .local _ .vmem, ⟨6, _⟩ => ⟨S1040x1024, .bf16⟩
  | .local _ .vmem, ⟨7, _⟩ => ⟨S1040x2048, .bf16⟩
  | _, _ => ⟨S33280x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1040x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpReferenceIdeal.lean ====
abbrev S33280x2048 : Shape := ⟨2, ![33280, 2048]⟩
abbrev S2048 : Shape := ⟨1, ![2048]⟩
abbrev S2048x11264 : Shape := ⟨2, ![2048, 11264]⟩
abbrev S_ : Shape := ⟨0, ![]⟩
abbrev S33280 : Shape := ⟨1, ![33280]⟩
abbrev S33280x1 : Shape := ⟨2, ![33280, 1]⟩
abbrev S1x2048 : Shape := ⟨2, ![1, 2048]⟩
abbrev S33280x11264 : Shape := ⟨2, ![33280, 11264]⟩

abbrev nBuf : Space → Nat
  | .hbm => 21
  | .vmem => 0
  | .smem => 0
  | _ => 0

abbrev bufTy : (tb : Table) → Fin (tcTables nBuf tb) → BufTy
  | .hbm, ⟨0, _⟩ => ⟨S33280x2048, .f32⟩
  | .hbm, ⟨1, _⟩ => ⟨S2048, .f32⟩
  | .hbm, ⟨2, _⟩ => ⟨S2048x11264, .f32⟩
  | .hbm, ⟨3, _⟩ => ⟨S33280x2048, .f32⟩
  | .hbm, ⟨4, _⟩ => ⟨S_, .f32⟩
  | .hbm, ⟨5, _⟩ => ⟨S33280, .f32⟩
  | .hbm, ⟨6, _⟩ => ⟨S33280x1, .f32⟩
  | .hbm, ⟨7, _⟩ => ⟨S_, .f32⟩
  | .hbm, ⟨8, _⟩ => ⟨S33280x1, .f32⟩
  | .hbm, ⟨9, _⟩ => ⟨S33280x1, .f32⟩
  | .hbm, ⟨10, _⟩ => ⟨S_, .f32⟩
  | .hbm, ⟨11, _⟩ => ⟨S33280x1, .f32⟩
  | .hbm, ⟨12, _⟩ => ⟨S33280x1, .f32⟩
  | .hbm, ⟨13, _⟩ => ⟨S33280x1, .f32⟩
  | .hbm, ⟨14, _⟩ => ⟨S33280x2048, .f32⟩
  | .hbm, ⟨15, _⟩ => ⟨S33280x2048, .f32⟩
  | .hbm, ⟨16, _⟩ => ⟨S1x2048, .f32⟩
  | .hbm, ⟨17, _⟩ => ⟨S33280x2048, .f32⟩
  | .hbm, ⟨18, _⟩ => ⟨S33280x2048, .f32⟩
  | .hbm, ⟨19, _⟩ => ⟨S33280x11264, .f32⟩
  | .hbm, ⟨20, _⟩ => ⟨S33280x11264, .bf16⟩
  | _, _ => ⟨S33280x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Mix.lean ====
abbrev S33280x1024 : Shape := ⟨2, ![33280, 1024]⟩
abbrev S33280x8192 : Shape := ⟨2, ![33280, 8192]⟩
abbrev S33280x2048 : Shape := ⟨2, ![33280, 2048]⟩
abbrev S1024x2048 : Shape := ⟨2, ![1024, 2048]⟩
abbrev S2048x2048 : Shape := ⟨2, ![2048, 2048]⟩
abbrev S2048 : Shape := ⟨1, ![2048]⟩
abbrev S1x2048 : Shape := ⟨2, ![1, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 13
  | .vmem => 16
  | .smem => 0
  | _ => 0

abbrev bufTy : (tb : Table) → Fin (tcTables nBuf tb) → BufTy
  | .hbm, ⟨0, _⟩ => ⟨S33280x1024, .bf16⟩
  | .hbm, ⟨1, _⟩ => ⟨S33280x1024, .bf16⟩
  | .hbm, ⟨2, _⟩ => ⟨S33280x8192, .bf16⟩
  | .hbm, ⟨3, _⟩ => ⟨S33280x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048, .f32⟩
  | .hbm, ⟨8, _⟩ => ⟨S1024x2048, .bf16⟩
  | .hbm, ⟨9, _⟩ => ⟨S1024x2048, .bf16⟩
  | .hbm, ⟨10, _⟩ => ⟨S2048x2048, .bf16⟩
  | .hbm, ⟨11, _⟩ => ⟨S1x2048, .f32⟩
  | .hbm, ⟨12, _⟩ => ⟨S33280x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .f32⟩
  | .local _ .vmem, ⟨9, _⟩ => ⟨S256x2048, .f32⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S1x2048, .f32⟩
  | .local _ .vmem, ⟨14, _⟩ => ⟨S256x2048, .f32⟩
  | .local _ .vmem, ⟨15, _⟩ => ⟨S256x2048, .f32⟩
  | _, _ => ⟨S33280x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![130], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixReferenceIdeal.lean ====
abbrev S33280x1024 : Shape := ⟨2, ![33280, 1024]⟩
abbrev S33280x8192 : Shape := ⟨2, ![33280, 8192]⟩
abbrev S33280x2048 : Shape := ⟨2, ![33280, 2048]⟩
abbrev S1024x2048 : Shape := ⟨2, ![1024, 2048]⟩
abbrev S2048x2048 : Shape := ⟨2, ![2048, 2048]⟩
abbrev S2048 : Shape := ⟨1, ![2048]⟩
abbrev S_ : Shape := ⟨0, ![]⟩
abbrev S33280 : Shape := ⟨1, ![33280]⟩
abbrev S33280x1 : Shape := ⟨2, ![33280, 1]⟩
abbrev S1x2048 : Shape := ⟨2, ![1, 2048]⟩
abbrev S4x8320x2048 : Shape := ⟨3, ![4, 8320, 2048]⟩
abbrev S4x8208x2048 : Shape := ⟨3, ![4, 8208, 2048]⟩

abbrev nBuf : Space → Nat
  | .hbm => 42
  | .vmem => 0
  | .smem => 0
  | _ => 0

abbrev bufTy : (tb : Table) → Fin (tcTables nBuf tb) → BufTy
  | .hbm, ⟨0, _⟩ => ⟨S33280x1024, .bf16⟩
  | .hbm, ⟨1, _⟩ => ⟨S33280x1024, .bf16⟩
  | .hbm, ⟨2, _⟩ => ⟨S33280x8192, .bf16⟩
  | .hbm, ⟨3, _⟩ => ⟨S33280x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048, .f32⟩
  | .hbm, ⟨8, _⟩ => ⟨S33280x8192, .f32⟩
  | .hbm, ⟨9, _⟩ => ⟨S33280x2048, .f32⟩
  | .hbm, ⟨10, _⟩ => ⟨S33280x2048, .f32⟩
  | .hbm, ⟨11, _⟩ => ⟨S33280x1024, .f32⟩
  | .hbm, ⟨12, _⟩ => ⟨S33280x2048, .f32⟩
  | .hbm, ⟨13, _⟩ => ⟨S33280x2048, .f32⟩
  | .hbm, ⟨14, _⟩ => ⟨S33280x1024, .f32⟩
  | .hbm, ⟨15, _⟩ => ⟨S33280x2048, .f32⟩
  | .hbm, ⟨16, _⟩ => ⟨S33280x2048, .f32⟩
  | .hbm, ⟨17, _⟩ => ⟨S33280x2048, .f32⟩
  | .hbm, ⟨18, _⟩ => ⟨S33280x2048, .f32⟩
  | .hbm, ⟨19, _⟩ => ⟨S33280x2048, .f32⟩
  | .hbm, ⟨20, _⟩ => ⟨S_, .f32⟩
  | .hbm, ⟨21, _⟩ => ⟨S33280, .f32⟩
  | .hbm, ⟨22, _⟩ => ⟨S33280x1, .f32⟩
  | .hbm, ⟨23, _⟩ => ⟨S_, .f32⟩
  | .hbm, ⟨24, _⟩ => ⟨S33280x1, .f32⟩
  | .hbm, ⟨25, _⟩ => ⟨S33280x1, .f32⟩
  | .hbm, ⟨26, _⟩ => ⟨S_, .f32⟩
  | .hbm, ⟨27, _⟩ => ⟨S33280x1, .f32⟩
  | .hbm, ⟨28, _⟩ => ⟨S33280x1, .f32⟩
  | .hbm, ⟨29, _⟩ => ⟨S33280x1, .f32⟩
  | .hbm, ⟨30, _⟩ => ⟨S33280x2048, .f32⟩
  | .hbm, ⟨31, _⟩ => ⟨S33280x2048, .f32⟩
  | .hbm, ⟨32, _⟩ => ⟨S1x2048, .f32⟩
  | .hbm, ⟨33, _⟩ => ⟨S33280x2048, .f32⟩
  | .hbm, ⟨34, _⟩ => ⟨S33280x2048, .f32⟩
  | .hbm, ⟨35, _⟩ => ⟨S33280x2048, .f32⟩
  | .hbm, ⟨36, _⟩ => ⟨S4x8320x2048, .f32⟩
  | .hbm, ⟨37, _⟩ => ⟨S4x8208x2048, .f32⟩
  | .hbm, ⟨38, _⟩ => ⟨S_, .i32⟩
  | .hbm, ⟨39, _⟩ => ⟨S_, .f32⟩
  | .hbm, ⟨40, _⟩ => ⟨S4x8320x2048, .f32⟩
  | .hbm, ⟨41, _⟩ => ⟨S33280x2048, .f32⟩
  | _, _ => ⟨S33280x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c : Ref sig .tc := ⟨.hbm, 38, rfl⟩
abbrev main_call0_v0 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Proj.lean ====
abbrev S33280x2048 : Shape := ⟨2, ![33280, 2048]⟩
abbrev S2048 : Shape := ⟨1, ![2048]⟩
abbrev S2048x10240 : Shape := ⟨2, ![2048, 10240]⟩
abbrev S8320 : Shape := ⟨1, ![8320]⟩
abbrev S_ : Shape := ⟨0, ![]⟩
abbrev S64 : Shape := ⟨1, ![64]⟩
abbrev S8320x1 : Shape := ⟨2, ![8320, 1]⟩
abbrev S1x64 : Shape := ⟨2, ![1, 64]⟩
abbrev S8320x64 : Shape := ⟨2, ![8320, 64]⟩
abbrev S8320x128 : Shape := ⟨2, ![8320, 128]⟩
abbrev S1x8320x1x128 : Shape := ⟨4, ![1, 8320, 1, 128]⟩
abbrev S4x8320x1x128 : Shape := ⟨4, ![4, 8320, 1, 128]⟩
abbrev S33280x128 : Shape := ⟨2, ![33280, 128]⟩
abbrev S2048x1024 : Shape := ⟨2, ![2048, 1024]⟩
abbrev S2048x2048 : Shape := ⟨2, ![2048, 2048]⟩
abbrev S2048x8192 : Shape := ⟨2, ![2048, 8192]⟩
abbrev S1x2048 : Shape := ⟨2, ![1, 2048]⟩
abbrev S33280x8192 : Shape := ⟨2, ![33280, 8192]⟩
abbrev S2048x33280 : Shape := ⟨2, ![2048, 33280]⟩
abbrev S640x2048 : Shape := ⟨2, ![640, 2048]⟩
abbrev S640x128 : Shape := ⟨2, ![640, 128]⟩
abbrev S1024x2048 : Shape := ⟨2, ![1024, 2048]⟩
abbrev S640x1024 : Shape := ⟨2, ![640, 1024]⟩
abbrev S1024x640 : Shape := ⟨2, ![1024, 640]⟩
abbrev S640 : Shape := ⟨1, ![640]⟩
abbrev S640x1 : Shape := ⟨2, ![640, 1]⟩

abbrev nBuf : Space → Nat
  | .hbm => 59
  | .vmem => 16
  | .smem => 0
  | _ => 0

abbrev bufTy : (tb : Table) → Fin (tcTables nBuf tb) → BufTy
  | .hbm, ⟨0, _⟩ => ⟨S33280x2048, .f32⟩
  | .hbm, ⟨1, _⟩ => ⟨S2048, .f32⟩
  | .hbm, ⟨2, _⟩ => ⟨S2048x10240, .f32⟩
  | .hbm, ⟨3, _⟩ => ⟨S8320, .i32⟩
  | .hbm, ⟨4, _⟩ => ⟨S_, .i32⟩
  | .hbm, ⟨5, _⟩ => ⟨S8320, .i32⟩
  | .hbm, ⟨6, _⟩ => ⟨S8320, .i32⟩
  | .hbm, ⟨7, _⟩ => ⟨S_, .i32⟩
  | .hbm, ⟨8, _⟩ => ⟨S8320, .i32⟩
  | .hbm, ⟨9, _⟩ => ⟨S8320, .i32⟩
  | .hbm, ⟨10, _⟩ => ⟨S8320, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S8320x1, .f32⟩
  | .hbm, ⟨28, _⟩ => ⟨S1x64, .f32⟩
  | .hbm, ⟨29, _⟩ => ⟨S8320x64, .f32⟩
  | .hbm, ⟨30, _⟩ => ⟨S8320x64, .f32⟩
  | .hbm, ⟨31, _⟩ => ⟨S8320x64, .f32⟩
  | .hbm, ⟨32, _⟩ => ⟨S8320x64, .f32⟩
  | .hbm, ⟨33, _⟩ => ⟨S8320x64, .f32⟩
  | .hbm, ⟨34, _⟩ => ⟨S8320x128, .f32⟩
  | .hbm, ⟨35, _⟩ => ⟨S8320x64, .f32⟩
  | .hbm, ⟨36, _⟩ => ⟨S8320x128, .f32⟩
  | .hbm, ⟨37, _⟩ => ⟨S1x8320x1x128, .f32⟩
  | .hbm, ⟨38, _⟩ => ⟨S4x8320x1x128, .f32⟩
  | .hbm, ⟨39, _⟩ => ⟨S33280x128, .f32⟩
  | .hbm, ⟨40, _⟩ => ⟨S1x8320x1x128, .f32⟩
  | .hbm, ⟨41, _⟩ => ⟨S4x8320x1x128, .f32⟩
  | .hbm, ⟨42, _⟩ => ⟨S33280x128, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x2048, .f32⟩
  | .hbm, ⟨50, _⟩ => ⟨S2048x2048, .f32⟩
  | .hbm, ⟨51, _⟩ => ⟨S2048x8192, .f32⟩
  | .hbm, ⟨52, _⟩ => ⟨S2048x8192, .bf16⟩
  | .hbm, ⟨53, _⟩ => ⟨S2048x2048, .f32⟩
  | .hbm, ⟨54, _⟩ => ⟨S2048x2048, .f32⟩
  | .hbm, ⟨55, _⟩ => ⟨S2048x2048, .bf16⟩
  | .hbm, ⟨56, _⟩ => ⟨S1x2048, .f32⟩
  | .hbm, ⟨57, _⟩ => ⟨S33280x8192, .bf16⟩
  | .hbm, ⟨58, _⟩ => ⟨S2048x33280, .bf16⟩
  | .local _ .vmem, ⟨0, _⟩ => ⟨S640x2048, .f32⟩
  | .local _ .vmem, ⟨1, _⟩ => ⟨S640x2048, .f32⟩
  | .local _ .vmem, ⟨2, _⟩ => ⟨S1x2048, .f32⟩
  | .local _ .vmem, ⟨3, _⟩ => ⟨S640x128, .f32⟩
  | .local _ .vmem, ⟨4, _⟩ => ⟨S640x128, .f32⟩
  | .local _ .vmem, ⟨5, _⟩ => ⟨S640x128, .f32⟩
  | .local _ .vmem, ⟨6, _⟩ => ⟨S640x128, .f32⟩
  | .local _ .vmem, ⟨7, _⟩ => ⟨S2048x1024, .bf16⟩
  | .local _ .vmem, ⟨8, _⟩ => ⟨S2048x1024, .bf16⟩
  | .local _ .vmem, ⟨9, _⟩ => ⟨S1024x2048, .bf16⟩
  | .local _ .vmem, ⟨10, _⟩ => ⟨S1024x2048, .bf16⟩
  | .local _ .vmem, ⟨11, _⟩ => ⟨S640x1024, .bf16⟩
  | .local _ .vmem, ⟨12, _⟩ => ⟨S640x1024, .bf16⟩
  | .local _ .vmem, ⟨13, _⟩ => ⟨S1024x640, .bf16⟩
  | .local _ .vmem, ⟨14, _⟩ => ⟨S1024x640, .bf16⟩
  | .local _ .vmem, ⟨15, _⟩ => ⟨S640x2048, .bf16⟩
  | _, _ => ⟨S33280x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47_0 : Ref sig .tc := ⟨.hbm, 57, rfl⟩
abbrev main_v47_1 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![52, 10], ![false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c1_i32 : BitVec 32 := 1#32
  let v6 : BitVec 1 := Scalar.cmpi .eq arg1 c1_i32
  let v7 : BitVec 32 := Scalar.extui v6
  let c0_i32_3 : BitVec 32 := 0#32
  let v8 : BitVec 1 := Scalar.cmpi .ne v7 c0_i32_3
  v8

def k0_cond4 (i : grid0.Coords) : BitVec 1 :=
  let arg1 : BitVec 32 := BitVec.ofNat 32 (i 1).val
  let c2_i32 : BitVec 32 := 2#32
  let v9 : BitVec 1 := Scalar.cmpi .eq arg1 c2_i32
  let v10 : BitVec 32 := Scalar.extui v9
  let c0_i32_4 : BitVec 32 := 0#32
  let v11 : BitVec 1 := Scalar.cmpi .ne v10 c0_i32_4
  v11

def k0_cond5 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_5 : BitVec 32 := 0#32
  let v14 : BitVec 1 := Scalar.cmpi .ne v13 c0_i32_5
  v14

def k0_cond6 (i : grid0.Coords) : BitVec 1 :=
  let arg1 : BitVec 32 := BitVec.ofNat 32 (i 1).val
  let c4_i32 : BitVec 32 := 4#32
  let v15 : BitVec 1 := Scalar.cmpi .sge arg1 c4_i32
  let c8_i32 : BitVec 32 := 8#32
  let v16 : BitVec 1 := Scalar.cmpi .slt arg1 c8_i32
  let v17 : BitVec 1 := Scalar.andi v15 v16
  let v18 : BitVec 32 := Scalar.extui v17
  let c0_i32_6 : BitVec 32 := 0#32
  let v19 : BitVec 1 := Scalar.cmpi .ne v18 c0_i32_6
  v19

def k0_cond7 (i : grid0.Coords) : BitVec 1 :=
  let arg1 : BitVec 32 := BitVec.ofNat 32 (i 1).val
  let c8_i32_7 : BitVec 32 := 8#32
  let v20 : BitVec 1 := Scalar.cmpi .sge arg1 c8_i32_7
  let v21 : BitVec 32 := Scalar.extui v20
  let c0_i32_8 : BitVec 32 := 0#32
  let v22 : BitVec 1 := Scalar.cmpi .ne v21 c0_i32_8
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c0_i32_0 : BitVec 32 := 0#32
  ![v1.toNat, arg0.toNat]

abbrev stage0_0 : Fin 2 → Memref sig .tc .vmem S640x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S640x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S640x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S640x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x640 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ProjReferenceIdeal.lean ====
abbrev S33280x2048 : Shape := ⟨2, ![33280, 2048]⟩
abbrev S2048 : Shape := ⟨1, ![2048]⟩
abbrev S2048x10240 : Shape := ⟨2, ![2048, 10240]⟩
abbrev S_ : Shape := ⟨0, ![]⟩
abbrev S33280 : Shape := ⟨1, ![33280]⟩
abbrev S33280x1 : Shape := ⟨2, ![33280, 1]⟩
abbrev S1x2048 : Shape := ⟨2, ![1, 2048]⟩
abbrev S33280x10240 : Shape := ⟨2, ![33280, 10240]⟩
abbrev S33280x1024 : Shape := ⟨2, ![33280, 1024]⟩
abbrev S4x8320x8x128 : Shape := ⟨4, ![4, 8320, 8, 128]⟩
abbrev S8320 : Shape := ⟨1, ![8320]⟩
abbrev S64 : Shape := ⟨1, ![64]⟩
abbrev S8320x1 : Shape := ⟨2, ![8320, 1]⟩
abbrev S1x64 : Shape := ⟨2, ![1, 64]⟩
abbrev S8320x64 : Shape := ⟨2, ![8320, 64]⟩
abbrev S8320x1x64 : Shape := ⟨3, ![8320, 1, 64]⟩
abbrev S4x8320x8x64 : Shape := ⟨4, ![4, 8320, 8, 64]⟩
abbrev S1x8320x1x64 : Shape := ⟨4, ![1, 8320, 1, 64]⟩
abbrev S33280x8192 : Shape := ⟨2, ![33280, 8192]⟩
abbrev S2048x33280 : Shape := ⟨2, ![2048, 33280]⟩

abbrev nBuf : Space → Nat
  | .hbm => 159
  | .vmem => 0
  | .smem => 0
  | _ => 0

abbrev hbmTy0_0 (i : Nat) : BufTy := match i % 128 with
  | 0 => ⟨S33280x2048, .f32⟩
  | 1 => ⟨S2048, .f32⟩
  | 2 => ⟨S2048x10240, .f32⟩
  | 3 => ⟨S33280x2048, .f32⟩
  | 4 => ⟨S_, .f32⟩
  | 5 => ⟨S33280, .f32⟩
  | 6 => ⟨S33280x1, .f32⟩
  | 7 => ⟨S_, .f32⟩
  | 8 => ⟨S33280x1, .f32⟩
  | 9 => ⟨S33280x1, .f32⟩
  | 10 => ⟨S_, .f32⟩
  | 11 => ⟨S33280x1, .f32⟩
  | 12 => ⟨S33280x1, .f32⟩
  | 13 => ⟨S33280x1, .f32⟩
  | 14 => ⟨S33280x2048, .f32⟩
  | 15 => ⟨S33280x2048, .f32⟩
  | 16 => ⟨S1x2048, .f32⟩
  | 17 => ⟨S33280x2048, .f32⟩
  | 18 => ⟨S33280x2048, .f32⟩
  | 19 => ⟨S33280x10240, .f32⟩
  | 20 => ⟨S33280x1024, .f32⟩
  | 21 => ⟨S33280x1024, .f32⟩
  | 22 => ⟨S33280x1024, .f32⟩
  | 23 => ⟨S33280x1024, .f32⟩
  | 24 => ⟨S33280x1024, .f32⟩
  | 25 => ⟨S33280x1024, .f32⟩
  | 26 => ⟨S33280x2048, .f32⟩
  | 27 => ⟨S33280x2048, .f32⟩
  | 28 => ⟨S4x8320x8x128, .f32⟩
  | 29 => ⟨S8320, .i32⟩
  | 30 => ⟨S_, .i32⟩
  | 31 => ⟨S8320, .i32⟩
  | 32 => ⟨S8320, .i32⟩
  | 33 => ⟨S_, .i32⟩
  | 34 => ⟨S8320, .i32⟩
  | 35 => ⟨S8320, .i32⟩
  | 36 => ⟨S8320, .f32⟩
  | 37 => ⟨S64, .f32⟩
  | 38 => ⟨S_, .f32⟩
  | 39 => ⟨S64, .f32⟩
  | 40 => ⟨S64, .f32⟩
  | 41 => ⟨S_, .f32⟩
  | 42 => ⟨S64, .f32⟩
  | 43 => ⟨S64, .f32⟩
  | 44 => ⟨S_, .f32⟩
  | 45 => ⟨S64, .f32⟩
  | 46 => ⟨S64, .f32⟩
  | 47 => ⟨S_, .f32⟩
  | 48 => ⟨S64, .f32⟩
  | 49 => ⟨S64, .f32⟩
  | 50 => ⟨S_, .f32⟩
  | 51 => ⟨S64, .f32⟩
  | 52 => ⟨S64, .f32⟩
  | 53 => ⟨S8320x1, .f32⟩
  | 54 => ⟨S1x64, .f32⟩
  | 55 => ⟨S8320x64, .f32⟩
  | 56 => ⟨S8320x64, .f32⟩
  | 57 => ⟨S8320x64, .f32⟩
  | 58 => ⟨S8320x64, .f32⟩
  | 59 => ⟨S8320x1x64, .f32⟩
  | 60 => ⟨S8320x64, .f32⟩
  | 61 => ⟨S8320x1x64, .f32⟩
  | 62 => ⟨S4x8320x8x64, .f32⟩
  | 63 => ⟨S4x8320x8x64, .f32⟩
  | 64 => ⟨S1x8320x1x64, .f32⟩
  | 65 => ⟨S4x8320x8x64, .f32⟩
  | 66 => ⟨S4x8320x8x64, .f32⟩
  | 67 => ⟨S1x8320x1x64, .f32⟩
  | 68 => ⟨S4x8320x8x64, .f32⟩
  | 69 => ⟨S4x8320x8x64, .f32⟩
  | 70 => ⟨S4x8320x8x64, .f32⟩
  | 71 => ⟨S1x8320x1x64, .f32⟩
  | 72 => ⟨S4x8320x8x64, .f32⟩
  | 73 => ⟨S4x8320x8x64, .f32⟩
  | 74 => ⟨S1x8320x1x64, .f32⟩
  | 75 => ⟨S4x8320x8x64, .f32⟩
  | 76 => ⟨S4x8320x8x64, .f32⟩
  | 77 => ⟨S4x8320x8x64, .f32⟩
  | 78 => ⟨S4x8320x8x128, .f32⟩
  | 79 => ⟨S33280x1024, .f32⟩
  | 80 => ⟨S_, .f32⟩
  | 81 => ⟨S33280x1024, .f32⟩
  | 82 => ⟨S33280x1024, .f32⟩
  | 83 => ⟨S4x8320x8x128, .f32⟩
  | 84 => ⟨S8320, .i32⟩
  | 85 => ⟨S_, .i32⟩
  | 86 => ⟨S8320, .i32⟩
  | 87 => ⟨S8320, .i32⟩
  | 88 => ⟨S_, .i32⟩
  | 89 => ⟨S8320, .i32⟩
  | 90 => ⟨S8320, .i32⟩
  | 91 => ⟨S8320, .f32⟩
  | 92 => ⟨S64, .f32⟩
  | 93 => ⟨S_, .f32⟩
  | 94 => ⟨S64, .f32⟩
  | 95 => ⟨S64, .f32⟩
  | 96 => ⟨S_, .f32⟩
  | 97 => ⟨S64, .f32⟩
  | 98 => ⟨S64, .f32⟩
  | 99 => ⟨S_, .f32⟩
  | 100 => ⟨S64, .f32⟩
  | 101 => ⟨S64, .f32⟩
  | 102 => ⟨S_, .f32⟩
  | 103 => ⟨S64, .f32⟩
  | 104 => ⟨S64, .f32⟩
  | 105 => ⟨S_, .f32⟩
  | 106 => ⟨S64, .f32⟩
  | 107 => ⟨S64, .f32⟩
  | 108 => ⟨S8320x1, .f32⟩
  | 109 => ⟨S1x64, .f32⟩
  | 110 => ⟨S8320x64, .f32⟩
  | 111 => ⟨S8320x64, .f32⟩
  | 112 => ⟨S8320x64, .f32⟩
  | 113 => ⟨S8320x64, .f32⟩
  | 114 => ⟨S8320x1x64, .f32⟩
  | 115 => ⟨S8320x64, .f32⟩
  | 116 => ⟨S8320x1x64, .f32⟩
  | 117 => ⟨S4x8320x8x64, .f32⟩
  | 118 => ⟨S4x8320x8x64, .f32⟩
  | 119 => ⟨S1x8320x1x64, .f32⟩
  | 120 => ⟨S4x8320x8x64, .f32⟩
  | 121 => ⟨S4x8320x8x64, .f32⟩
  | 122 => ⟨S1x8320x1x64, .f32⟩
  | 123 => ⟨S4x8320x8x64, .f32⟩
  | 124 => ⟨S4x8320x8x64, .f32⟩
  | 125 => ⟨S4x8320x8x64, .f32⟩
  | 126 => ⟨S1x8320x1x64, .f32⟩
  | 127 => ⟨S4x8320x8x64, .f32⟩
  | _ => ⟨S33280x2048, .f32⟩

abbrev hbmTy0_1 (i : Nat) : BufTy := match i % 128 with
  | 0 => ⟨S4x8320x8x64, .f32⟩
  | 1 => ⟨S1x8320x1x64, .f32⟩
  | 2 => ⟨S4x8320x8x64, .f32⟩
  | 3 => ⟨S4x8320x8x64, .f32⟩
  | 4 => ⟨S4x8320x8x64, .f32⟩
  | 5 => ⟨S4x8320x8x128, .f32⟩
  | 6 => ⟨S33280x1024, .f32⟩
  | 7 => ⟨S_, .f32⟩
  | 8 => ⟨S33280x1024, .f32⟩
  | 9 => ⟨S33280x1024, .f32⟩
  | 10 => ⟨S33280x2048, .f32⟩
  | 11 => ⟨S33280x2048, .f32⟩
  | 12 => ⟨S_, .f32⟩
  | 13 => ⟨S33280x2048, .f32⟩
  | 14 => ⟨S33280x2048, .f32⟩
  | 15 => ⟨S_, .f32⟩
  | 16 => ⟨S33280x2048, .f32⟩
  | 17 => ⟨S33280x2048, .f32⟩
  | 18 => ⟨S33280x2048, .f32⟩
  | 19 => ⟨S33280x2048, .f32⟩
  | 20 => ⟨S_, .f32⟩
  | 21 => ⟨S33280x2048, .f32⟩
  | 22 => ⟨S33280x2048, .f32⟩
  | 23 => ⟨S_, .f32⟩
  | 24 => ⟨S33280x2048, .f32⟩
  | 25 => ⟨S33280x2048, .f32⟩
  | 26 => ⟨S33280x8192, .f32⟩
  | 27 => ⟨S33280x2048, .f32⟩
  | 28 => ⟨S2048x33280, .f32⟩
  | 29 => ⟨S33280x8192, .bf16⟩
  | 30 => ⟨S2048x33280, .bf16⟩
  | _ => ⟨S33280x2048, .f32⟩

abbrev hbmTy (i : Nat) : BufTy := match i / 128 with
  | 0 => hbmTy0_0 i
  | 1 => hbmTy0_1 i
  | _ => ⟨S33280x2048, .f32⟩

abbrev bufTy : (tb : Table) → Fin (tcTables nBuf tb) → BufTy
  | .hbm, ⟨i, _⟩ => hbmTy i
  | _, _ => ⟨S33280x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c : Ref sig .tc := ⟨.hbm, 30, rfl⟩
abbrev main_v24 : Ref sig .tc := ⟨.hbm, 31, rfl⟩
abbrev main_v25 : Ref sig .tc := ⟨.hbm, 32, rfl⟩
abbrev main_c_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_cst_7 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_cst_8 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_c_9 : Ref sig .tc := ⟨.hbm, 85, rfl⟩
abbrev main_v71 : Ref sig .tc := ⟨.hbm, 86, rfl⟩
abbrev main_v72 : Ref sig .tc := ⟨.hbm, 87, rfl⟩
abbrev main_c_10 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_cst_11 : Ref sig .tc := ⟨.hbm, 93, rfl⟩
abbrev main_v77 : Ref sig .tc := ⟨.hbm, 94, rfl⟩
abbrev main_v78 : Ref sig .tc := ⟨.hbm, 95, rfl⟩
abbrev main_cst_12 : Ref sig .tc := ⟨.hbm, 96, rfl⟩
abbrev main_v79 : Ref sig .tc := ⟨.hbm, 97, rfl⟩
abbrev main_v80 : Ref sig .tc := ⟨.hbm, 98, rfl⟩
abbrev main_cst_13 : Ref sig .tc := ⟨.hbm, 99, rfl⟩
abbrev main_v81 : Ref sig .tc := ⟨.hbm, 100, rfl⟩
abbrev main_v82 : Ref sig .tc := ⟨.hbm, 101, rfl⟩
abbrev main_cst_14 : Ref sig .tc := ⟨.hbm, 102, rfl⟩
abbrev main_v83 : Ref sig .tc := ⟨.hbm, 103, rfl⟩
abbrev main_v84 : Ref sig .tc := ⟨.hbm, 104, rfl⟩
abbrev main_cst_15 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_cst_16 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_cst_17 : Ref sig .tc := ⟨.hbm, 140, rfl⟩
abbrev main_v118 : Ref sig .tc := ⟨.hbm, 141, rfl⟩
abbrev main_v119 : Ref sig .tc := ⟨.hbm, 142, rfl⟩
abbrev main_cst_18 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_cst_19 : Ref sig .tc := ⟨.hbm, 148, rfl⟩
abbrev main_v124 : Ref sig .tc := ⟨.hbm, 149, rfl⟩
abbrev main_v125 : Ref sig .tc := ⟨.hbm, 150, rfl⟩
abbrev main_cst_20 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩

abbrev nD : Nat := 1
abbrev τ : Topo := Topo.v7x

variable {F : FTy → Type} [FloatOps F]
-- ==== Proof.Chunks.lean ====
module

public import proofs.«01_k».proof.Proof.Gen.KernelIdeal.Skeleton
public import proofs.«01_k».proof.Proof.Gen.KernelIdeal.Loops
public import proofs.«01_k».proof.Proof.Gen.KernelIdeal.Frame
public import Idealize.ShloMosaic.Lib.Exec
public import Idealize.ShloMosaic.Lib.Tactic
public import Idealize.ShloMosaic.Lib.ValueIdxCore

/-!
# The chunks of keys and values that one trip reads

The keys of a head are stored row after row, 128 leading rows first (pad rows and meta keys) and then 16 chunks of
512 rows; the values are stored transposed, with the same order along the columns.

-/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig Unit (Elt F) ℕ (UR sig nD τ) ℕ
/-- No loop variants are used. -/
abbrev 𝒱₀ : Variants := Variants.none

/-- The `j`-th chunk of 512 keys: rows `128 + 512 j` and on (clamped at the last row). -/
def keyChunk (x : Vec F S1x8320x256 .bf16) (j : ℕ) : Vec F S1x512x256 .bf16 := fun y =>
  x (ix3 0 ⟨min (128 + 512 * j + (y 1).val) 8319, by omega⟩ (y 2))

/-- The `j`-th chunk of 512 value columns. -/
def valChunk (x : Vec F S256x8320 .bf16) (j : ℕ) : Vec F S256x512 .bf16 := fun y =>
  x (ix2 (y 0) ⟨min (128 + 512 * j + (y 1).val) 8319, by omega⟩)

theorem readAt_keys (v : View sig .tc .vmem S1x8320x256 .bf16) (f : v.ty.Contents (Elt F)) {off : Fin 3 → ℕ}
    (inb : ∀ a, off a + S1x512x256.size a ≤ S1x8320x256.size a) (j : ℕ)
    (h0 : off 0 = 0) (h1 : off 1 = 128 + 512 * j) (h2 : off 2 = 0) :
    View.readAt (Elt F) v (Rect.unit (s := S1x8320x256) off S1x512x256.size inb).toLoadRect f = keyChunk (F := F) (v.read (Elt F) f) j := by
  funext y
  refine congrArg (v.read (Elt F) f) (funext fun a => Fin.ext ?_)
  have i1 : off 1 + 512 ≤ 8320 := inb 1
  fin_cases a
  · show off 0 + 1 * (y 0).val = 0
    have : (y 0).val < 1 := (y 0).isLt
    omega
  · show off 1 + 1 * (y 1).val = min (128 + 512 * j + (y 1).val) 8319
    have : (y 1).val < 512 := (y 1).isLt
    omega
  · show off 2 + 1 * (y 2).val = (y 2).val
    omega

theorem readAt_vals (v : View sig .tc .vmem S256x8320 .bf16) (f : v.ty.Contents (Elt F)) {off : Fin 2 → ℕ}
    (inb : ∀ a, off a + S256x512.size a ≤ S256x8320.size a) (j : ℕ)
    (h0 : off 0 = 0) (h1 : off 1 = 128 + 512 * j) :
    View.readAt (Elt F) v (Rect.unit (s := S256x8320) off S256x512.size inb).toLoadRect f = valChunk (F := F) (v.read (Elt F) f) j := by
  funext y
  refine congrArg (v.read (Elt F) f) (funext fun a => Fin.ext ?_)
  have i1 : off 1 + 512 ≤ 8320 := inb 1
  fin_cases a
  · show off 0 + 1 * (y 0).val = (y 0).val
    omega
  · show off 1 + 1 * (y 1).val = min (128 + 512 * j + (y 1).val) 8319
    have : (y 1).val < 512 := (y 1).isLt
    omega

/-- A load through the rectangle of the last store reads what that store put there. -/
theorem readAt_writes_last {s : Shape} {e : EltTy} (v : View sig .tc .vmem s e) (f : v.ty.Contents (Elt F)) (r : Rect s)
    (w : r.shape.Idx → Elt F e) (L : List (View.Piece (Elt F) s e)) :
    View.readAt (Elt F) v r.toLoadRect (v.writes (Elt F) f (⟨r, w⟩ :: L)) = w := by
  funext y
  exact View.read_writes_cons_emb v f r w L y

theorem k0_off1_eq : ∀ (k : Fin k0_t1_loop.trips) (u : Fin 4), k0_off1 k (BitVec.ofNat 32 u.val) 0 = 0 ∧
    (u.val + 1 < 5 → k0_off1 k (BitVec.ofNat 32 u.val) 1 = 128 + 512 * (4 * k.val + u.val + 1)) ∧ k0_off1 k (BitVec.ofNat 32 u.val) 2 = 0 := by
  decide +kernel

theorem k0_off2_eq : ∀ (k : Fin k0_t1_loop.trips) (u : Fin 4), k0_off2 k (BitVec.ofNat 32 u.val) 0 = 0 ∧
    k0_off2 k (BitVec.ofNat 32 u.val) 1 = 128 + 512 * (4 * k.val + u.val) := by
  decide +kernel

theorem k0_off3_eq : ∀ k : Fin k0_t1_loop.trips, k0_off3 k 0 = 0 ∧
    k0_off3 k 1 = 128 + 512 * min (4 * k.val + 3 + 1) 15 ∧ k0_off3 k 2 = 0 := by
  decide +kernel

theorem k0_off5_eq : ∀ (k : Fin k0_t3_loop.trips) (u : Fin 4), k0_off5 k (BitVec.ofNat 32 u.val) 0 = 0 ∧
    (u.val + 1 < 5 → k0_off5 k (BitVec.ofNat 32 u.val) 1 = 128 + 512 * (4 * k.val + u.val + 1)) ∧ k0_off5 k (BitVec.ofNat 32 u.val) 2 = 0 := by
  decide +kernel

theorem k0_off6_eq : ∀ (k : Fin k0_t3_loop.trips) (u : Fin 4), k0_off6 k (BitVec.ofNat 32 u.val) 0 = 0 ∧
    k0_off6 k (BitVec.ofNat 32 u.val) 1 = 128 + 512 * (4 * k.val + u.val) := by
  decide +kernel

theorem k0_off7_eq : ∀ k : Fin k0_t3_loop.trips, k0_off7 k 0 = 0 ∧
    k0_off7 k 1 = 128 + 512 * min (4 * k.val + 3 + 1) 15 ∧ k0_off7 k 2 = 0 := by
  decide +kernel

end Cert.KernelIdeal.Attn
-- ==== Proof.Wide.lean ====
module

public import proofs.«01_k».proof.Proof.Chunks

/-!
# The loop over the key chunks, for a tile of 256 queries

One trip takes four chunks. Each of the two softmaxes keeps its running maximum, its running sum, its accumulator and
the scores of the chunk that comes next; the two do not touch one another.

-/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig Unit (Elt F) ℕ (UR sig nD τ) ℕ

namespace Wide

/-- What one of the two softmaxes of a query tile keeps: maximum, sum, accumulator, and the scores to be taken next. -/
structure Half (F : FTy → Type) [FloatOps F] where
  m : FVec F S1x256 .f32
  l : FVec F S1x256 .f32
  acc : FVec F S256x256 .f32
  s : FVec F S512x256 .f32

/-- Takes the waiting scores in, with their values `v`; the scores `s'` wait next. -/
def Half.absorb (h : Half F) (v : Vec F S256x512 .bf16) (s' : FVec F S512x256 .f32) : Half F where
  m := k0_pay60 h.m h.s
  l := k0_pay64 h.l (k0_pay61 h.m h.s) (k0_pay62 h.m h.s)
  acc := k0_pay63 v (k0_pay61 h.m h.s) (k0_pay62 h.m h.s) h.acc
  s := s'

/-- The state after `n` chunks. -/
def Half.run (sc : Vec F S1x512x256 .bf16 → FVec F S512x256 .f32) (x3 : Vec F S1x8320x256 .bf16) (x4 : Vec F S256x8320 .bf16)
    (h : Half F) : ℕ → Half F
  | 0 => h
  | n + 1 => (Half.run sc x3 x4 h n).absorb (valChunk x4 n) (sc (keyChunk x3 (min (n + 1) 15)))

/-- Scores of a chunk of keys against the first component of the queries. -/
abbrev sc0 (q : FVec F S256x128 .bf16) (kc : Vec F S1x512x256 .bf16) : FVec F S512x256 .f32 := k0_pay58 q kc
/-- Scores of a chunk of keys against the second component of the queries. -/
abbrev sc1 (q : FVec F S256x128 .bf16) (kc : Vec F S1x512x256 .bf16) : FVec F S512x256 .f32 := k0_pay59 q kc

/-- The state after trip `k`, from the state `h` before it. -/
abbrev adv (sc : Vec F S1x512x256 .bf16 → FVec F S512x256 .f32) (x3 : Vec F S1x8320x256 .bf16) (x4 : Vec F S256x8320 .bf16)
    (k : Fin k0_t3_loop.trips) (h : Half F) : Half F :=
  (((h.absorb (valChunk x4 (4 * k.val)) (sc (keyChunk x3 (4 * k.val + 1)))).absorb (valChunk x4 (4 * k.val + 1)) (sc (keyChunk x3 (4 * k.val + 2)))).absorb
    (valChunk x4 (4 * k.val + 2)) (sc (keyChunk x3 (4 * k.val + 3)))).absorb (valChunk x4 (4 * k.val + 3)) (sc (keyChunk x3 (min (4 * k.val + 3 + 1) 15)))

theorem run_trip (sc : Vec F S1x512x256 .bf16 → FVec F S512x256 .f32) (x3 : Vec F S1x8320x256 .bf16) (x4 : Vec F S256x8320 .bf16)
    (h : Half F) (k : Fin k0_t3_loop.trips) :
    Half.run sc x3 x4 h (4 * (k.val + 1)) = adv sc x3 x4 k (Half.run sc x3 x4 h (4 * k.val)) := by
  have hk : k.val < 4 := Nat.lt_of_lt_of_le k.isLt k0_t3_abs.2.1
  have e1 : min (4 * k.val + 1) 15 = 4 * k.val + 1 := by omega
  have e2 : min (4 * k.val + 1 + 1) 15 = 4 * k.val + 2 := by omega
  have e3 : min (4 * k.val + 2 + 1) 15 = 4 * k.val + 3 := by omega
  show Half.run sc x3 x4 h (4 * k.val + 3 + 1) = _
  simp only [Half.run, adv, e1, e2, e3]

variable (c : Dev nD) (i : grid0.Coords)
  (arg2 : Memref sig .tc .vmem S1x8320x256 .bf16) (harg2 : arg2.IsWhole)
  (arg3 : Memref sig .tc .vmem S1x8320x256 .bf16) (harg3 : arg3.IsWhole)
  (arg4 : Memref sig .tc .vmem S256x8320 .bf16) (harg4 : arg4.IsWhole)
  (arg5 : Memref sig .tc .vmem S4x128 .f32) (harg5 : arg5.IsWhole)
  (arg6 : Memref sig .tc .vmem S256x1 .f32) (harg6 : arg6.IsWhole)
  (arg7 : Memref sig .tc .vmem S1x8320x256 .bf16) (harg7 : arg7.IsWhole)
  (arg8 : Memref sig .tc .vmem S256x256 .f32) (harg8 : arg8.IsWhole)
  (arg9 : Memref sig .tc .vmem S256x256 .f32) (harg9 : arg9.IsWhole)
  (arg10 : Memref sig .tc .vmem S512x256 .f32) (harg10 : arg10.IsWhole)
  (arg11 : Memref sig .tc .vmem S512x256 .f32) (harg11 : arg11.IsWhole)
  (arg12 : Memref sig .tc .vmem S512x256 .f32) (harg12 : arg12.IsWhole)
  (arg13 : Memref sig .tc .vmem S512x256 .f32) (harg13 : arg13.IsWhole)

/-- What the buffers hold before trip `k`: the accumulators and the waiting scores are those of the two softmaxes
after `4 k` chunks, and so are the carried maxima and sums. -/
abbrev Inv (q0 q1 : FVec F S256x128 .bf16) (X3 : BufTy.Contents (Elt F) arg3.view.ty) (X4 : BufTy.Contents (Elt F) arg4.view.ty)
    (A0 A1 : FVec F S256x256 .f32) (S0 S1 : FVec F S512x256 .f32) (init : FVec F S1x256 .f32 × FVec F S1x256 .f32 × FVec F S1x256 .f32 × FVec F S1x256 .f32) (k : ℕ) (a : FVec F S1x256 .f32 × FVec F S1x256 .f32 × FVec F S1x256 .f32 × FVec F S1x256 .f32) : sProp 𝕄 :=
  iprop((arg3.view.loc (c : Thread nD τ) ↦[arg3.view.set]{fullShare} X3) ∗ (arg4.view.loc (c : Thread nD τ) ↦[arg4.view.set]{fullShare} X4)
    ∗ (∃ f, (arg8.view.loc (c : Thread nD τ) ↦[arg8.view.set]{fullShare} f) ∗ ⌜View.readAt (Elt F) arg8.view (Rect.unit (s := S256x256) ![0, 0] S256x256.size inb_S256x256_S256x256_0_0).toLoadRect f = (Half.run (sc0 q0) (arg3.view.read (Elt F) X3) (arg4.view.read (Elt F) X4) ⟨init.1, init.2.1, A0, S0⟩ (4 * k)).acc⌝)
    ∗ (∃ f, (arg9.view.loc (c : Thread nD τ) ↦[arg9.view.set]{fullShare} f) ∗ ⌜View.readAt (Elt F) arg9.view (Rect.unit (s := S256x256) ![0, 0] S256x256.size inb_S256x256_S256x256_0_0).toLoadRect f = (Half.run (sc1 q1) (arg3.view.read (Elt F) X3) (arg4.view.read (Elt F) X4) ⟨init.2.2.1, init.2.2.2, A1, S1⟩ (4 * k)).acc⌝)
    ∗ (∃ f, (arg10.view.loc (c : Thread nD τ) ↦[arg10.view.set]{fullShare} f) ∗ ⌜View.readAt (Elt F) arg10.view (Rect.unit (s := S512x256) ![0, 0] S512x256.size inb_S512x256_S512x256_0_0).toLoadRect f = (Half.run (sc0 q0) (arg3.view.read (Elt F) X3) (arg4.view.read (Elt F) X4) ⟨init.1, init.2.1, A0, S0⟩ (4 * k)).s⌝)
    ∗ (∃ f, (arg11.view.loc (c : Thread nD τ) ↦[arg11.view.set]{fullShare} f) ∗ ⌜View.readAt (Elt F) arg11.view (Rect.unit (s := S512x256) ![0, 0] S512x256.size inb_S512x256_S512x256_0_0).toLoadRect f = (Half.run (sc1 q1) (arg3.view.read (Elt F) X3) (arg4.view.read (Elt F) X4) ⟨init.2.2.1, init.2.2.2, A1, S1⟩ (4 * k)).s⌝)
    ∗ (∃ f, (arg12.view.loc (c : Thread nD τ) ↦[arg12.view.set]{fullShare} f)) ∗ (∃ f, (arg13.view.loc (c : Thread nD τ) ↦[arg13.view.set]{fullShare} f))
    ∗ ⌜a = ((Half.run (sc0 q0) (arg3.view.read (Elt F) X3) (arg4.view.read (Elt F) X4) ⟨init.1, init.2.1, A0, S0⟩ (4 * k)).m,
        (Half.run (sc0 q0) (arg3.view.read (Elt F) X3) (arg4.view.read (Elt F) X4) ⟨init.1, init.2.1, A0, S0⟩ (4 * k)).l,
        (Half.run (sc1 q1) (arg3.view.read (Elt F) X3) (arg4.view.read (Elt F) X4) ⟨init.2.2.1, init.2.2.2, A1, S1⟩ (4 * k)).m,
        (Half.run (sc1 q1) (arg3.view.read (Elt F) X3) (arg4.view.read (Elt F) X4) ⟨init.2.2.1, init.2.2.2, A1, S1⟩ (4 * k)).l)⌝)

theorem trip (v16 : FVec F S1x1 .f32) (v18 : FVec F S256x1 .f32) (q0 q1 : FVec F S256x128 .bf16) (v110 v120 v124 v134 : FVec F S1x256 .f32)
    (X3 : BufTy.Contents (Elt F) arg3.view.ty) (X4 : BufTy.Contents (Elt F) arg4.view.ty)
    (f8 : BufTy.Contents (Elt F) arg8.view.ty) (f9 : BufTy.Contents (Elt F) arg9.view.ty) (f10 : BufTy.Contents (Elt F) arg10.view.ty)
    (f11 : BufTy.Contents (Elt F) arg11.view.ty) (f12 : BufTy.Contents (Elt F) arg12.view.ty) (f13 : BufTy.Contents (Elt F) arg13.view.ty)
    (k : Fin k0_t3_loop.trips) (h0 h1 : Half F)
    (e8 : View.readAt (Elt F) arg8.view (Rect.unit (s := S256x256) ![0, 0] S256x256.size inb_S256x256_S256x256_0_0).toLoadRect f8 = h0.acc) (e9 : View.readAt (Elt F) arg9.view (Rect.unit (s := S256x256) ![0, 0] S256x256.size inb_S256x256_S256x256_0_0).toLoadRect f9 = h1.acc)
    (e10 : View.readAt (Elt F) arg10.view (Rect.unit (s := S512x256) ![0, 0] S512x256.size inb_S512x256_S512x256_0_0).toLoadRect f10 = h0.s) (e11 : View.readAt (Elt F) arg11.view (Rect.unit (s := S512x256) ![0, 0] S512x256.size inb_S512x256_S512x256_0_0).toLoadRect f11 = h1.s) :
   (iprop((arg3.view.loc (c : Thread nD τ) ↦[arg3.view.set]{fullShare} X3) ∗ (arg4.view.loc (c : Thread nD τ) ↦[arg4.view.set]{fullShare} X4) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp 𝕄)
   ⊢ wp frame (wpE defs₀ 𝒱₀ (c : Thread nD τ) none) Set.univ (k0_t3_body (F := F) i arg2 harg2 arg3 harg3 arg4 harg4 arg5 harg5 arg6 harg6 arg7 harg7 arg8 harg8 arg9 harg9 arg10 harg10 arg11 harg11 arg12 harg12 arg13 harg13 v16 v18 q0 q1 v110 v120 v124 v134 k (h0.m, h0.l, h1.m, h1.l))
     (fun r => iprop((arg3.view.loc (c : Thread nD τ) ↦[arg3.view.set]{fullShare} X3) ∗ (arg4.view.loc (c : Thread nD τ) ↦[arg4.view.set]{fullShare} X4) ∗ (∃ f, (arg8.view.loc (c : Thread nD τ) ↦[arg8.view.set]{fullShare} f) ∗ ⌜View.readAt (Elt F) arg8.view (Rect.unit (s := S256x256) ![0, 0] S256x256.size inb_S256x256_S256x256_0_0).toLoadRect f = (adv (sc0 q0) (arg3.view.read (Elt F) X3) (arg4.view.read (Elt F) X4) k h0).acc⌝)
       ∗ (∃ f, (arg9.view.loc (c : Thread nD τ) ↦[arg9.view.set]{fullShare} f) ∗ ⌜View.readAt (Elt F) arg9.view (Rect.unit (s := S256x256) ![0, 0] S256x256.size inb_S256x256_S256x256_0_0).toLoadRect f = (adv (sc1 q1) (arg3.view.read (Elt F) X3) (arg4.view.read (Elt F) X4) k h1).acc⌝)
       ∗ (∃ f, (arg10.view.loc (c : Thread nD τ) ↦[arg10.view.set]{fullShare} f) ∗ ⌜View.readAt (Elt F) arg10.view (Rect.unit (s := S512x256) ![0, 0] S512x256.size inb_S512x256_S512x256_0_0).toLoadRect f = (adv (sc0 q0) (arg3.view.read (Elt F) X3) (arg4.view.read (Elt F) X4) k h0).s⌝)
       ∗ (∃ f, (arg11.view.loc (c : Thread nD τ) ↦[arg11.view.set]{fullShare} f) ∗ ⌜View.readAt (Elt F) arg11.view (Rect.unit (s := S512x256) ![0, 0] S512x256.size inb_S512x256_S512x256_0_0).toLoadRect f = (adv (sc1 q1) (arg3.view.read (Elt F) X3) (arg4.view.read (Elt F) X4) k h1).s⌝)
       ∗ (∃ f, (arg12.view.loc (c : Thread nD τ) ↦[arg12.view.set]{fullShare} f)) ∗ (∃ f, (arg13.view.loc (c : Thread nD τ) ↦[arg13.view.set]{fullShare} f))
       ∗ ⌜r = ((adv (sc0 q0) (arg3.view.read (Elt F) X3) (arg4.view.read (Elt F) X4) k h0).m, (adv (sc0 q0) (arg3.view.read (Elt F) X3) (arg4.view.read (Elt F) X4) k h0).l,
          (adv (sc1 q1) (arg3.view.read (Elt F) X3) (arg4.view.read (Elt F) X4) k h1).m, (adv (sc1 q1) (arg3.view.read (Elt F) X3) (arg4.view.read (Elt F) X4) k h1).l)⌝)) := by
  unfold k0_t3_body
  iintro ⟨H3, H4, H8, H9, H10, H11, H12, H13⟩
  sl_exec
  sl_step
  have K0 : ∀ inb, View.readAt (Elt F) arg3.view (Rect.unit (s := S1x8320x256) (k0_off5 k 0#32) S1x512x256.size inb).toLoadRect X3 = keyChunk (arg3.view.read (Elt F) X3) (4 * k.val + 1) :=
    fun inb => readAt_keys _ _ inb _ (k0_off5_eq k 0).1 ((k0_off5_eq k 0).2.1 (by decide)) (k0_off5_eq k 0).2.2
  have K1 : ∀ inb, View.readAt (Elt F) arg3.view (Rect.unit (s := S1x8320x256) (k0_off5 k 1#32) S1x512x256.size inb).toLoadRect X3 = keyChunk (arg3.view.read (Elt F) X3) (4 * k.val + 2) :=
    fun inb => readAt_keys _ _ inb _ (k0_off5_eq k 1).1 ((k0_off5_eq k 1).2.1 (by decide)) (k0_off5_eq k 1).2.2
  have K2 : ∀ inb, View.readAt (Elt F) arg3.view (Rect.unit (s := S1x8320x256) (k0_off5 k 2#32) S1x512x256.size inb).toLoadRect X3 = keyChunk (arg3.view.read (Elt F) X3) (4 * k.val + 3) :=
    fun inb => readAt_keys _ _ inb _ (k0_off5_eq k 2).1 ((k0_off5_eq k 2).2.1 (by decide)) (k0_off5_eq k 2).2.2
  have KL : ∀ inb, View.readAt (Elt F) arg3.view (Rect.unit (s := S1x8320x256) (k0_off7 k) S1x512x256.size inb).toLoadRect X3 = keyChunk (arg3.view.read (Elt F) X3) (min (4 * k.val + 3 + 1) 15) :=
    fun inb => readAt_keys _ _ inb _ (k0_off7_eq k).1 (k0_off7_eq k).2.1 (k0_off7_eq k).2.2
  have V0 : ∀ inb, View.readAt (Elt F) arg4.view (Rect.unit (s := S256x8320) (k0_off6 k 0#32) S256x512.size inb).toLoadRect X4 = valChunk (arg4.view.read (Elt F) X4) (4 * k.val) :=
    fun inb => readAt_vals _ _ inb _ (k0_off6_eq k 0).1 (k0_off6_eq k 0).2
  have V1 : ∀ inb, View.readAt (Elt F) arg4.view (Rect.unit (s := S256x8320) (k0_off6 k 1#32) S256x512.size inb).toLoadRect X4 = valChunk (arg4.view.read (Elt F) X4) (4 * k.val + 1) :=
    fun inb => readAt_vals _ _ inb _ (k0_off6_eq k 1).1 (k0_off6_eq k 1).2
  have V2 : ∀ inb, View.readAt (Elt F) arg4.view (Rect.unit (s := S256x8320) (k0_off6 k 2#32) S256x512.size inb).toLoadRect X4 = valChunk (arg4.view.read (Elt F) X4) (4 * k.val + 2) :=
    fun inb => readAt_vals _ _ inb _ (k0_off6_eq k 2).1 (k0_off6_eq k 2).2
  have V3 : ∀ inb, View.readAt (Elt F) arg4.view (Rect.unit (s := S256x8320) (k0_off6 k 3#32) S256x512.size inb).toLoadRect X4 = valChunk (arg4.view.read (Elt F) X4) (4 * k.val + 3) :=
    fun inb => readAt_vals _ _ inb _ (k0_off6_eq k 3).1 (k0_off6_eq k 3).2
  isplitl [H3]; · iexact H3
  isplitl [H4]; · iexact H4
  isplitl [H8]
  · iexists _; isplitl [H8]; · iexact H8
    ipureintro
    rw [readAt_writes_last]
    delta trip.sl.H10_1 trip.sl.H11_1 trip.sl.H12_1 trip.sl.H12_2 trip.sl.H13_1 trip.sl.H13_2 trip.sl.H8_1 trip.sl.H8_2 trip.sl.H8_3 trip.sl.H9_1 trip.sl.H9_2 trip.sl.H9_3 trip.sl.r trip.sl.r_1 trip.sl.r_10 trip.sl.r_11 trip.sl.r_12 trip.sl.r_13 trip.sl.r_14 trip.sl.r_15 trip.sl.r_16 trip.sl.r_17 trip.sl.r_18 trip.sl.r_19 trip.sl.r_2 trip.sl.r_20 trip.sl.r_21 trip.sl.r_22 trip.sl.r_23 trip.sl.r_24 trip.sl.r_25 trip.sl.r_26 trip.sl.r_27 trip.sl.r_3 trip.sl.r_4 trip.sl.r_5 trip.sl.r_6 trip.sl.r_7 trip.sl.r_8 trip.sl.r_9 trip.sl.v180 trip.sl.v273 trip.sl.v282 trip.sl.v295 trip.sl.v304 trip.sl.v341 trip.sl.v350 trip.sl.v363 trip.sl.v372 trip.sl.v404 trip.sl.v405 trip.sl.v410 trip.sl.v419 trip.sl.v432 trip.sl.v441
    simp only [View.readCov_cons_toLoadRect, K0, K1, K2, V0, V1, V2, V3, e8, e10]
    rfl
  isplitl [H9]
  · iexists _; isplitl [H9]; · iexact H9
    ipureintro
    rw [readAt_writes_last]
    delta trip.sl.H10_1 trip.sl.H11_1 trip.sl.H12_1 trip.sl.H12_2 trip.sl.H13_1 trip.sl.H13_2 trip.sl.H8_1 trip.sl.H8_2 trip.sl.H8_3 trip.sl.H9_1 trip.sl.H9_2 trip.sl.H9_3 trip.sl.r trip.sl.r_1 trip.sl.r_10 trip.sl.r_11 trip.sl.r_12 trip.sl.r_13 trip.sl.r_14 trip.sl.r_15 trip.sl.r_16 trip.sl.r_17 trip.sl.r_18 trip.sl.r_19 trip.sl.r_2 trip.sl.r_20 trip.sl.r_21 trip.sl.r_22 trip.sl.r_23 trip.sl.r_24 trip.sl.r_25 trip.sl.r_26 trip.sl.r_27 trip.sl.r_3 trip.sl.r_4 trip.sl.r_5 trip.sl.r_6 trip.sl.r_7 trip.sl.r_8 trip.sl.r_9 trip.sl.v180 trip.sl.v273 trip.sl.v282 trip.sl.v295 trip.sl.v304 trip.sl.v341 trip.sl.v350 trip.sl.v363 trip.sl.v372 trip.sl.v404 trip.sl.v405 trip.sl.v410 trip.sl.v419 trip.sl.v432 trip.sl.v441
    simp only [View.readCov_cons_toLoadRect, K0, K1, K2, V0, V1, V2, V3, e9, e11]
    rfl
  isplitl [H10]
  · iexists _; isplitl [H10]; · iexact H10
    ipureintro
    rw [readAt_writes_last, KL]
    rfl
  isplitl [H11]
  · iexists _; isplitl [H11]; · iexact H11
    ipureintro
    rw [readAt_writes_last, KL]
    rfl
  isplitl [H12]; · iexists _; iexact H12
  isplitl [H13]; · iexists _; iexact H13
  ipureintro
  delta trip.sl.H10_1 trip.sl.H11_1 trip.sl.H12_1 trip.sl.H12_2 trip.sl.H13_1 trip.sl.H13_2 trip.sl.H8_1 trip.sl.H8_2 trip.sl.H8_3 trip.sl.H9_1 trip.sl.H9_2 trip.sl.H9_3 trip.sl.r trip.sl.r_1 trip.sl.r_10 trip.sl.r_11 trip.sl.r_12 trip.sl.r_13 trip.sl.r_14 trip.sl.r_15 trip.sl.r_16 trip.sl.r_17 trip.sl.r_18 trip.sl.r_19 trip.sl.r_2 trip.sl.r_20 trip.sl.r_21 trip.sl.r_22 trip.sl.r_23 trip.sl.r_24 trip.sl.r_25 trip.sl.r_26 trip.sl.r_27 trip.sl.r_3 trip.sl.r_4 trip.sl.r_5 trip.sl.r_6 trip.sl.r_7 trip.sl.r_8 trip.sl.r_9 trip.sl.v180 trip.sl.v273 trip.sl.v282 trip.sl.v295 trip.sl.v304 trip.sl.v341 trip.sl.v350 trip.sl.v363 trip.sl.v372 trip.sl.v404 trip.sl.v405 trip.sl.v410 trip.sl.v419 trip.sl.v432 trip.sl.v441
  simp only [View.readCov_cons_toLoadRect, K0, K1, K2, e10, e11]
  rfl

set_option warn.classDefReducibility false in
/-- The loop, by that invariant. -/
@[sl_loop] def loopInv (v16 : FVec F S1x1 .f32) (v18 : FVec F S256x1 .f32) (q0 q1 : FVec F S256x128 .bf16) (v110 v120 v124 v134 : FVec F S1x256 .f32)
    (X3 : BufTy.Contents (Elt F) arg3.view.ty) (X4 : BufTy.Contents (Elt F) arg4.view.ty)
    (A0 A1 : FVec F S256x256 .f32) (S0 S1 : FVec F S512x256 .f32) (init : FVec F S1x256 .f32 × FVec F S1x256 .f32 × FVec F S1x256 .f32 × FVec F S1x256 .f32) :
    LoopInvTy_k0_t3 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 v16 v18 q0 q1 v110 v120 v124 v134 init where
  inv := Inv c arg3 arg4 arg8 arg9 arg10 arg11 arg12 arg13 q0 q1 X3 X4 A0 A1 S0 S1 init
  step k a := by
    iintro ⟨H3, H4, ⟨%f8, H8, %e8⟩, ⟨%f9, H9, %e9⟩, ⟨%f10, H10, %e10⟩, ⟨%f11, H11, %e11⟩, ⟨%f12, H12⟩, ⟨%f13, H13⟩, %ea⟩
    subst ea
    iapply (wp_wand_r Idealize.ShloMosaic.frame (wpE (defs₀ (F := F)) 𝒱₀ (c : Thread nD τ) none) Set.univ)
    isplitl [H3 H4 H8 H9 H10 H11 H12 H13]
    · iapply (trip c i arg2 harg2 arg3 harg3 arg4 harg4 arg5 harg5 arg6 harg6 arg7 harg7 arg8 harg8 arg9 harg9 arg10 harg10 arg11 harg11 arg12 harg12 arg13 harg13 v16 v18 q0 q1 v110 v120 v124 v134 X3 X4 f8 f9 f10 f11 f12 f13 k _ _ e8 e9 e10 e11)
      isplitl [H3]; · iexact H3
      isplitl [H4]; · iexact H4
      isplitl [H8]; · iexact H8
      isplitl [H9]; · iexact H9
      isplitl [H10]; · iexact H10
      isplitl [H11]; · iexact H11
      isplitl [H12]; · iexact H12
      iexact H13
    · iintro %r H
      simp only [Inv, run_trip]
      iexact H

end Wide
end Cert.KernelIdeal.Attn
-- ==== Proof.Narrow.lean ====
module

public import proofs.«01_k».proof.Proof.Chunks

/-!
# The loop over the key chunks, for a tile of 128 queries

One trip takes four chunks. Each of the two softmaxes keeps its running maximum, its running sum, its accumulator and
the scores of the chunk that comes next; the two do not touch one another.

-/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig Unit (Elt F) ℕ (UR sig nD τ) ℕ

namespace Narrow

/-- What one of the two softmaxes of a query tile keeps: maximum, sum, accumulator, and the scores to be taken next. -/
structure Half (F : FTy → Type) [FloatOps F] where
  m : FVec F S1x128 .f32
  l : FVec F S1x128 .f32
  acc : FVec F S256x128 .f32
  s : FVec F S512x128 .f32

/-- Takes the waiting scores in, with their values `v`; the scores `s'` wait next. -/
def Half.absorb (h : Half F) (v : Vec F S256x512 .bf16) (s' : FVec F S512x128 .f32) : Half F where
  m := k0_pay6 h.m h.s
  l := k0_pay10 h.l (k0_pay7 h.m h.s) (k0_pay8 h.m h.s)
  acc := k0_pay9 v (k0_pay7 h.m h.s) (k0_pay8 h.m h.s) h.acc
  s := s'

/-- The state after `n` chunks. -/
def Half.run (sc : Vec F S1x512x256 .bf16 → FVec F S512x128 .f32) (x3 : Vec F S1x8320x256 .bf16) (x4 : Vec F S256x8320 .bf16)
    (h : Half F) : ℕ → Half F
  | 0 => h
  | n + 1 => (Half.run sc x3 x4 h n).absorb (valChunk x4 n) (sc (keyChunk x3 (min (n + 1) 15)))

/-- Scores of a chunk of keys against the first component of the queries. -/
abbrev sc0 (q : FVec F S128x128 .bf16) (kc : Vec F S1x512x256 .bf16) : FVec F S512x128 .f32 := k0_pay4 q kc
/-- Scores of a chunk of keys against the second component of the queries. -/
abbrev sc1 (q : FVec F S128x128 .bf16) (kc : Vec F S1x512x256 .bf16) : FVec F S512x128 .f32 := k0_pay5 q kc

/-- The state after trip `k`, from the state `h` before it. -/
abbrev adv (sc : Vec F S1x512x256 .bf16 → FVec F S512x128 .f32) (x3 : Vec F S1x8320x256 .bf16) (x4 : Vec F S256x8320 .bf16)
    (k : Fin k0_t1_loop.trips) (h : Half F) : Half F :=
  (((h.absorb (valChunk x4 (4 * k.val)) (sc (keyChunk x3 (4 * k.val + 1)))).absorb (valChunk x4 (4 * k.val + 1)) (sc (keyChunk x3 (4 * k.val + 2)))).absorb
    (valChunk x4 (4 * k.val + 2)) (sc (keyChunk x3 (4 * k.val + 3)))).absorb (valChunk x4 (4 * k.val + 3)) (sc (keyChunk x3 (min (4 * k.val + 3 + 1) 15)))

theorem run_trip (sc : Vec F S1x512x256 .bf16 → FVec F S512x128 .f32) (x3 : Vec F S1x8320x256 .bf16) (x4 : Vec F S256x8320 .bf16)
    (h : Half F) (k : Fin k0_t1_loop.trips) :
    Half.run sc x3 x4 h (4 * (k.val + 1)) = adv sc x3 x4 k (Half.run sc x3 x4 h (4 * k.val)) := by
  have hk : k.val < 4 := Nat.lt_of_lt_of_le k.isLt k0_t1_abs.2.1
  have e1 : min (4 * k.val + 1) 15 = 4 * k.val + 1 := by omega
  have e2 : min (4 * k.val + 1 + 1) 15 = 4 * k.val + 2 := by omega
  have e3 : min (4 * k.val + 2 + 1) 15 = 4 * k.val + 3 := by omega
  show Half.run sc x3 x4 h (4 * k.val + 3 + 1) = _
  simp only [Half.run, adv, e1, e2, e3]

variable (c : Dev nD) (i : grid0.Coords)
  (arg2 : Memref sig .tc .vmem S1x8320x256 .bf16) (harg2 : arg2.IsWhole)
  (arg3 : Memref sig .tc .vmem S1x8320x256 .bf16) (harg3 : arg3.IsWhole)
  (arg4 : Memref sig .tc .vmem S256x8320 .bf16) (harg4 : arg4.IsWhole)
  (arg5 : Memref sig .tc .vmem S4x128 .f32) (harg5 : arg5.IsWhole)
  (arg6 : Memref sig .tc .vmem S256x1 .f32) (harg6 : arg6.IsWhole)
  (arg7 : Memref sig .tc .vmem S1x8320x256 .bf16) (harg7 : arg7.IsWhole)
  (arg8 : Memref sig .tc .vmem S256x256 .f32) (harg8 : arg8.IsWhole)
  (arg9 : Memref sig .tc .vmem S256x256 .f32) (harg9 : arg9.IsWhole)
  (arg10 : Memref sig .tc .vmem S512x256 .f32) (harg10 : arg10.IsWhole)
  (arg11 : Memref sig .tc .vmem S512x256 .f32) (harg11 : arg11.IsWhole)
  (arg12 : Memref sig .tc .vmem S512x256 .f32) (harg12 : arg12.IsWhole)
  (arg13 : Memref sig .tc .vmem S512x256 .f32) (harg13 : arg13.IsWhole)

/-- What the buffers hold before trip `k`: the accumulators and the waiting scores are those of the two softmaxes
after `4 k` chunks, and so are the carried maxima and sums. -/
abbrev Inv (q0 q1 : FVec F S128x128 .bf16) (X3 : BufTy.Contents (Elt F) arg3.view.ty) (X4 : BufTy.Contents (Elt F) arg4.view.ty)
    (A0 A1 : FVec F S256x128 .f32) (S0 S1 : FVec F S512x128 .f32) (init : FVec F S1x128 .f32 × FVec F S1x128 .f32 × FVec F S1x128 .f32 × FVec F S1x128 .f32) (k : ℕ) (a : FVec F S1x128 .f32 × FVec F S1x128 .f32 × FVec F S1x128 .f32 × FVec F S1x128 .f32) : sProp 𝕄 :=
  iprop((arg3.view.loc (c : Thread nD τ) ↦[arg3.view.set]{fullShare} X3) ∗ (arg4.view.loc (c : Thread nD τ) ↦[arg4.view.set]{fullShare} X4)
    ∗ (∃ f, (arg8.view.loc (c : Thread nD τ) ↦[arg8.view.set]{fullShare} f) ∗ ⌜View.readAt (Elt F) arg8.view (Rect.unit (s := S256x256) ![0, 0] S256x128.size inb_S256x256_S256x128_0_0).toLoadRect f = (Half.run (sc0 q0) (arg3.view.read (Elt F) X3) (arg4.view.read (Elt F) X4) ⟨init.1, init.2.1, A0, S0⟩ (4 * k)).acc⌝)
    ∗ (∃ f, (arg9.view.loc (c : Thread nD τ) ↦[arg9.view.set]{fullShare} f) ∗ ⌜View.readAt (Elt F) arg9.view (Rect.unit (s := S256x256) ![0, 0] S256x128.size inb_S256x256_S256x128_0_0).toLoadRect f = (Half.run (sc1 q1) (arg3.view.read (Elt F) X3) (arg4.view.read (Elt F) X4) ⟨init.2.2.1, init.2.2.2, A1, S1⟩ (4 * k)).acc⌝)
    ∗ (∃ f, (arg10.view.loc (c : Thread nD τ) ↦[arg10.view.set]{fullShare} f) ∗ ⌜View.readAt (Elt F) arg10.view (Rect.unit (s := S512x256) ![0, 0] S512x128.size inb_S512x256_S512x128_0_0).toLoadRect f = (Half.run (sc0 q0) (arg3.view.read (Elt F) X3) (arg4.view.read (Elt F) X4) ⟨init.1, init.2.1, A0, S0⟩ (4 * k)).s⌝)
    ∗ (∃ f, (arg11.view.loc (c : Thread nD τ) ↦[arg11.view.set]{fullShare} f) ∗ ⌜View.readAt (Elt F) arg11.view (Rect.unit (s := S512x256) ![0, 0] S512x128.size inb_S512x256_S512x128_0_0).toLoadRect f = (Half.run (sc1 q1) (arg3.view.read (Elt F) X3) (arg4.view.read (Elt F) X4) ⟨init.2.2.1, init.2.2.2, A1, S1⟩ (4 * k)).s⌝)
    ∗ (∃ f, (arg12.view.loc (c : Thread nD τ) ↦[arg12.view.set]{fullShare} f)) ∗ (∃ f, (arg13.view.loc (c : Thread nD τ) ↦[arg13.view.set]{fullShare} f))
    ∗ ⌜a = ((Half.run (sc0 q0) (arg3.view.read (Elt F) X3) (arg4.view.read (Elt F) X4) ⟨init.1, init.2.1, A0, S0⟩ (4 * k)).m,
        (Half.run (sc0 q0) (arg3.view.read (Elt F) X3) (arg4.view.read (Elt F) X4) ⟨init.1, init.2.1, A0, S0⟩ (4 * k)).l,
        (Half.run (sc1 q1) (arg3.view.read (Elt F) X3) (arg4.view.read (Elt F) X4) ⟨init.2.2.1, init.2.2.2, A1, S1⟩ (4 * k)).m,
        (Half.run (sc1 q1) (arg3.view.read (Elt F) X3) (arg4.view.read (Elt F) X4) ⟨init.2.2.1, init.2.2.2, A1, S1⟩ (4 * k)).l)⌝)

theorem trip (v20 : FVec F S16x256 .bf16) (v21 : Vec F S256x16 .bf16) (q0 q1 : FVec F S128x128 .bf16) (v29 : FVec F S1x128 .f32) (v32 : FVec F S16x128 .f32) (v37 : FVec F S256x128 .f32)
    (X3 : BufTy.Contents (Elt F) arg3.view.ty) (X4 : BufTy.Contents (Elt F) arg4.view.ty)
    (f8 : BufTy.Contents (Elt F) arg8.view.ty) (f9 : BufTy.Contents (Elt F) arg9.view.ty) (f10 : BufTy.Contents (Elt F) arg10.view.ty)
    (f11 : BufTy.Contents (Elt F) arg11.view.ty) (f12 : BufTy.Contents (Elt F) arg12.view.ty) (f13 : BufTy.Contents (Elt F) arg13.view.ty)
    (k : Fin k0_t1_loop.trips) (h0 h1 : Half F)
    (e8 : View.readAt (Elt F) arg8.view (Rect.unit (s := S256x256) ![0, 0] S256x128.size inb_S256x256_S256x128_0_0).toLoadRect f8 = h0.acc) (e9 : View.readAt (Elt F) arg9.view (Rect.unit (s := S256x256) ![0, 0] S256x128.size inb_S256x256_S256x128_0_0).toLoadRect f9 = h1.acc)
    (e10 : View.readAt (Elt F) arg10.view (Rect.unit (s := S512x256) ![0, 0] S512x128.size inb_S512x256_S512x128_0_0).toLoadRect f10 = h0.s) (e11 : View.readAt (Elt F) arg11.view (Rect.unit (s := S512x256) ![0, 0] S512x128.size inb_S512x256_S512x128_0_0).toLoadRect f11 = h1.s) :
   (iprop((arg3.view.loc (c : Thread nD τ) ↦[arg3.view.set]{fullShare} X3) ∗ (arg4.view.loc (c : Thread nD τ) ↦[arg4.view.set]{fullShare} X4) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp 𝕄)
   ⊢ wp frame (wpE defs₀ 𝒱₀ (c : Thread nD τ) none) Set.univ (k0_t1_body (F := F) i arg2 harg2 arg3 harg3 arg4 harg4 arg5 harg5 arg6 harg6 arg7 harg7 arg8 harg8 arg9 harg9 arg10 harg10 arg11 harg11 arg12 harg12 arg13 harg13 v20 v21 q0 q1 v29 v32 v37 k (h0.m, h0.l, h1.m, h1.l))
     (fun r => iprop((arg3.view.loc (c : Thread nD τ) ↦[arg3.view.set]{fullShare} X3) ∗ (arg4.view.loc (c : Thread nD τ) ↦[arg4.view.set]{fullShare} X4) ∗ (∃ f, (arg8.view.loc (c : Thread nD τ) ↦[arg8.view.set]{fullShare} f) ∗ ⌜View.readAt (Elt F) arg8.view (Rect.unit (s := S256x256) ![0, 0] S256x128.size inb_S256x256_S256x128_0_0).toLoadRect f = (adv (sc0 q0) (arg3.view.read (Elt F) X3) (arg4.view.read (Elt F) X4) k h0).acc⌝)
       ∗ (∃ f, (arg9.view.loc (c : Thread nD τ) ↦[arg9.view.set]{fullShare} f) ∗ ⌜View.readAt (Elt F) arg9.view (Rect.unit (s := S256x256) ![0, 0] S256x128.size inb_S256x256_S256x128_0_0).toLoadRect f = (adv (sc1 q1) (arg3.view.read (Elt F) X3) (arg4.view.read (Elt F) X4) k h1).acc⌝)
       ∗ (∃ f, (arg10.view.loc (c : Thread nD τ) ↦[arg10.view.set]{fullShare} f) ∗ ⌜View.readAt (Elt F) arg10.view (Rect.unit (s := S512x256) ![0, 0] S512x128.size inb_S512x256_S512x128_0_0).toLoadRect f = (adv (sc0 q0) (arg3.view.read (Elt F) X3) (arg4.view.read (Elt F) X4) k h0).s⌝)
       ∗ (∃ f, (arg11.view.loc (c : Thread nD τ) ↦[arg11.view.set]{fullShare} f) ∗ ⌜View.readAt (Elt F) arg11.view (Rect.unit (s := S512x256) ![0, 0] S512x128.size inb_S512x256_S512x128_0_0).toLoadRect f = (adv (sc1 q1) (arg3.view.read (Elt F) X3) (arg4.view.read (Elt F) X4) k h1).s⌝)
       ∗ (∃ f, (arg12.view.loc (c : Thread nD τ) ↦[arg12.view.set]{fullShare} f)) ∗ (∃ f, (arg13.view.loc (c : Thread nD τ) ↦[arg13.view.set]{fullShare} f))
       ∗ ⌜r = ((adv (sc0 q0) (arg3.view.read (Elt F) X3) (arg4.view.read (Elt F) X4) k h0).m, (adv (sc0 q0) (arg3.view.read (Elt F) X3) (arg4.view.read (Elt F) X4) k h0).l,
          (adv (sc1 q1) (arg3.view.read (Elt F) X3) (arg4.view.read (Elt F) X4) k h1).m, (adv (sc1 q1) (arg3.view.read (Elt F) X3) (arg4.view.read (Elt F) X4) k h1).l)⌝)) := by
  unfold k0_t1_body
  iintro ⟨H3, H4, H8, H9, H10, H11, H12, H13⟩
  sl_exec
  sl_step
  have K0 : ∀ inb, View.readAt (Elt F) arg3.view (Rect.unit (s := S1x8320x256) (k0_off1 k 0#32) S1x512x256.size inb).toLoadRect X3 = keyChunk (arg3.view.read (Elt F) X3) (4 * k.val + 1) :=
    fun inb => readAt_keys _ _ inb _ (k0_off1_eq k 0).1 ((k0_off1_eq k 0).2.1 (by decide)) (k0_off1_eq k 0).2.2
  have K1 : ∀ inb, View.readAt (Elt F) arg3.view (Rect.unit (s := S1x8320x256) (k0_off1 k 1#32) S1x512x256.size inb).toLoadRect X3 = keyChunk (arg3.view.read (Elt F) X3) (4 * k.val + 2) :=
    fun inb => readAt_keys _ _ inb _ (k0_off1_eq k 1).1 ((k0_off1_eq k 1).2.1 (by decide)) (k0_off1_eq k 1).2.2
  have K2 : ∀ inb, View.readAt (Elt F) arg3.view (Rect.unit (s := S1x8320x256) (k0_off1 k 2#32) S1x512x256.size inb).toLoadRect X3 = keyChunk (arg3.view.read (Elt F) X3) (4 * k.val + 3) :=
    fun inb => readAt_keys _ _ inb _ (k0_off1_eq k 2).1 ((k0_off1_eq k 2).2.1 (by decide)) (k0_off1_eq k 2).2.2
  have KL : ∀ inb, View.readAt (Elt F) arg3.view (Rect.unit (s := S1x8320x256) (k0_off3 k) S1x512x256.size inb).toLoadRect X3 = keyChunk (arg3.view.read (Elt F) X3) (min (4 * k.val + 3 + 1) 15) :=
    fun inb => readAt_keys _ _ inb _ (k0_off3_eq k).1 (k0_off3_eq k).2.1 (k0_off3_eq k).2.2
  have V0 : ∀ inb, View.readAt (Elt F) arg4.view (Rect.unit (s := S256x8320) (k0_off2 k 0#32) S256x512.size inb).toLoadRect X4 = valChunk (arg4.view.read (Elt F) X4) (4 * k.val) :=
    fun inb => readAt_vals _ _ inb _ (k0_off2_eq k 0).1 (k0_off2_eq k 0).2
  have V1 : ∀ inb, View.readAt (Elt F) arg4.view (Rect.unit (s := S256x8320) (k0_off2 k 1#32) S256x512.size inb).toLoadRect X4 = valChunk (arg4.view.read (Elt F) X4) (4 * k.val + 1) :=
    fun inb => readAt_vals _ _ inb _ (k0_off2_eq k 1).1 (k0_off2_eq k 1).2
  have V2 : ∀ inb, View.readAt (Elt F) arg4.view (Rect.unit (s := S256x8320) (k0_off2 k 2#32) S256x512.size inb).toLoadRect X4 = valChunk (arg4.view.read (Elt F) X4) (4 * k.val + 2) :=
    fun inb => readAt_vals _ _ inb _ (k0_off2_eq k 2).1 (k0_off2_eq k 2).2
  have V3 : ∀ inb, View.readAt (Elt F) arg4.view (Rect.unit (s := S256x8320) (k0_off2 k 3#32) S256x512.size inb).toLoadRect X4 = valChunk (arg4.view.read (Elt F) X4) (4 * k.val + 3) :=
    fun inb => readAt_vals _ _ inb _ (k0_off2_eq k 3).1 (k0_off2_eq k 3).2
  isplitl [H3]; · iexact H3
  isplitl [H4]; · iexact H4
  isplitl [H8]
  · iexists _; isplitl [H8]; · iexact H8
    ipureintro
    rw [readAt_writes_last]
    delta trip.sl.H10_1 trip.sl.H11_1 trip.sl.H12_1 trip.sl.H12_2 trip.sl.H13_1 trip.sl.H13_2 trip.sl.H8_1 trip.sl.H8_2 trip.sl.H8_3 trip.sl.H9_1 trip.sl.H9_2 trip.sl.H9_3 trip.sl.r trip.sl.r_1 trip.sl.r_10 trip.sl.r_11 trip.sl.r_12 trip.sl.r_13 trip.sl.r_14 trip.sl.r_15 trip.sl.r_16 trip.sl.r_17 trip.sl.r_18 trip.sl.r_19 trip.sl.r_2 trip.sl.r_20 trip.sl.r_21 trip.sl.r_22 trip.sl.r_23 trip.sl.r_24 trip.sl.r_25 trip.sl.r_26 trip.sl.r_27 trip.sl.r_3 trip.sl.r_4 trip.sl.r_5 trip.sl.r_6 trip.sl.r_7 trip.sl.r_8 trip.sl.r_9 trip.sl.v192 trip.sl.v201 trip.sl.v214 trip.sl.v223 trip.sl.v260 trip.sl.v269 trip.sl.v282 trip.sl.v291 trip.sl.v323 trip.sl.v324 trip.sl.v329 trip.sl.v338 trip.sl.v351 trip.sl.v360 trip.sl.v99
    simp only [View.readCov_cons_toLoadRect, K0, K1, K2, V0, V1, V2, V3, e8, e10]
    rfl
  isplitl [H9]
  · iexists _; isplitl [H9]; · iexact H9
    ipureintro
    rw [readAt_writes_last]
    delta trip.sl.H10_1 trip.sl.H11_1 trip.sl.H12_1 trip.sl.H12_2 trip.sl.H13_1 trip.sl.H13_2 trip.sl.H8_1 trip.sl.H8_2 trip.sl.H8_3 trip.sl.H9_1 trip.sl.H9_2 trip.sl.H9_3 trip.sl.r trip.sl.r_1 trip.sl.r_10 trip.sl.r_11 trip.sl.r_12 trip.sl.r_13 trip.sl.r_14 trip.sl.r_15 trip.sl.r_16 trip.sl.r_17 trip.sl.r_18 trip.sl.r_19 trip.sl.r_2 trip.sl.r_20 trip.sl.r_21 trip.sl.r_22 trip.sl.r_23 trip.sl.r_24 trip.sl.r_25 trip.sl.r_26 trip.sl.r_27 trip.sl.r_3 trip.sl.r_4 trip.sl.r_5 trip.sl.r_6 trip.sl.r_7 trip.sl.r_8 trip.sl.r_9 trip.sl.v192 trip.sl.v201 trip.sl.v214 trip.sl.v223 trip.sl.v260 trip.sl.v269 trip.sl.v282 trip.sl.v291 trip.sl.v323 trip.sl.v324 trip.sl.v329 trip.sl.v338 trip.sl.v351 trip.sl.v360 trip.sl.v99
    simp only [View.readCov_cons_toLoadRect, K0, K1, K2, V0, V1, V2, V3, e9, e11]
    rfl
  isplitl [H10]
  · iexists _; isplitl [H10]; · iexact H10
    ipureintro
    rw [readAt_writes_last, KL]
    rfl
  isplitl [H11]
  · iexists _; isplitl [H11]; · iexact H11
    ipureintro
    rw [readAt_writes_last, KL]
    rfl
  isplitl [H12]; · iexists _; iexact H12
  isplitl [H13]; · iexists _; iexact H13
  ipureintro
  delta trip.sl.H10_1 trip.sl.H11_1 trip.sl.H12_1 trip.sl.H12_2 trip.sl.H13_1 trip.sl.H13_2 trip.sl.H8_1 trip.sl.H8_2 trip.sl.H8_3 trip.sl.H9_1 trip.sl.H9_2 trip.sl.H9_3 trip.sl.r trip.sl.r_1 trip.sl.r_10 trip.sl.r_11 trip.sl.r_12 trip.sl.r_13 trip.sl.r_14 trip.sl.r_15 trip.sl.r_16 trip.sl.r_17 trip.sl.r_18 trip.sl.r_19 trip.sl.r_2 trip.sl.r_20 trip.sl.r_21 trip.sl.r_22 trip.sl.r_23 trip.sl.r_24 trip.sl.r_25 trip.sl.r_26 trip.sl.r_27 trip.sl.r_3 trip.sl.r_4 trip.sl.r_5 trip.sl.r_6 trip.sl.r_7 trip.sl.r_8 trip.sl.r_9 trip.sl.v192 trip.sl.v201 trip.sl.v214 trip.sl.v223 trip.sl.v260 trip.sl.v269 trip.sl.v282 trip.sl.v291 trip.sl.v323 trip.sl.v324 trip.sl.v329 trip.sl.v338 trip.sl.v351 trip.sl.v360 trip.sl.v99
  simp only [View.readCov_cons_toLoadRect, K0, K1, K2, e10, e11]
  rfl

set_option warn.classDefReducibility false in
/-- The loop, by that invariant. -/
@[sl_loop] def loopInv (v20 : FVec F S16x256 .bf16) (v21 : Vec F S256x16 .bf16) (q0 q1 : FVec F S128x128 .bf16) (v29 : FVec F S1x128 .f32) (v32 : FVec F S16x128 .f32) (v37 : FVec F S256x128 .f32)
    (X3 : BufTy.Contents (Elt F) arg3.view.ty) (X4 : BufTy.Contents (Elt F) arg4.view.ty)
    (A0 A1 : FVec F S256x128 .f32) (S0 S1 : FVec F S512x128 .f32) (init : FVec F S1x128 .f32 × FVec F S1x128 .f32 × FVec F S1x128 .f32 × FVec F S1x128 .f32) :
    LoopInvTy_k0_t1 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 v20 v21 q0 q1 v29 v32 v37 init where
  inv := Inv c arg3 arg4 arg8 arg9 arg10 arg11 arg12 arg13 q0 q1 X3 X4 A0 A1 S0 S1 init
  step k a := by
    iintro ⟨H3, H4, ⟨%f8, H8, %e8⟩, ⟨%f9, H9, %e9⟩, ⟨%f10, H10, %e10⟩, ⟨%f11, H11, %e11⟩, ⟨%f12, H12⟩, ⟨%f13, H13⟩, %ea⟩
    subst ea
    iapply (wp_wand_r Idealize.ShloMosaic.frame (wpE (defs₀ (F := F)) 𝒱₀ (c : Thread nD τ) none) Set.univ)
    isplitl [H3 H4 H8 H9 H10 H11 H12 H13]
    · iapply (trip c i arg2 harg2 arg3 harg3 arg4 harg4 arg5 harg5 arg6 harg6 arg7 harg7 arg8 harg8 arg9 harg9 arg10 harg10 arg11 harg11 arg12 harg12 arg13 harg13 v20 v21 q0 q1 v29 v32 v37 X3 X4 f8 f9 f10 f11 f12 f13 k _ _ e8 e9 e10 e11)
      isplitl [H3]; · iexact H3
      isplitl [H4]; · iexact H4
      isplitl [H8]; · iexact H8
      isplitl [H9]; · iexact H9
      isplitl [H10]; · iexact H10
      isplitl [H11]; · iexact H11
      isplitl [H12]; · iexact H12
      iexact H13
    · iintro %r H
      simp only [Inv, run_trip]
      iexact H

end Narrow
end Cert.KernelIdeal.Attn
-- ==== Proof.Outer.lean ====
module

public import proofs.«01_k».proof.Proof.Wide
public import proofs.«01_k».proof.Proof.Narrow

/-!
# The loop over the query tiles

One trip takes a tile of 256 queries: it runs both softmaxes over the meta keys and the 16 chunks, and stores the tile.

-/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig Unit (Elt F) ℕ (UR sig nD τ) ℕ

namespace Outer

/-- The `k`-th tile of 256 queries: rows `128 + 256 k` and on (clamped at the last row). -/
def queryTile (x : Vec F S1x8320x256 .bf16) (k : ℕ) : Vec F S1x256x256 .bf16 := fun y =>
  x (ix3 0 ⟨min (128 + 256 * k + (y 1).val) 8319, by omega⟩ (y 2))

theorem k0_off4_eq : ∀ k : Fin k0_t2_loop.trips, k0_off4 k 0 = 0 ∧ k0_off4 k 1 = 128 + 256 * k.val ∧ k0_off4 k 2 = 0 := by
  decide +kernel

theorem readAt_queries (v : View sig .tc .vmem S1x8320x256 .bf16) (f : v.ty.Contents (Elt F)) {off : Fin 3 → ℕ}
    (inb : ∀ a, off a + S1x256x256.size a ≤ S1x8320x256.size a) (k : ℕ)
    (h0 : off 0 = 0) (h1 : off 1 = 128 + 256 * k) (h2 : off 2 = 0) :
    View.readAt (Elt F) v (Rect.unit (s := S1x8320x256) off S1x256x256.size inb).toLoadRect f = queryTile (F := F) (v.read (Elt F) f) k := by
  funext y
  refine congrArg (v.read (Elt F) f) (funext fun a => Fin.ext ?_)
  have i1 : off 1 + 256 ≤ 8320 := inb 1
  fin_cases a
  · show off 0 + 1 * (y 0).val = 0
    have : (y 0).val < 1 := (y 0).isLt
    omega
  · show off 1 + 1 * (y 1).val = min (128 + 256 * k + (y 1).val) 8319
    have : (y 1).val < 256 := (y 1).isLt
    omega
  · show off 2 + 1 * (y 2).val = (y 2).val
    omega

/-- The first softmax of a query tile once the meta keys are in, the scores of chunk 0 waiting. -/
def start0 (v20 : FVec F S16x256 .bf16) (v21 : Vec F S256x16 .bf16) (x3 : Vec F S1x8320x256 .bf16) (q : Vec F S1x256x256 .bf16) : Wide.Half F :=
  ⟨k0_pay115 v20 q, k0_pay118 v20 q, k0_pay117 v20 v21 q, Wide.sc0 (k0_pay112 q) (keyChunk x3 0)⟩
/-- The second softmax, likewise. -/
def start1 (v20 : FVec F S16x256 .bf16) (v21 : Vec F S256x16 .bf16) (x3 : Vec F S1x8320x256 .bf16) (q : Vec F S1x256x256 .bf16) : Wide.Half F :=
  ⟨k0_pay120 v20 q, k0_pay123 v20 q, k0_pay122 v20 v21 q, Wide.sc1 (k0_pay113 q) (keyChunk x3 0)⟩
/-- The first softmax after all chunks. -/
def full0 (v20 : FVec F S16x256 .bf16) (v21 : Vec F S256x16 .bf16) (x3 : Vec F S1x8320x256 .bf16) (x4 : Vec F S256x8320 .bf16)
    (q : Vec F S1x256x256 .bf16) : Wide.Half F :=
  Wide.Half.run (Wide.sc0 (k0_pay112 q)) x3 x4 (start0 v20 v21 x3 q) 16
/-- The second softmax after all chunks. -/
def full1 (v20 : FVec F S16x256 .bf16) (v21 : Vec F S256x16 .bf16) (x3 : Vec F S1x8320x256 .bf16) (x4 : Vec F S256x8320 .bf16)
    (q : Vec F S1x256x256 .bf16) : Wide.Half F :=
  Wide.Half.run (Wide.sc1 (k0_pay113 q)) x3 x4 (start1 v20 v21 x3 q) 16

/-- The tile that is stored for the query tile `q`. -/
def tileOut (v16 : FVec F S1x1 .f32) (v18 : FVec F S256x1 .f32) (v20 : FVec F S16x256 .bf16) (v21 : Vec F S256x16 .bf16)
    (x3 : Vec F S1x8320x256 .bf16) (x4 : Vec F S256x8320 .bf16) (q : Vec F S1x256x256 .bf16) : Vec F S1x256x256 .bf16 :=
  k0_pay2 (k0_pay129 v16 v18 (full0 v20 v21 x3 x4 q).l (full1 v20 v21 x3 x4 q).l (full0 v20 v21 x3 x4 q).acc (full1 v20 v21 x3 x4 q).acc)

/-- What trip `k` stores. -/
def piece (v16 : FVec F S1x1 .f32) (v18 : FVec F S256x1 .f32) (v20 : FVec F S16x256 .bf16) (v21 : Vec F S256x16 .bf16)
    (x2 x3 : Vec F S1x8320x256 .bf16) (x4 : Vec F S256x8320 .bf16) (k : Fin k0_t2_loop.trips) : View.Piece (Elt F) S1x8320x256 .bf16 :=
  ⟨Rect.unit (k0_off4 k) S1x256x256.size (k0_off4_inb k), tileOut v16 v18 v20 v21 x3 x4 (queryTile x2 k.val)⟩

/-- What the first `k` trips store, the last one first. -/
def pieces (v16 : FVec F S1x1 .f32) (v18 : FVec F S256x1 .f32) (v20 : FVec F S16x256 .bf16) (v21 : Vec F S256x16 .bf16)
    (x2 x3 : Vec F S1x8320x256 .bf16) (x4 : Vec F S256x8320 .bf16) : ℕ → List (View.Piece (Elt F) S1x8320x256 .bf16)
  | 0 => []
  | k + 1 => if h : k < k0_t2_loop.trips then piece v16 v18 v20 v21 x2 x3 x4 ⟨k, h⟩ :: pieces v16 v18 v20 v21 x2 x3 x4 k
      else pieces v16 v18 v20 v21 x2 x3 x4 k

theorem pieces_succ (v16 : FVec F S1x1 .f32) (v18 : FVec F S256x1 .f32) (v20 : FVec F S16x256 .bf16) (v21 : Vec F S256x16 .bf16)
    (x2 x3 : Vec F S1x8320x256 .bf16) (x4 : Vec F S256x8320 .bf16) (k : Fin k0_t2_loop.trips) :
    pieces v16 v18 v20 v21 x2 x3 x4 (k.val + 1) = piece v16 v18 v20 v21 x2 x3 x4 k :: pieces v16 v18 v20 v21 x2 x3 x4 k.val :=
  dif_pos k.isLt

theorem trips3 : 4 * Scf.trips k0_t3_loop.lb k0_t3_loop.ub k0_t3_loop.st = 16 := by decide +kernel

variable (c : Dev nD) (i : grid0.Coords)
  (arg2 : Memref sig .tc .vmem S1x8320x256 .bf16) (harg2 : arg2.IsWhole)
  (arg3 : Memref sig .tc .vmem S1x8320x256 .bf16) (harg3 : arg3.IsWhole)
  (arg4 : Memref sig .tc .vmem S256x8320 .bf16) (harg4 : arg4.IsWhole)
  (arg5 : Memref sig .tc .vmem S4x128 .f32) (harg5 : arg5.IsWhole)
  (arg6 : Memref sig .tc .vmem S256x1 .f32) (harg6 : arg6.IsWhole)
  (arg7 : Memref sig .tc .vmem S1x8320x256 .bf16) (harg7 : arg7.IsWhole)
  (arg8 : Memref sig .tc .vmem S256x256 .f32) (harg8 : arg8.IsWhole)
  (arg9 : Memref sig .tc .vmem S256x256 .f32) (harg9 : arg9.IsWhole)
  (arg10 : Memref sig .tc .vmem S512x256 .f32) (harg10 : arg10.IsWhole)
  (arg11 : Memref sig .tc .vmem S512x256 .f32) (harg11 : arg11.IsWhole)
  (arg12 : Memref sig .tc .vmem S512x256 .f32) (harg12 : arg12.IsWhole)
  (arg13 : Memref sig .tc .vmem S512x256 .f32) (harg13 : arg13.IsWhole)

theorem trip (v16 : FVec F S1x1 .f32) (v18 : FVec F S256x1 .f32) (v20 : FVec F S16x256 .bf16) (v21 : Vec F S256x16 .bf16)
    (X2 : BufTy.Contents (Elt F) arg2.view.ty) (X3 : BufTy.Contents (Elt F) arg3.view.ty) (X4 : BufTy.Contents (Elt F) arg4.view.ty)
    (f7 : BufTy.Contents (Elt F) arg7.view.ty) (f8 : BufTy.Contents (Elt F) arg8.view.ty) (f9 : BufTy.Contents (Elt F) arg9.view.ty) (f10 : BufTy.Contents (Elt F) arg10.view.ty)
    (f11 : BufTy.Contents (Elt F) arg11.view.ty) (f12 : BufTy.Contents (Elt F) arg12.view.ty) (f13 : BufTy.Contents (Elt F) arg13.view.ty)
    (k : Fin k0_t2_loop.trips) :
   (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp 𝕄)
   ⊢ wp frame (wpE defs₀ 𝒱₀ (c : Thread nD τ) none) Set.univ (k0_t2_body (F := F) i arg2 harg2 arg3 harg3 arg4 harg4 arg5 harg5 arg6 harg6 arg7 harg7 arg8 harg8 arg9 harg9 arg10 harg10 arg11 harg11 arg12 harg12 arg13 harg13 v16 v18 v20 v21 k ())
     (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
       ∗ (arg7.view.loc (c : Thread nD τ) ↦[arg7.view.set]{fullShare} (arg7.view.writes (Elt F) f7 [piece v16 v18 v20 v21 (arg2.view.read (Elt F) X2) (arg3.view.read (Elt F) X3) (arg4.view.read (Elt F) X4) k]))
       ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)))) := by
  unfold k0_t2_body
  iintro ⟨H2, H3, H4, H7, H8, H9, H10, H11, H12, H13⟩
  sl_exec
  sl_step
  have Q : ∀ inb, View.readAt (Elt F) arg2.view (Rect.unit (s := S1x8320x256) (k0_off4 k) S1x256x256.size inb).toLoadRect X2 = queryTile (arg2.view.read (Elt F) X2) k.val :=
    fun inb => readAt_queries _ _ inb _ (k0_off4_eq k).1 (k0_off4_eq k).2.1 (k0_off4_eq k).2.2
  have K : ∀ inb, View.readAt (Elt F) arg3.view (Rect.unit (s := S1x8320x256) ![0, 128, 0] S1x512x256.size inb).toLoadRect X3 = keyChunk (arg3.view.read (Elt F) X3) 0 :=
    fun inb => readAt_keys _ _ inb _ rfl rfl rfl
  have e : k0_pay2 (trip.sl.r_6 arg2 arg3 arg4 arg8 arg9 arg10 arg11 v16 v18 v20 v21 X2 X3 X4 k)
      = tileOut v16 v18 v20 v21 (arg3.view.read (Elt F) X3) (arg4.view.read (Elt F) X4) (queryTile (arg2.view.read (Elt F) X2) k.val) := by
    have E8 := readAt_writes_last arg8.view arg8.view.junk (Rect.unit ![0, 0] S256x256.size inb_S256x256_S256x256_0_0)
      (k0_pay117 v20 v21 (queryTile (arg2.view.read (Elt F) X2) k.val)) []
    have E9 := readAt_writes_last arg9.view arg9.view.junk (Rect.unit ![0, 0] S256x256.size inb_S256x256_S256x256_0_0)
      (k0_pay122 v20 v21 (queryTile (arg2.view.read (Elt F) X2) k.val)) []
    have E10 := readAt_writes_last arg10.view arg10.view.junk (Rect.unit ![0, 0] S512x256.size inb_S512x256_S512x256_0_0)
      (Wide.sc0 (k0_pay112 (queryTile (arg2.view.read (Elt F) X2) k.val)) (keyChunk (arg3.view.read (Elt F) X3) 0)) []
    have E11 := readAt_writes_last arg11.view arg11.view.junk (Rect.unit ![0, 0] S512x256.size inb_S512x256_S512x256_0_0)
      (Wide.sc1 (k0_pay113 (queryTile (arg2.view.read (Elt F) X2) k.val)) (keyChunk (arg3.view.read (Elt F) X3) 0)) []
    unfold tileOut full0 full1 start0 start1
    rw [← E8, ← E9, ← E10, ← E11]
    delta trip.sl.r trip.sl.r_1 trip.sl.r_2 trip.sl.r_3 trip.sl.r_4 trip.sl.r_5 trip.sl.r_6 trip.sl.H8_1 trip.sl.H10_1 trip.sl.H9_1 trip.sl.H11_1
    simp only [Q, K, trips3]
    rfl
  rw [e]
  isplitl [H2]; · iexact H2
  isplitl [H3]; · iexact H3
  isplitl [H4]; · iexact H4
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  iexists _; iexact H13

/-- What the buffers hold before trip `k`: the result holds the tiles of the first `k` trips over what it held at first. -/
abbrev Inv (v16 : FVec F S1x1 .f32) (v18 : FVec F S256x1 .f32) (v20 : FVec F S16x256 .bf16) (v21 : Vec F S256x16 .bf16)
    (X2 : BufTy.Contents (Elt F) arg2.view.ty) (X3 : BufTy.Contents (Elt F) arg3.view.ty) (X4 : BufTy.Contents (Elt F) arg4.view.ty)
    (G7 : BufTy.Contents (Elt F) arg7.view.ty) (k : ℕ) (_u : PUnit) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
    ∗ (∃ f, (arg7.view.loc (c : Thread nD τ) ↦[arg7.view.set]{fullShare} f) ∗ ⌜f = arg7.view.writes (Elt F) G7 (pieces v16 v18 v20 v21 (arg2.view.read (Elt F) X2) (arg3.view.read (Elt F) X3) (arg4.view.read (Elt F) X4) k)⌝)
    ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)))

set_option warn.classDefReducibility false in
/-- The loop, by that invariant. -/
@[sl_loop] def loopInv (v16 : FVec F S1x1 .f32) (v18 : FVec F S256x1 .f32) (v20 : FVec F S16x256 .bf16) (v21 : Vec F S256x16 .bf16)
    (X2 : BufTy.Contents (Elt F) arg2.view.ty) (X3 : BufTy.Contents (Elt F) arg3.view.ty) (X4 : BufTy.Contents (Elt F) arg4.view.ty)
    (G7 : BufTy.Contents (Elt F) arg7.view.ty) :
    LoopInvTy_k0_t2 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 v16 v18 v20 v21 where
  inv := Inv c arg2 arg3 arg4 arg7 arg8 arg9 arg10 arg11 arg12 arg13 v16 v18 v20 v21 X2 X3 X4 G7
  step k a := by
    iintro ⟨H2, H3, H4, ⟨%f7, H7, %e7⟩, ⟨%f8, H8⟩, ⟨%f9, H9⟩, ⟨%f10, H10⟩, ⟨%f11, H11⟩, ⟨%f12, H12⟩, ⟨%f13, H13⟩⟩
    iapply (wp_wand_r Idealize.ShloMosaic.frame (wpE (defs₀ (F := F)) 𝒱₀ (c : Thread nD τ) none) Set.univ)
    isplitl [H2 H3 H4 H7 H8 H9 H10 H11 H12 H13]
    · iapply (trip c i arg2 harg2 arg3 harg3 arg4 harg4 arg5 harg5 arg6 harg6 arg7 harg7 arg8 harg8 arg9 harg9 arg10 harg10 arg11 harg11 arg12 harg12 arg13 harg13 v16 v18 v20 v21 X2 X3 X4 f7 f8 f9 f10 f11 f12 f13 k)
      isplitl [H2]; · iexact H2
      isplitl [H3]; · iexact H3
      isplitl [H4]; · iexact H4
      isplitl [H7]; · iexact H7
      isplitl [H8]; · iexact H8
      isplitl [H9]; · iexact H9
      isplitl [H10]; · iexact H10
      isplitl [H11]; · iexact H11
      isplitl [H12]; · iexact H12
      iexact H13
    · iintro %_ ⟨H2, H3, H4, H7, H8⟩
      isplitl [H2]; · iexact H2
      isplitl [H3]; · iexact H3
      isplitl [H4]; · iexact H4
      isplitl [H7]
      · iexists _; isplitl [H7]; · iexact H7
        ipureintro
        rw [pieces_succ, e7, ← View.writes_append]
        rfl
      iexact H8

end Outer
end Cert.KernelIdeal.Attn
-- ==== Proof.Point.lean ====
module

public import proofs.«01_k».proof.Proof.Outer

/-!
# One grid point: one head of one sequence

The kernel first takes the 128 leading query rows, then the query tiles one after another.

-/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig Unit (Elt F) ℕ (UR sig nD τ) ℕ

namespace Point

/-- The 16 meta keys: rows 112 to 127. -/
def metaKeys (x : Vec F S1x8320x256 .bf16) : Vec F S1x16x256 .bf16 := fun y =>
  x (ix3 0 ⟨112 + (y 1).val, by have : (y 1).val < 16 := (y 1).isLt; omega⟩ (y 2))
/-- The values of the meta keys. -/
def metaVals (x : Vec F S256x8320 .bf16) : Vec F S256x16 .bf16 := fun y =>
  x (ix2 (y 0) ⟨112 + (y 1).val, by have : (y 1).val < 16 := (y 1).isLt; omega⟩)
/-- The 128 leading query rows. -/
def headQueries (x : Vec F S1x8320x256 .bf16) : Vec F S1x128x256 .bf16 := fun y =>
  x (ix3 0 ⟨(y 1).val, by have : (y 1).val < 128 := (y 1).isLt; omega⟩ (y 2))

theorem readAt_metaKeys (v : View sig .tc .vmem S1x8320x256 .bf16) (f : v.ty.Contents (Elt F))
    (inb : ∀ a, (![0, 112, 0] : Fin 3 → ℕ) a + S1x16x256.size a ≤ S1x8320x256.size a) :
    View.readAt (Elt F) v (Rect.unit (s := S1x8320x256) ![0, 112, 0] S1x16x256.size inb).toLoadRect f = metaKeys (F := F) (v.read (Elt F) f) := by
  funext y
  refine congrArg (v.read (Elt F) f) (funext fun a => Fin.ext ?_)
  fin_cases a
  · show 0 + 1 * (y 0).val = 0
    have : (y 0).val < 1 := (y 0).isLt
    omega
  · show 112 + 1 * (y 1).val = 112 + (y 1).val
    omega
  · show 0 + 1 * (y 2).val = (y 2).val
    omega

theorem readAt_metaVals (v : View sig .tc .vmem S256x8320 .bf16) (f : v.ty.Contents (Elt F))
    (inb : ∀ a, (![0, 112] : Fin 2 → ℕ) a + S256x16.size a ≤ S256x8320.size a) :
    View.readAt (Elt F) v (Rect.unit (s := S256x8320) ![0, 112] S256x16.size inb).toLoadRect f = metaVals (F := F) (v.read (Elt F) f) := by
  funext y
  refine congrArg (v.read (Elt F) f) (funext fun a => Fin.ext ?_)
  fin_cases a
  · show 0 + 1 * (y 0).val = (y 0).val
    omega
  · show 112 + 1 * (y 1).val = 112 + (y 1).val
    omega

theorem readAt_headQueries (v : View sig .tc .vmem S1x8320x256 .bf16) (f : v.ty.Contents (Elt F))
    (inb : ∀ a, (![0, 0, 0] : Fin 3 → ℕ) a + S1x128x256.size a ≤ S1x8320x256.size a) :
    View.readAt (Elt F) v (Rect.unit (s := S1x8320x256) ![0, 0, 0] S1x128x256.size inb).toLoadRect f = headQueries (F := F) (v.read (Elt F) f) := by
  funext y
  refine congrArg (v.read (Elt F) f) (funext fun a => Fin.ext ?_)
  fin_cases a
  · show 0 + 1 * (y 0).val = 0
    have : (y 0).val < 1 := (y 0).isLt
    omega
  · show 0 + 1 * (y 1).val = (y 1).val
    omega
  · show 0 + 1 * (y 2).val = (y 2).val
    omega

theorem readAt_lam (v : View sig .tc .vmem S4x128 .f32) (f : v.ty.Contents (Elt F))
    (inb : ∀ a, (![0, 0] : Fin 2 → ℕ) a + S4x128.size a ≤ S4x128.size a) :
    View.readAt (Elt F) v (Rect.unit (s := S4x128) ![0, 0] S4x128.size inb).toLoadRect f = v.read (Elt F) f := by
  funext y
  refine congrArg (v.read (Elt F) f) (funext fun a => Fin.ext ?_)
  fin_cases a
  · show 0 + 1 * (y 0).val = (y 0).val
    omega
  · show 0 + 1 * (y 1).val = (y 1).val
    omega

theorem readAt_gain (v : View sig .tc .vmem S256x1 .f32) (f : v.ty.Contents (Elt F))
    (inb : ∀ a, (![0, 0] : Fin 2 → ℕ) a + S256x1.size a ≤ S256x1.size a) :
    View.readAt (Elt F) v (Rect.unit (s := S256x1) ![0, 0] S256x1.size inb).toLoadRect f = v.read (Elt F) f := by
  funext y
  refine congrArg (v.read (Elt F) f) (funext fun a => Fin.ext ?_)
  fin_cases a
  · show 0 + 1 * (y 0).val = (y 0).val
    omega
  · show 0 + 1 * (y 1).val = (y 1).val
    omega

/-- The first softmax of the leading rows after the meta keys. -/
def headStart0 (x3 : Vec F S1x8320x256 .bf16) (x4 : Vec F S256x8320 .bf16) (q : Vec F S1x128x256 .bf16) : Narrow.Half F :=
  ⟨k0_pay137 (metaKeys x3) q, k0_pay140 (k0_pay138 (metaKeys x3) q), k0_pay139 (metaKeys x3) (metaVals x4) q,
    k0_pay147 (k0_pay134 q) (keyChunk x3 0)⟩
/-- The second softmax, likewise. -/
def headStart1 (x3 : Vec F S1x8320x256 .bf16) (x4 : Vec F S256x8320 .bf16) (q : Vec F S1x128x256 .bf16) : Narrow.Half F :=
  ⟨k0_pay142 (k0_pay132 (metaKeys x3)) (k0_pay135 q), k0_pay145 (k0_pay132 (metaKeys x3)) (k0_pay135 q),
    k0_pay144 (k0_pay132 (metaKeys x3)) (metaVals x4) (k0_pay135 q), k0_pay148 (k0_pay135 q) (keyChunk x3 0)⟩
/-- The first softmax of the leading rows after all chunks. -/
def headFull0 (x3 : Vec F S1x8320x256 .bf16) (x4 : Vec F S256x8320 .bf16) (q : Vec F S1x128x256 .bf16) : Narrow.Half F :=
  Narrow.Half.run (Narrow.sc0 (k0_pay134 q)) x3 x4 (headStart0 x3 x4 q) 16
/-- The second softmax, likewise. -/
def headFull1 (x3 : Vec F S1x8320x256 .bf16) (x4 : Vec F S256x8320 .bf16) (q : Vec F S1x128x256 .bf16) : Narrow.Half F :=
  Narrow.Half.run (Narrow.sc1 (k0_pay135 q)) x3 x4 (headStart1 x3 x4 q) 16

/-- The rows that are stored for the leading queries. -/
def headOut (v16 : FVec F S1x1 .f32) (v18 : FVec F S256x1 .f32) (x3 : Vec F S1x8320x256 .bf16) (x4 : Vec F S256x8320 .bf16)
    (q : Vec F S1x128x256 .bf16) : Vec F S1x128x256 .bf16 :=
  k0_pay1 v16 v18 (headFull1 x3 x4 q).l (headFull0 x3 x4 q).acc (k0_pay151 (headFull0 x3 x4 q).l) (headFull1 x3 x4 q).acc

/-- The tile of query tile `k`. -/
abbrev tile (x2 x3 : Vec F S1x8320x256 .bf16) (x4 : Vec F S256x8320 .bf16) (x5 : Vec F S4x128 .f32) (x6 : Vec F S256x1 .f32) (k : ℕ) :
    Vec F S1x256x256 .bf16 :=
  Outer.tileOut (k0_pay130 x5) (k0_pay131 x6) (k0_pay132 (metaKeys x3)) (metaVals x4) x3 x4 (Outer.queryTile x2 k)

/-- The block that one grid point stores. -/
def blockOut (x2 x3 : Vec F S1x8320x256 .bf16) (x4 : Vec F S256x8320 .bf16) (x5 : Vec F S4x128 .f32) (x6 : Vec F S256x1 .f32) :
    Vec F S1x8320x256 .bf16 := fun y =>
  if h : (y 1).val < 128 then headOut (k0_pay130 x5) (k0_pay131 x6) x3 x4 (headQueries x2) (ix3 0 ⟨(y 1).val, h⟩ (y 2))
  else tile x2 x3 x4 x5 x6 (((y 1).val - 128) / 256) (ix3 0 ⟨((y 1).val - 128) % 256, Nat.mod_lt _ (by decide)⟩ (y 2))

/-- The store of the leading rows. -/
abbrev first (x2 x3 : Vec F S1x8320x256 .bf16) (x4 : Vec F S256x8320 .bf16) (x5 : Vec F S4x128 .f32) (x6 : Vec F S256x1 .f32) :
    View.Piece (Elt F) S1x8320x256 .bf16 :=
  ⟨Rect.unit ![0, 0, 0] S1x128x256.size inb_S1x8320x256_S1x128x256_0_0_0, headOut (k0_pay130 x5) (k0_pay131 x6) x3 x4 (headQueries x2)⟩

theorem trips2 : Scf.trips k0_t2_loop.lb k0_t2_loop.ub k0_t2_loop.st = 32 := by decide +kernel
theorem trips1 : 4 * Scf.trips k0_t1_loop.lb k0_t1_loop.ub k0_t1_loop.st = 16 := by decide +kernel

/-- Reading what `n` tiles and the leading rows left, at a row they cover. -/
theorem read_pieces (v : View sig .tc .vmem S1x8320x256 .bf16) (f : v.ty.Contents (Elt F))
    (x2 x3 : Vec F S1x8320x256 .bf16) (x4 : Vec F S256x8320 .bf16) (x5 : Vec F S4x128 .f32) (x6 : Vec F S256x1 .f32) (y : S1x8320x256.Idx) :
    ∀ n, n ≤ 32 → (y 1).val < 128 + 256 * n →
    v.read (Elt F) (v.writes (Elt F) f (Outer.pieces (k0_pay130 x5) (k0_pay131 x6) (k0_pay132 (metaKeys x3)) (metaVals x4) x2 x3 x4 n
      ++ [first x2 x3 x4 x5 x6])) y = blockOut x2 x3 x4 x5 x6 y
  | 0, _, h => by
    have h' : (y 1).val < 128 := h
    have h0 : (y 0).val < 1 := (y 0).isLt
    have e : y = (Rect.unit (s := S1x8320x256) ![0, 0, 0] S1x128x256.size inb_S1x8320x256_S1x128x256_0_0_0).emb (ix3 0 ⟨(y 1).val, h'⟩ (y 2)) := by
      funext a
      refine Fin.ext ?_
      fin_cases a
      · show (y 0).val = 0 + 1 * 0
        omega
      · show (y 1).val = 0 + 1 * (y 1).val
        omega
      · show (y 2).val = 0 + 1 * (y 2).val
        omega
    have r := View.read_writes_cons_emb v f (Rect.unit (s := S1x8320x256) ![0, 0, 0] S1x128x256.size inb_S1x8320x256_S1x128x256_0_0_0)
      (headOut (k0_pay130 x5) (k0_pay131 x6) x3 x4 (headQueries x2)) [] (ix3 0 ⟨(y 1).val, h'⟩ (y 2))
    rw [← e] at r
    refine (r : _).trans ?_
    rw [blockOut, dif_pos h']
  | n + 1, hn, h => by
    have hk : n < k0_t2_loop.trips := lt_of_lt_of_eq (Nat.lt_of_succ_le hn) trips2.symm
    rw [Outer.pieces_succ _ _ _ _ _ _ _ ⟨n, hk⟩, List.cons_append]
    obtain ⟨o0, o1, o2⟩ := Outer.k0_off4_eq ⟨n, hk⟩
    have h0 : (y 0).val < 1 := (y 0).isLt
    by_cases hy : (y 1).val < 128 + 256 * n
    · rw [Outer.piece, View.read_writes_cons_miss_of_axis _ _ _ _ _ 1 (128 + 256 * n) 256 o1 rfl rfl (Or.inl hy)]
      exact read_pieces v f x2 x3 x4 x5 x6 y n (by omega) hy
    · have hm : (y 1).val - (128 + 256 * n) < 256 := by omega
      have e : y = (Rect.unit (s := S1x8320x256) (k0_off4 ⟨n, hk⟩) S1x256x256.size (k0_off4_inb ⟨n, hk⟩)).emb (ix3 0 ⟨(y 1).val - (128 + 256 * n), hm⟩ (y 2)) := by
        funext a
        refine Fin.ext ?_
        fin_cases a
        · show (y 0).val = k0_off4 ⟨n, hk⟩ 0 + 1 * 0
          omega
        · show (y 1).val = k0_off4 ⟨n, hk⟩ 1 + 1 * ((y 1).val - (128 + 256 * n))
          rw [o1]
          show (y 1).val = 128 + 256 * n + 1 * ((y 1).val - (128 + 256 * n))
          omega
        · show (y 2).val = k0_off4 ⟨n, hk⟩ 2 + 1 * (y 2).val
          omega
      have r := View.read_writes_cons_emb v f (Rect.unit (s := S1x8320x256) (k0_off4 ⟨n, hk⟩) S1x256x256.size (k0_off4_inb ⟨n, hk⟩))
        (tile x2 x3 x4 x5 x6 n)
        (Outer.pieces (k0_pay130 x5) (k0_pay131 x6) (k0_pay132 (metaKeys x3)) (metaVals x4) x2 x3 x4 n ++ [first x2 x3 x4 x5 x6])
        (ix3 0 ⟨(y 1).val - (128 + 256 * n), hm⟩ (y 2))
      rw [← e] at r
      refine (r : _).trans ?_
      have q1 : ((y 1).val - 128) / 256 = n := by omega
      have q2 : ((y 1).val - 128) % 256 = (y 1).val - (128 + 256 * n) := by omega
      rw [blockOut, dif_neg (by omega)]
      simp only [q1, q2]

variable (c : Dev nD) (i : grid0.Coords)
  (arg2 : Memref sig .tc .vmem S1x8320x256 .bf16) (harg2 : arg2.IsWhole)
  (arg3 : Memref sig .tc .vmem S1x8320x256 .bf16) (harg3 : arg3.IsWhole)
  (arg4 : Memref sig .tc .vmem S256x8320 .bf16) (harg4 : arg4.IsWhole)
  (arg5 : Memref sig .tc .vmem S4x128 .f32) (harg5 : arg5.IsWhole)
  (arg6 : Memref sig .tc .vmem S256x1 .f32) (harg6 : arg6.IsWhole)
  (arg7 : Memref sig .tc .vmem S1x8320x256 .bf16) (harg7 : arg7.IsWhole)
  (arg8 : Memref sig .tc .vmem S256x256 .f32) (harg8 : arg8.IsWhole)
  (arg9 : Memref sig .tc .vmem S256x256 .f32) (harg9 : arg9.IsWhole)
  (arg10 : Memref sig .tc .vmem S512x256 .f32) (harg10 : arg10.IsWhole)
  (arg11 : Memref sig .tc .vmem S512x256 .f32) (harg11 : arg11.IsWhole)
  (arg12 : Memref sig .tc .vmem S512x256 .f32) (harg12 : arg12.IsWhole)
  (arg13 : Memref sig .tc .vmem S512x256 .f32) (harg13 : arg13.IsWhole)

/-- One grid point runs: it leaves its inputs alone and fills the output block. -/
theorem run (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) :
   (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp 𝕄)
   ⊢ wp frame (wpE defs₀ 𝒱₀ (c : Thread nD τ) none) Set.univ (cc0_diff_attn (F := F) i arg2 harg2 arg3 harg3 arg4 harg4 arg5 harg5 arg6 harg6 arg7 harg7 arg8 harg8 arg9 harg9 arg10 harg10 arg11 harg11 arg12 harg12 arg13 harg13)
     (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
       ∗ (∃ f, (arg7.view.loc (c : Thread nD τ) ↦[arg7.view.set]{fullShare} f) ∗ ⌜arg7.view.read (Elt F) f = blockOut (arg2.view.read (Elt F) X2) (arg3.view.read (Elt F) X3) (arg4.view.read (Elt F) X4) (arg5.view.read (Elt F) X5) (arg6.view.read (Elt F) X6)⌝)
       ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)))) := by
  iintro ⟨H2, H3, H4, H5, H6, H7, H8, H9, H10, H11, H12, H13⟩
  sl_exec
  sl_step
  have eQ := readAt_headQueries arg2.view X2 inb_S1x8320x256_S1x128x256_0_0_0
  have eK := readAt_metaKeys arg3.view X3 inb_S1x8320x256_S1x16x256_0_112_0
  have eV := readAt_metaVals arg4.view X4 inb_S256x8320_S256x16_0_112
  have e5 := readAt_lam arg5.view X5 inb_S4x128_S4x128_0_0
  have e6 := readAt_gain arg6.view X6 inb_S256x1_S256x1_0_0
  have eC : ∀ inb, View.readAt (Elt F) arg3.view (Rect.unit (s := S1x8320x256) ![0, 128, 0] S1x512x256.size inb).toLoadRect X3 = keyChunk (arg3.view.read (Elt F) X3) 0 :=
    fun inb => readAt_keys _ _ inb _ rfl rfl rfl
  have E8 := readAt_writes_last arg8.view f8 (Rect.unit (s := S256x256) ![0, 0] S256x128.size inb_S256x256_S256x128_0_0)
      (k0_pay139 (metaKeys (arg3.view.read (Elt F) X3)) (metaVals (arg4.view.read (Elt F) X4)) (headQueries (arg2.view.read (Elt F) X2))) []
  have E9 := readAt_writes_last arg9.view f9 (Rect.unit (s := S256x256) ![0, 0] S256x128.size inb_S256x256_S256x128_0_0)
      (k0_pay144 (k0_pay132 (metaKeys (arg3.view.read (Elt F) X3))) (metaVals (arg4.view.read (Elt F) X4)) (k0_pay135 (headQueries (arg2.view.read (Elt F) X2)))) []
  have E10 := readAt_writes_last arg10.view f10 (Rect.unit (s := S512x256) ![0, 0] S512x128.size inb_S512x256_S512x128_0_0)
      (k0_pay147 (k0_pay134 (headQueries (arg2.view.read (Elt F) X2))) (keyChunk (arg3.view.read (Elt F) X3) 0)) []
  have E11 := readAt_writes_last arg11.view f11 (Rect.unit (s := S512x256) ![0, 0] S512x128.size inb_S512x256_S512x128_0_0)
      (k0_pay148 (k0_pay135 (headQueries (arg2.view.read (Elt F) X2))) (keyChunk (arg3.view.read (Elt F) X3) 0)) []
  isplitl [H2]; · iexact H2
  isplitl [H3]; · iexact H3
  isplitl [H4]; · iexact H4
  isplitl [H5]; · iexact H5
  isplitl [H6]; · iexact H6
  isplitl [H7]
  · iexists _; isplitl [H7]; · iexact H7
    ipureintro
    funext y
    refine Eq.trans ?_ (read_pieces arg7.view f7 (arg2.view.read (Elt F) X2) (arg3.view.read (Elt F) X3) (arg4.view.read (Elt F) X4) (arg5.view.read (Elt F) X5) (arg6.view.read (Elt F) X6) y 32 le_rfl (y 1).isLt)
    rw [first, headOut, headFull0, headFull1, headStart0, headStart1]
    rw [← E8, ← E9, ← E10, ← E11]
    delta run.sl.r_11 run.sl.r_10 run.sl.r_9 run.sl.r_8 run.sl.r_7 run.sl.r_6 run.sl.r_5 run.sl.r_4 run.sl.r_3 run.sl.r_2 run.sl.r_1 run.sl.r
    simp only [eQ, eK, eV, e5, e6, eC, trips1, trips2]
    rfl
  isplitl [H8]; · iexists _; iexact H8
  isplitl [H9]; · iexists _; iexact H9
  isplitl [H10]; · iexists _; iexact H10
  isplitl [H11]; · iexists _; iexact H11
  isplitl [H12]; · iexists _; iexact H12
  iexists _; iexact H13

end Point
end Cert.KernelIdeal.Attn
-- ==== Proof.Run.lean ====
module

public import proofs.«01_k».proof.Proof.Point
public import Idealize.ShloMosaic.Lib.Claim

/-!
# The run of the whole call

The pipeline's proof data: each input window holds its block, the output window holds `blockOut` of the blocks. With
the run of one point this gives the run of the program at any floats, and its frame.

-/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

open Idealize.ShloMosaic.Rounds
open Idealize.ShloMosaic.Pipeline (Dat Cfg Window BodyObligation cellOf)

local notation "𝕄" => MT nD τ sig Unit (Elt F) ℕ (UR sig nD τ) ℕ

variable (m : (ℓ : Loc nD τ sig) → Buf (Elt F) ℓ) (ρ : Dev nD → PrngReg)

/-- Window 0's staging buffer at point `t`. -/
abbrev ms0_0 (t : Fin cfg0.N) := win0_0.stage (cfg0.slots t 0)
abbrev hs0_0 (t : Fin cfg0.N) := hstage0_0 ((cfg0.slots t 0).cast nbuf0_0)

/-- Window 1's staging buffer at point `t`. -/
abbrev ms0_1 (t : Fin cfg0.N) := win0_1.stage (cfg0.slots t 1)
abbrev hs0_1 (t : Fin cfg0.N) := hstage0_1 ((cfg0.slots t 1).cast nbuf0_1)

/-- Window 2's staging buffer at point `t`. -/
abbrev ms0_2 (t : Fin cfg0.N) := win0_2.stage (cfg0.slots t 2)
abbrev hs0_2 (t : Fin cfg0.N) := hstage0_2 ((cfg0.slots t 2).cast nbuf0_2)

/-- Window 3's staging buffer at point `t`. -/
abbrev ms0_3 (t : Fin cfg0.N) := win0_3.stage (cfg0.slots t 3)
abbrev hs0_3 (t : Fin cfg0.N) := hstage0_3 ((cfg0.slots t 3).cast nbuf0_3)

/-- Window 4's staging buffer at point `t`. -/
abbrev ms0_4 (t : Fin cfg0.N) := win0_4.stage (cfg0.slots t 4)
abbrev hs0_4 (t : Fin cfg0.N) := hstage0_4 ((cfg0.slots t 4).cast nbuf0_4)

/-- Window 5's staging buffer at point `t`. -/
abbrev ms0_5 (t : Fin cfg0.N) := win0_5.stage (cfg0.slots t 5)
abbrev hs0_5 (t : Fin cfg0.N) := hstage0_5 ((cfg0.slots t 5).cast nbuf0_5)
/-- Scratch buffer 0. -/
abbrev scM0_0 : Memref sig .tc .vmem S256x256 .f32 := Memref.whole cc0_scratch0

/-- Scratch buffer 1. -/
abbrev scM0_1 : Memref sig .tc .vmem S256x256 .f32 := Memref.whole cc0_scratch1

/-- Scratch buffer 2. -/
abbrev scM0_2 : Memref sig .tc .vmem S512x256 .f32 := Memref.whole cc0_scratch2

/-- Scratch buffer 3. -/
abbrev scM0_3 : Memref sig .tc .vmem S512x256 .f32 := Memref.whole cc0_scratch3

/-- Scratch buffer 4. -/
abbrev scM0_4 : Memref sig .tc .vmem S512x256 .f32 := Memref.whole cc0_scratch4

/-- Scratch buffer 5. -/
abbrev scM0_5 : Memref sig .tc .vmem S512x256 .f32 := Memref.whole cc0_scratch5

/-- What the output window holds after point `t`. -/
def outAt (c : Dev nD) (t : Fin cfg0.N) : Vec F S1x8320x256 .bf16 :=
  Point.blockOut (iblk m c 0 t) (iblk m c 1 t) (iblk m c 2 t) (iblk m c 3 t) (iblk m c 4 t)

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The pipeline's invariant, its scratch buffers one by one. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA
  rw [scopedRest0_eq]
  simp only [scM0_0, scM0_1, scM0_2, scM0_3, scM0_4, scM0_5, owns_whole]
  try rfl

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  unfold owns outAt
  iintro ⟨⟨⟨⟨%s0, %g0, %p0, S0⟩, ⟨%s1, %g1, %p1, S1⟩, ⟨%s2, %g2, %p2, S2⟩, ⟨%s3, %g3, %p3, S3⟩, ⟨%s4, %g4, %p4, S4⟩, ⟨%s5, %g5, %p5, S5⟩⟩, HR⟩, Ho, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩⟩
  rw [← e0, ← e1, ← e2, ← e3, ← e4]
  iapply (wp_wand_r Idealize.ShloMosaic.frame (wpE (defs₀ (F := F)) Variants.none (c : Thread nD τ) none) Set.univ)
  isplitl [H0 H1 H2 H3 H4 H5 S0 S1 S2 S3 S4 S5]
  · iapply (Point.run c (grid0.coords t) (ms0_0 t) (hs0_0 t) (ms0_1 t) (hs0_1 t) (ms0_2 t) (hs0_2 t) (ms0_3 t) (hs0_3 t) (ms0_4 t) (hs0_4 t) (ms0_5 t) (hs0_5 t) (scM0_0) (Memref.isWhole_whole _) (scM0_1) (Memref.isWhole_whole _) (scM0_2) (Memref.isWhole_whole _) (scM0_3) (Memref.isWhole_whole _) (scM0_4) (Memref.isWhole_whole _) (scM0_5) (Memref.isWhole_whole _) f0 f1 f2 f3 f4 f5 g0 g1 g2 g3 g4 g5)
    isplitl [H0]; · iexact H0
    isplitl [H1]; · iexact H1
    isplitl [H2]; · iexact H2
    isplitl [H3]; · iexact H3
    isplitl [H4]; · iexact H4
    isplitl [H5]; · iexact H5
    isplitl [S0]; · iexact S0
    isplitl [S1]; · iexact S1
    isplitl [S2]; · iexact S2
    isplitl [S3]; · iexact S3
    isplitl [S4]; · iexact S4
    iexact S5
  · iintro %r ⟨H0, H1, H2, H3, H4, ⟨%f, H5, %ef⟩, ⟨%h0, S0⟩, ⟨%h1, S1⟩, ⟨%h2, S2⟩, ⟨%h3, S3⟩, ⟨%h4, S4⟩, ⟨%h5, S5⟩⟩
    isplitl [S0 S1 S2 S3 S4 S5 HR]
    · isplitl [S0 S1 S2 S3 S4 S5]
      · isplitl [S0]
        · iexists _; iexists _; isplitr
          swap; · iexact S0
          ipureintro; rfl
        isplitl [S1]
        · iexists _; iexists _; isplitr
          swap; · iexact S1
          ipureintro; rfl
        isplitl [S2]
        · iexists _; iexists _; isplitr
          swap; · iexact S2
          ipureintro; rfl
        isplitl [S3]
        · iexists _; iexists _; isplitr
          swap; · iexact S3
          ipureintro; rfl
        isplitl [S4]
        · iexists _; iexists _; isplitr
          swap; · iexact S4
          ipureintro; rfl
        iexists _; iexists _; isplitr
        swap; · iexact S5
        ipureintro; rfl
      · iexact HR
    isplitl [Ho]; · iexact Ho
    isplitl [H0]
    · iexists _; isplitr
      swap; · iexact H0
      ipureintro; rfl
    isplitl [H1]
    · iexists _; isplitr
      swap; · iexact H1
      ipureintro; rfl
    isplitl [H2]
    · iexists _; isplitr
      swap; · iexact H2
      ipureintro; rfl
    isplitl [H3]
    · iexists _; isplitr
      swap; · iexact H3
      ipureintro; rfl
    isplitl [H4]
    · iexists _; isplitr
      swap; · iexact H4
      ipureintro; rfl
    iexists _; isplitr
    swap; · iexact H5
    ipureintro; exact ef

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: the arrays end at what the proof data says, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame, at any floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.KernelIdeal.Attn
-- ==== Proof.FrameKernel.lean ====
module

public import proofs.«01_k».proof.Defs
public import proofs.«01_k».proof.Proof.Gen.Kernel
public import proofs.«01_k».proof.Proof.Gen.KernelIdeal
public import proofs.«01_k».proof.Proof.Run

/-!
# The frame of the kernel at the machine's floats

The kernel and its ideal text are the same text, so the one run serves both.
-/

@[expose] public section

set_option maxRecDepth 16384

noncomputable section

namespace Cert.Proof

open Idealize.ShloMosaic Idealize.SL.Sem

attribute [local instance] Cert.Kernel.Gen.facts Cert.KernelIdeal.Gen.facts

/-- Both body tables have one label, with one body. -/
theorem bodies_eq : Cert.Kernel.defs₀ (F := Bits) = Cert.KernelIdeal.defs₀ (F := Bits) := by
  unfold Cert.Kernel.defs₀ Cert.KernelIdeal.defs₀
  refine congrArg Defs.onTc ?_
  funext l a
  rcases l with ⟨l, h⟩
  cases l with
  | zero => rfl
  | succ n => exact absurd h (Nat.not_lt.2 (Nat.le_add_left _ _))

theorem defs_eq : Cert.Kernel.defs (F := Bits) = Cert.KernelIdeal.defs (F := Bits) := by
  unfold Cert.Kernel.defs Cert.KernelIdeal.defs
  exact congrArg (Pipeline.defs (Cert.KernelIdeal.pcfgs (F := Bits))) bodies_eq

/-- The kernel runs and changes nothing but its result. -/
theorem frame_kernel : Cert.quiescent_Kernel := fun m ρ _ => by
  have h := Cert.KernelIdeal.Attn.frame (F := Bits) m ρ
  rw [← defs_eq] at h
  exact h

end Cert.Proof

end
-- ==== Proof.Inputs.lean ====
module

public import proofs.«01_k».proof.Pre_finite
public import Idealize.ShloMosaic.PureOps.Ideal
public import Idealize.ShloMosaic.Lib.ReduceAll
public import Idealize.ShloMosaic.Lib.Pointwise

/-!
# The precondition, read back

`finite` of the arguments is one exactly where every query, key, value and vector entry is a real number.
-/

@[expose] public section

set_option maxRecDepth 16384

noncomputable section

namespace Cert.Pre_finite.Read

open Cert.Pre_finite
open Idealize.ShloMosaic

theorem bits_inf : Ideal.ofBits .f32 0x7F800000#32 = ⊤ := by simp [Ideal.ofBits, Ideal.ieee]

/-- A number whose absolute value is below infinity is neither infinity. -/
theorem real_of_lt (x : EReal) (h : FloatOps.cmpf (F := Ideal) (φ := .f32) .olt (max x (-x)) (Ideal.ofBits .f32 0x7F800000#32) = 1#1) :
    x ≠ ⊥ ∧ x ≠ ⊤ := by
  rw [bits_inf] at h
  refine ⟨?_, ?_⟩
  · rintro rfl
    have h' : Ideal.cmp .olt ⊤ ⊤ = 1#1 := by
      rw [show max (⊥ : EReal) (-⊥) = ⊤ by simp] at h
      exact h
    simp [Ideal.cmp] at h'
  · rintro rfl
    have h' : Ideal.cmp .olt ⊤ ⊤ = 1#1 := by
      rw [show max (⊤ : EReal) (-⊤) = ⊤ by simp] at h
      exact h
    simp [Ideal.cmp] at h'

variable [Facts]

/-- What the precondition says of the arguments. -/
structure Real (a0 : FVec Ideal S33280x8192 .bf16) (a1 : FVec Ideal S2048x33280 .bf16) (a2 a3 a4 a5 : FVec Ideal S128 .f32) : Prop where
  rows : ∀ (i : Fin 33280) (j : Fin 8192), j.val < 2048 → a0 (ix2 i j) ≠ (⊥ : EReal) ∧ a0 (ix2 i j) ≠ (⊤ : EReal)
  vals : ∀ (i : Fin 2048) (j : Fin 33280), i.val < 1024 → a1 (ix2 i j) ≠ (⊥ : EReal) ∧ a1 (ix2 i j) ≠ (⊤ : EReal)
  vec2 : ∀ i : Fin 128, a2 (ix1 i) ≠ (⊥ : EReal) ∧ a2 (ix1 i) ≠ (⊤ : EReal)
  vec3 : ∀ i : Fin 128, a3 (ix1 i) ≠ (⊥ : EReal) ∧ a3 (ix1 i) ≠ (⊤ : EReal)
  vec4 : ∀ i : Fin 128, a4 (ix1 i) ≠ (⊥ : EReal) ∧ a4 (ix1 i) ≠ (⊤ : EReal)
  vec5 : ∀ i : Fin 128, a5 (ix1 i) ≠ (⊥ : EReal) ∧ a5 (ix1 i) ≠ (⊤ : EReal)

instance : Subsingleton S_.Idx := ⟨fun a b => funext fun i => i.elim0⟩

theorem real_of_pre {a0 : FVec Ideal S33280x8192 .bf16} {a1 : FVec Ideal S2048x33280 .bf16} {a2 a3 a4 a5 : FVec Ideal S128 .f32} {a6 : FVec Ideal S256 .f32}
    (h : fn (F := Ideal) a0 a1 a2 a3 a4 a5 a6 = fun _ => 1#1) : Real a0 a1 a2 a3 a4 a5 := by
  have h' := congrFun h (fun a => a.elim0)
  dsimp only [fn, fn_part1] at h'
  obtain ⟨h', p5⟩ := IntOp.andi_eq_one.1 h'
  obtain ⟨h', p4⟩ := IntOp.andi_eq_one.1 h'
  obtain ⟨h', p3⟩ := IntOp.andi_eq_one.1 h'
  obtain ⟨h', p2⟩ := IntOp.andi_eq_one.1 h'
  obtain ⟨p0, p1⟩ := IntOp.andi_eq_one.1 h'
  have q0 := Host.reduce_andi_all _ _ _ _ _ p0
  have q1 := Host.reduce_andi_all _ _ _ _ _ p1
  have q2 := Host.reduce_andi_all _ _ _ _ _ p2
  have q3 := Host.reduce_andi_all _ _ _ _ _ p3
  have q4 := Host.reduce_andi_all _ _ _ _ _ p4
  have q5 := Host.reduce_andi_all _ _ _ _ _ p5
  refine ⟨fun i j hj => ?_, fun i j hi => ?_, fun i => ?_, fun i => ?_, fun i => ?_, fun i => ?_⟩
  · have q := q0 (ix2 i ⟨j.val, hj⟩)
    have e : extractStridedSlice S33280x2048 ![0, 0] a0 Facts.slices_S33280x8192_S33280x2048_0_0 (ix2 i ⟨j.val, hj⟩) = a0 (ix2 i j) := by pointwise
    refine real_of_lt _ ?_
    rw [← e]
    exact q
  · have q := q1 (ix2 ⟨i.val, hi⟩ j)
    have e : extractStridedSlice S1024x33280 ![0, 0] a1 Facts.slices_S2048x33280_S1024x33280_0_0 (ix2 ⟨i.val, hi⟩ j) = a1 (ix2 i j) := by pointwise
    refine real_of_lt _ ?_
    rw [← e]
    exact q
  · exact real_of_lt _ (q2 (ix1 i))
  · exact real_of_lt _ (q3 (ix1 i))
  · exact real_of_lt _ (q4 (ix1 i))
  · exact real_of_lt _ (q5 (ix1 i))

end Cert.Pre_finite.Read

end
-- ==== Proof.Reference.lean ====
module

public import proofs.«01_k».proof.Proof.Gen.ReferenceIdeal.Run
public import Idealize.ShloMosaic.Lib.Pointwise

/-!
# The reference, stage by stage

Names for the intermediate arrays of the reference, and each of them read at an index.
-/

@[expose] public section

set_option maxRecDepth 16384

noncomputable section

namespace Cert.ReferenceIdeal.Attn

open Cert.ReferenceIdeal Cert.ReferenceIdeal.Gen Cert.ReferenceIdeal.Value
open Idealize.ShloMosaic Idealize.ShloMosaic.TcCoe

/-- The queries, by batch entry, row, head, component and lane. -/
def queries (A0 : FVec Ideal S33280x8192 .bf16) : FVec Ideal S4x8320x4x2x128 .f32 :=
  shapeCast _ (extractStridedSlice S4x8320x1024 ![0, 0, 0] (shapeCast _ (extf .f32 A0 bitsLt_bf16_f32) shapeCasts_S33280x8192_S4x8320x8192)
    slices_S4x8320x8192_S4x8320x1024_0_0_0) shapeCasts_S4x8320x1024_S4x8320x4x2x128

/-- The keys, the padding rows left out. -/
def keys (A0 : FVec Ideal S33280x8192 .bf16) : FVec Ideal S4x8208x4x2x128 .f32 :=
  shapeCast _ (extractStridedSlice S4x8208x1024 ![0, 112, 1024] (shapeCast _ (extf .f32 A0 bitsLt_bf16_f32) shapeCasts_S33280x8192_S4x8320x8192)
    slices_S4x8320x8192_S4x8208x1024_0_112_1024) shapeCasts_S4x8208x1024_S4x8208x4x2x128

/-- The values, the padding rows left out. -/
def vals (A1 : FVec Ideal S2048x33280 .bf16) : FVec Ideal S4x8208x4x256 .f32 :=
  extractStridedSlice S4x8208x4x256 ![0, 112, 0, 0] (shapeCast _ (transpose S33280x1024 [1, 0]
    (extractStridedSlice S1024x33280 ![0, 0] (extf .f32 A1 bitsLt_bf16_f32) slices_S2048x33280_S1024x33280_0_0)
    transposes_S1024x33280_S33280x1024_1_0) shapeCasts_S33280x1024_S4x8320x4x256) slices_S4x8320x4x256_S4x8208x4x256_0_112_0_0

/-- The factor of the second softmax. -/
def lam (a2 a3 a4 a5 : FVec Ideal S128 .f32) : FVec Ideal S_ .f32 :=
  addf (subf (Host.exp (Host.reduceAdd (mulf a2 a3) (constant S_ .f32 0x00000000#32) reducesTo_S128_S_d0 h_S_))
    (Host.exp (Host.reduceAdd (mulf a4 a5) (constant S_ .f32 0x00000000#32) reducesTo_S128_S_d0 h_S_))) (constant S_ .f32 0x3E4CCCCD#32)

/-- The scores, in the units of the exponential. -/
def scores (q : FVec Ideal S4x8320x4x2x128 .f32) (k : FVec Ideal S4x8208x4x2x128 .f32) : FVec Ideal S4x4x2x8320x8208 .f32 :=
  mulf (Host.dotGeneral dot_S4x8320x4x2x128_S4x8208x4x2x128_S4x4x2x8320x8208_4_4_1_1_023_023 none q k)
    (broadcastInDim S4x4x2x8320x8208 ![] bcast_S_S4x4x2x8320x8208 (Host.log (constant S_ .f32 0x40000000#32)))

/-- The largest score of a row. -/
def top (s : FVec Ideal S4x4x2x8320x8208 .f32) : FVec Ideal S4x4x2x8320 .f32 :=
  maximumf (broadcastInDim S4x4x2x8320 ![] bcast_S_S4x4x2x8320 (constant S_ .f32 0xFF800000#32))
    (Host.reduce FloatOps.maximumf s (constant S_ .f32 0xFF800000#32) reducesTo_S4x4x2x8320x8208_S4x4x2x8320_d4 h_S_)

/-- The exponentials of the shifted scores. -/
def expo (s : FVec Ideal S4x4x2x8320x8208 .f32) : FVec Ideal S4x4x2x8320x8208 .f32 :=
  Host.exp (subf s (broadcastInDim S4x4x2x8320x8208 ![0, 1, 2, 3, 4] bcast_S4x4x2x8320x1_S4x4x2x8320x8208_0_1_2_3_4
    (broadcastInDim S4x4x2x8320x1 ![0, 1, 2, 3] bcast_S4x4x2x8320_S4x4x2x8320x1_0_1_2_3 (top s))))

/-- The softmax of exponentials. -/
def soft (p : FVec Ideal S4x4x2x8320x8208 .f32) : FVec Ideal S4x4x2x8320x8208 .f32 :=
  Host.divf p (broadcastInDim S4x4x2x8320x8208 ![0, 1, 2, 3, 4] bcast_S4x4x2x8320x1_S4x4x2x8320x8208_0_1_2_3_4
    (broadcastInDim S4x4x2x8320x1 ![0, 1, 2, 3] bcast_S4x4x2x8320_S4x4x2x8320x1_0_1_2_3
      (Host.reduceAdd p (constant S_ .f32 0x00000000#32) reducesTo_S4x4x2x8320x8208_S4x4x2x8320_d4 h_S_)))

/-- The difference of the two components. -/
def weights (l : FVec Ideal S_ .f32) (p : FVec Ideal S4x4x2x8320x8208 .f32) : FVec Ideal S4x4x8320x8208 .f32 :=
  subf (shapeCast _ (extractStridedSlice S4x4x1x8320x8208 ![0, 0, 0, 0, 0] p slices_S4x4x2x8320x8208_S4x4x1x8320x8208_0_0_0_0_0)
      shapeCasts_S4x4x1x8320x8208_S4x4x8320x8208)
    (mulf (broadcastInDim S4x4x8320x8208 ![] bcast_S_S4x4x8320x8208 l)
      (shapeCast _ (extractStridedSlice S4x4x1x8320x8208 ![0, 0, 1, 0, 0] p slices_S4x4x2x8320x8208_S4x4x1x8320x8208_0_0_1_0_0)
        shapeCasts_S4x4x1x8320x8208_S4x4x8320x8208))

/-- The weighted values, by batch entry, row, head and column. -/
def mixed (v : FVec Ideal S4x8208x4x256 .f32) (w : FVec Ideal S4x4x8320x8208 .f32) : FVec Ideal S4x8320x4x256 .f32 :=
  transpose S4x8320x4x256 [0, 3, 1, 2] (Host.dotGeneral dot_S4x8208x4x256_S4x4x8320x8208_S4x4x256x8320_1_3_3_2_02_01 none v w)
    transposes_S4x4x256x8320_S4x8320x4x256_0_3_1_2

/-- Each row over its root mean square, times the gain and the constant. -/
def scaled (a6 : FVec Ideal S256 .f32) (o : FVec Ideal S4x8320x4x256 .f32) : FVec Ideal S4x8320x4x256 .f32 :=
  mulf (mulf (mulf o (broadcastInDim S4x8320x4x256 ![0, 1, 2, 3] bcast_S4x8320x4x1_S4x8320x4x256_0_1_2_3
      (Host.rsqrt (addf (Host.divf (broadcastInDim S4x8320x4x1 ![0, 1, 2] bcast_S4x8320x4_S4x8320x4x1_0_1_2
          (Host.reduceAdd (mulf o o) (constant S_ .f32 0x00000000#32) reducesTo_S4x8320x4x256_S4x8320x4_d3 h_S_))
          (broadcastInDim S4x8320x4x1 ![] bcast_S_S4x8320x4x1 (constant S_ .f32 0x43800000#32)))
        (broadcastInDim S4x8320x4x1 ![] bcast_S_S4x8320x4x1 (constant S_ .f32 0x358637BD#32))))))
      (broadcastInDim S4x8320x4x256 ![0, 1, 2, 3] bcast_S1x1x1x256_S4x8320x4x256_0_1_2_3 (broadcastInDim S1x1x1x256 ![3] bcast_S256_S1x1x1x256_3 a6)))
    (broadcastInDim S4x8320x4x256 ![] bcast_S_S4x8320x4x256 (constant S_ .f32 0x3F4CCCCD#32))

/-- The result from its arguments. -/
def out (A0 : FVec Ideal S33280x8192 .bf16) (A1 : FVec Ideal S2048x33280 .bf16) (a2 a3 a4 a5 : FVec Ideal S128 .f32) (a6 : FVec Ideal S256 .f32) :
    FVec Ideal S4x8320x1024 .bf16 :=
  truncf .bf16 (shapeCast _ (scaled a6 (mixed (vals A1) (weights (lam a2 a3 a4 a5) (soft (expo (scores (queries A0) (keys A0)))))))
    shapeCasts_S4x8320x4x256_S4x8320x1024) bitsLt_bf16_f32

theorem res_eq (m : (ℓ : Loc nD τ sig) → Buf (Elt Ideal) ℓ) (c : Dev nD) :
    res_out0 m c = out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) := rfl

theorem queries_apply (A0 : FVec Ideal S33280x8192 .bf16) (b : Fin 4) (r : Fin 8320) (h : Fin 4) (c : Fin 2) (d : Fin 128) :
    queries A0 (ix5 b r h c d) = A0 (ix2 ⟨8320 * b.val + r.val, by omega⟩ ⟨256 * h.val + (128 * c.val + d.val), by omega⟩) := by
  unfold queries
  pointwise
  exact congrArg A0 (congrArg₂ ix2 (Fin.ext (by dsimp only; omega)) (Fin.ext (by dsimp only; omega)))

theorem keys_apply (A0 : FVec Ideal S33280x8192 .bf16) (b : Fin 4) (k : Fin 8208) (h : Fin 4) (c : Fin 2) (d : Fin 128) :
    keys A0 (ix5 b k h c d) = A0 (ix2 ⟨8320 * b.val + (112 + k.val), by omega⟩ ⟨1024 + 256 * h.val + (128 * c.val + d.val), by omega⟩) := by
  unfold keys
  pointwise
  exact congrArg A0 (congrArg₂ ix2 (Fin.ext (by dsimp only; omega)) (Fin.ext (by dsimp only; omega)))

theorem vals_apply (A1 : FVec Ideal S2048x33280 .bf16) (b : Fin 4) (k : Fin 8208) (h : Fin 4) (e : Fin 256) :
    vals A1 (ix4 b k h e) = A1 (ix2 ⟨256 * h.val + e.val, by omega⟩ ⟨8320 * b.val + (112 + k.val), by omega⟩) := by
  unfold vals
  pointwise
  exact congrArg A1 (congrArg₂ ix2 (Fin.ext (by dsimp only; omega)) (Fin.ext (by dsimp only; omega)))

theorem lam_apply (a2 a3 a4 a5 : FVec Ideal S128 .f32) : lam a2 a3 a4 a5 ix0
    = Ideal.exp (∑ i : Fin 128, a2 (ix1 i) * a3 (ix1 i)) - Ideal.exp (∑ i : Fin 128, a4 (ix1 i) * a5 (ix1 i)) + Ideal.ofBits .f32 0x3E4CCCCD#32 := by
  unfold lam
  pointwise

theorem scores_apply (q : FVec Ideal S4x8320x4x2x128 .f32) (k : FVec Ideal S4x8208x4x2x128 .f32) (b h : Fin 4) (c : Fin 2) (r : Fin 8320) (x : Fin 8208) :
    scores q k (ix5 b h c r x) = (∑ d : Fin 128, q (ix5 b r h c d) * k (ix5 b x h c d)) * Ideal.log (Ideal.ofBits .f32 0x40000000#32) := by
  unfold scores
  pointwise

/-- A row's scores folded into their maximum. -/
theorem fold_apply (s : FVec Ideal S4x4x2x8320x8208 .f32) (b h : Fin 4) (c : Fin 2) (r : Fin 8320) :
    Host.reduce FloatOps.maximumf s (constant (F := Ideal) S_ .f32 0xFF800000#32) reducesTo_S4x4x2x8320x8208_S4x4x2x8320_d4 h_S_ (ix4 b h c r)
      = Finset.univ.fold FloatOps.maximumf (Ideal.ofBits .f32 0xFF800000#32) fun x : Fin 8208 => s (ix5 b h c r x) := by
  rw [Host.reduce_eq_fold]
  exact Shape.ReducesTo.fold_fiber_r5_a4 reducesTo_S4x4x2x8320x8208_S4x4x2x8320_d4 (ix4 b h c r) _ _ _

theorem max_apply (u : FVec Ideal S4x4x2x8320 .f32) (y : S4x4x2x8320.Idx) :
    maximumf (broadcastInDim S4x4x2x8320 ![] bcast_S_S4x4x2x8320 (constant S_ .f32 0xFF800000#32)) u y = FloatOps.maximumf (φ := .f32) (Ideal.ofBits .f32 0xFF800000#32) (u y) := rfl

theorem top_apply (s : FVec Ideal S4x4x2x8320x8208 .f32) (b h : Fin 4) (c : Fin 2) (r : Fin 8320) :
    top s (ix4 b h c r) = FloatOps.maximumf (φ := .f32) (Ideal.ofBits .f32 0xFF800000#32)
      (Finset.univ.fold FloatOps.maximumf (Ideal.ofBits .f32 0xFF800000#32) fun x : Fin 8208 => s (ix5 b h c r x)) := by
  unfold top
  rw [max_apply, fold_apply]

theorem expo_apply (s : FVec Ideal S4x4x2x8320x8208 .f32) (b h : Fin 4) (c : Fin 2) (r : Fin 8320) (x : Fin 8208) :
    expo s (ix5 b h c r x) = Ideal.exp (s (ix5 b h c r x) - top s (ix4 b h c r)) := by
  unfold expo
  pointwise

theorem soft_apply (p : FVec Ideal S4x4x2x8320x8208 .f32) (b h : Fin 4) (c : Fin 2) (r : Fin 8320) (x : Fin 8208) :
    soft p (ix5 b h c r x) = Ideal.div (p (ix5 b h c r x)) (∑ y : Fin 8208, p (ix5 b h c r y)) := by
  unfold soft
  pointwise

theorem weights_apply (l : FVec Ideal S_ .f32) (p : FVec Ideal S4x4x2x8320x8208 .f32) (b h : Fin 4) (r : Fin 8320) (x : Fin 8208) :
    weights l p (ix4 b h r x) = p (ix5 b h 0 r x) - l ix0 * p (ix5 b h 1 r x) := by
  unfold weights
  pointwise

theorem mixed_apply (v : FVec Ideal S4x8208x4x256 .f32) (w : FVec Ideal S4x4x8320x8208 .f32) (b : Fin 4) (r : Fin 8320) (h : Fin 4) (e : Fin 256) :
    mixed v w (ix4 b r h e) = ∑ x : Fin 8208, v (ix4 b x h e) * w (ix4 b h r x) := by
  unfold mixed
  pointwise

theorem scaled_apply (a6 : FVec Ideal S256 .f32) (o : FVec Ideal S4x8320x4x256 .f32) (b : Fin 4) (r : Fin 8320) (h : Fin 4) (e : Fin 256) :
    scaled a6 o (ix4 b r h e) = o (ix4 b r h e) * Ideal.rsqrt (Ideal.div (∑ x : Fin 256, o (ix4 b r h x) * o (ix4 b r h x)) (Ideal.ofBits .f32 0x43800000#32)
      + Ideal.ofBits .f32 0x358637BD#32) * a6 (ix1 e) * Ideal.ofBits .f32 0x3F4CCCCD#32 := by
  unfold scaled
  pointwise

theorem out_apply (A0 : FVec Ideal S33280x8192 .bf16) (A1 : FVec Ideal S2048x33280 .bf16) (a2 a3 a4 a5 : FVec Ideal S128 .f32) (a6 : FVec Ideal S256 .f32)
    (b : Fin 4) (r : Fin 8320) (n : Fin 1024) :
    out A0 A1 a2 a3 a4 a5 a6 (ix3 b r n)
      = scaled a6 (mixed (vals A1) (weights (lam a2 a3 a4 a5) (soft (expo (scores (queries A0) (keys A0)))))) (ix4 b r ⟨n.val / 256, by omega⟩ ⟨n.val % 256, by omega⟩) := by
  unfold out
  pointwise

end Cert.ReferenceIdeal.Attn

end
-- ==== Proof.Online.lean ====
module

public import Idealize.ShloMosaic.PureOps.Ideal
public import Idealize.ShloMosaic.PureOps.Ideal.Laws

/-!
# A softmax taken chunk by chunk

For real scores `s k` and values `V e k`, a running maximum, a running sum and an accumulator hold, after the keys 112
to `b - 1`, the sums of the powers of two of the scores, and of the values times those powers, all divided by two to
the running maximum. Which number that maximum is does not matter to the quotient of the two.
-/

@[expose] public section

noncomputable section

namespace Cert.KernelIdeal.Attn

open Idealize.ShloMosaic

theorem bits_negInf : Ideal.ofBits .f32 0xFF800000#32 = ⊥ := by simp [Ideal.ofBits, Ideal.ieee]
theorem bits_zero : Ideal.ofBits .f32 0x00000000#32 = 0 := by simp [Ideal.ofBits, Ideal.ieee]

/-- A sum of embedded reals is the embedded sum. -/
theorem coe_sum {ι : Type*} (t : Finset ι) (f : ι → ℝ) : (∑ i ∈ t, ((f i : ℝ) : EReal)) = ((∑ i ∈ t, f i : ℝ) : EReal) := by
  classical
  induction t using Finset.induction_on with
  | empty => simp
  | insert a t ha ih => rw [Finset.sum_insert ha, Finset.sum_insert ha, ih, EReal.coe_add]

/-- The powers of two over the extended reals, at a difference of reals. -/
theorem exp2_sub (x y : ℝ) : Ideal.exp2 ((x : EReal) - (y : EReal)) = (((2 : ℝ) ^ (x - y) : ℝ) : EReal) := by
  rw [← EReal.coe_sub, Ideal.exp2_coe]; rfl

/-- The maximum of finitely many reals, and one more, is a real. -/
theorem max_fold_real {n : ℕ} (M : ℝ) (f : Fin n → ℝ) :
    ∃ M' : ℝ, max (M : EReal) (Finset.univ.fold max (⊥ : EReal) fun i => ((f i : ℝ) : EReal)) = (M' : EReal) := by
  have h1 : max (M : EReal) (Finset.univ.fold max (⊥ : EReal) fun i => ((f i : ℝ) : EReal)) ≠ ⊥ :=
    ne_of_gt (lt_of_lt_of_le (EReal.bot_lt_coe M) (le_max_left _ _))
  have h2 : max (M : EReal) (Finset.univ.fold max (⊥ : EReal) fun i => ((f i : ℝ) : EReal)) ≠ ⊤ := by
    refine ne_of_lt (max_lt (EReal.coe_lt_top M) ?_)
    rw [Finset.fold_max_lt]
    exact ⟨bot_lt_top, fun i _ => EReal.coe_lt_top _⟩
  exact ⟨_, (EReal.coe_toReal h2 h1).symm⟩

/-- The maximum of at least one and finitely many reals is a real. -/
theorem fold_real {n : ℕ} (hn : 0 < n) (f : Fin n → ℝ) :
    ∃ M' : ℝ, (Finset.univ.fold max (⊥ : EReal) fun i => ((f i : ℝ) : EReal)) = (M' : EReal) := by
  obtain ⟨M', h⟩ := max_fold_real (f ⟨0, hn⟩) f
  refine ⟨M', Eq.trans (Eq.symm (max_eq_right ?_)) h⟩
  rw [Finset.le_fold_max]
  exact Or.inr ⟨_, Finset.mem_univ _, le_refl _⟩

/-- A sum over `n` consecutive keys from `a` on, as a sum over a range of keys. -/
theorem sum_fin_Ico (a n : ℕ) (f : ℕ → ℝ) : (∑ i : Fin n, f (a + i.val)) = ∑ k ∈ Finset.Ico a (a + n), f k := by
  rw [Finset.sum_Ico_eq_sum_range, Nat.add_sub_cancel_left, ← Fin.sum_univ_eq_sum_range (fun i => f (a + i))]

/-- Maximum `m`, sum `l` and accumulator `acc` after the keys 112 to `b - 1`. -/
def Taken (s : ℕ → ℝ) (V : ℕ → ℕ → ℝ) (b : ℕ) (m l : EReal) (acc : Fin 256 → EReal) : Prop :=
  ∃ M : ℝ, m = (M : EReal) ∧ l = ((∑ k ∈ Finset.Ico 112 b, (2 : ℝ) ^ (s k - M) : ℝ) : EReal)
    ∧ ∀ e : Fin 256, acc e = ((∑ k ∈ Finset.Ico 112 b, V e.val k * (2 : ℝ) ^ (s k - M) : ℝ) : EReal)

/-- The state after the sixteen meta keys. -/
theorem Taken.start (s : ℕ → ℝ) (V : ℕ → ℕ → ℝ) (sc : Fin 16 → EReal) (hsc : ∀ i, sc i = ((s (112 + i.val) : ℝ) : EReal))
    (vals : Fin 256 → Fin 16 → EReal) (hv : ∀ e i, vals e i = ((V e.val (112 + i.val) : ℝ) : EReal)) (m : EReal)
    (hm : m = Finset.univ.fold max (⊥ : EReal) sc) :
    Taken s V 128 m (∑ x, Ideal.exp2 (sc x - m)) (fun e => ∑ x, vals e x * Ideal.exp2 (sc x - m)) := by
  obtain ⟨M, hM⟩ := fold_real (n := 16) (by decide) fun i => s (112 + i.val)
  have hm' : m = (M : EReal) := by rw [hm, ← hM]; exact congrArg (fun g => Finset.univ.fold max (⊥ : EReal) g) (funext hsc)
  refine ⟨M, hm', ?_, fun e => ?_⟩
  · rw [hm', ← sum_fin_Ico 112 16 fun k => (2 : ℝ) ^ (s k - M), ← coe_sum]
    exact Finset.sum_congr rfl fun x _ => by rw [hsc, exp2_sub]
  · show (∑ x, vals e x * Ideal.exp2 (sc x - m)) = _
    rw [hm', ← sum_fin_Ico 112 16 fun k => V e.val k * (2 : ℝ) ^ (s k - M), ← coe_sum]
    exact Finset.sum_congr rfl fun x _ => by rw [hsc, hv, exp2_sub, EReal.coe_mul]

/-- Two to the difference of the two maxima moves a sum from the old maximum to the new one. -/
theorem rescale (s : ℕ → ℝ) (w : ℕ → ℝ) (t : Finset ℕ) (M M' : ℝ) :
    (2 : ℝ) ^ (M - M') * (∑ k ∈ t, w k * (2 : ℝ) ^ (s k - M)) = ∑ k ∈ t, w k * (2 : ℝ) ^ (s k - M') := by
  rw [Finset.mul_sum]
  refine Finset.sum_congr rfl fun k _ => ?_
  rw [mul_left_comm, ← Real.rpow_add (by norm_num), show M - M' + (s k - M) = s k - M' by ring]

/-- The state after a further 512 keys. -/
theorem Taken.step {s : ℕ → ℝ} {V : ℕ → ℕ → ℝ} {b : ℕ} {m l : EReal} {acc : Fin 256 → EReal} (h : Taken s V b m l acc)
    (hb : 112 ≤ b) (sc : Fin 512 → EReal) (hsc : ∀ i, sc i = ((s (b + i.val) : ℝ) : EReal))
    (vals : Fin 256 → Fin 512 → EReal) (hv : ∀ e i, vals e i = ((V e.val (b + i.val) : ℝ) : EReal)) (m' : EReal)
    (hm' : m' = max m (Finset.univ.fold max (⊥ : EReal) sc)) :
    Taken s V (b + 512) m' (Ideal.exp2 (m - m') * l + ∑ x, Ideal.exp2 (sc x - m'))
      (fun e => Ideal.exp2 (m - m') * acc e + ∑ x, vals e x * Ideal.exp2 (sc x - m')) := by
  obtain ⟨M, hM, hl, ha⟩ := h
  obtain ⟨M', hM'⟩ := max_fold_real M fun i : Fin 512 => s (b + i.val)
  have e' : m' = (M' : EReal) := by
    rw [hm', hM, ← hM']; exact congrArg (fun g => max (M : EReal) (Finset.univ.fold max (⊥ : EReal) g)) (funext hsc)
  refine ⟨M', e', ?_, fun e => ?_⟩
  · have r := rescale s (fun _ => 1) (Finset.Ico 112 b) M M'
    simp only [one_mul] at r
    rw [hl, e', hM, exp2_sub, ← EReal.coe_mul, r, ← Finset.sum_Ico_consecutive _ hb (Nat.le_add_right b 512),
      ← sum_fin_Ico b 512 fun k => (2 : ℝ) ^ (s k - M'), EReal.coe_add, ← coe_sum (Finset.univ : Finset (Fin 512))]
    exact congrArg _ (Finset.sum_congr rfl fun x _ => by rw [hsc, exp2_sub])
  · show Ideal.exp2 (m - m') * acc e + (∑ x, vals e x * Ideal.exp2 (sc x - m')) = _
    rw [ha, e', hM, exp2_sub, ← EReal.coe_mul, rescale s (V e.val), ← Finset.sum_Ico_consecutive _ hb (Nat.le_add_right b 512),
      ← sum_fin_Ico b 512 fun k => V e.val k * (2 : ℝ) ^ (s k - M'), EReal.coe_add, ← coe_sum (Finset.univ : Finset (Fin 512))]
    exact congrArg _ (Finset.sum_congr rfl fun x _ => by rw [hsc, hv, exp2_sub, EReal.coe_mul])

/-- The mean of the values `v` of the keys 112 to 8319, weighted by two to their scores. -/
def wmean (s v : ℕ → ℝ) : ℝ :=
  (∑ k ∈ Finset.Ico 112 8320, v k * (2 : ℝ) ^ s k) / ∑ k ∈ Finset.Ico 112 8320, (2 : ℝ) ^ s k

theorem powers_pos (s : ℕ → ℝ) : 0 < ∑ k ∈ Finset.Ico 112 8320, (2 : ℝ) ^ s k :=
  Finset.sum_pos (fun _ _ => Real.rpow_pos_of_pos (by norm_num) _) ⟨112, by simp⟩

/-- Scores less a common number give the same weighted mean. -/
theorem wmean_shift (s v : ℕ → ℝ) (M : ℝ) : wmean (fun k => s k - M) v = wmean s v := by
  have r := rescale s v (Finset.Ico 112 8320) 0 M
  have r1 := rescale s (fun _ => 1) (Finset.Ico 112 8320) 0 M
  simp only [one_mul, sub_zero] at r r1
  unfold wmean
  rw [← r, ← r1, mul_div_mul_left _ _ (ne_of_gt (Real.rpow_pos_of_pos (by norm_num) _))]

/-- A quotient of reals whose divisor is not zero. -/
theorem div_real (x y : ℝ) (h : y ≠ 0) : Ideal.div (x : EReal) (y : EReal) = ((x / y : ℝ) : EReal) := by
  rw [Ideal.div_coe h, ← EReal.coe_mul, mul_one_div]

/-- The accumulator over the sum is the weighted mean. -/
theorem Taken.quotient {s : ℕ → ℝ} {V : ℕ → ℕ → ℝ} {m l : EReal} {acc : Fin 256 → EReal} (h : Taken s V 8320 m l acc) (e : Fin 256) :
    Ideal.div (acc e) l = ((wmean s (V e.val) : ℝ) : EReal) := by
  obtain ⟨M, -, hl, ha⟩ := h
  rw [hl, ha, div_real _ _ (ne_of_gt (powers_pos fun k => s k - M)), ← wmean_shift s (V e.val) M]
  rfl

end Cert.KernelIdeal.Attn

end
-- ==== Proof.Blocks.lean ====
module

public import proofs.«01_k».proof.Proof.Point
public import proofs.«01_k».proof.Proof.Online
public import Idealize.ShloMosaic.Lib.Pointwise

/-!
# The blocks of a grid point, as tables of reals

A query, key or value block all of whose entries are real is read from a table `ℕ → ℕ → ℝ` of its rows and columns;
a score is the product of a query row and a key row over one of the two components.
-/

@[expose] public section

set_option maxRecDepth 16384

noncomputable section

namespace Cert.KernelIdeal.Attn

open Cert.KernelIdeal Cert.KernelIdeal.Gen
open Idealize.ShloMosaic

/-- The score of query row `r` and key row `k` over component `c`. -/
def score (Q K : ℕ → ℕ → ℝ) (c r k : ℕ) : ℝ := ∑ d : Fin 128, K k (128 * c + d.val) * Q r (128 * c + d.val)

/-- A block of 8320 rows holds the table `T`. -/
abbrev Rows (x : Vec Ideal S1x8320x256 .bf16) (T : ℕ → ℕ → ℝ) : Prop :=
  ∀ (r : Fin 8320) (d : Fin 256), x (ix3 0 r d) = ((T r.val d.val : ℝ) : EReal)
/-- A block of 8320 columns holds the table `T`. -/
abbrev Cols (x : Vec Ideal S256x8320 .bf16) (T : ℕ → ℕ → ℝ) : Prop :=
  ∀ (e : Fin 256) (k : Fin 8320), x (ix2 e k) = ((T e.val k.val : ℝ) : EReal)

theorem keyChunk_real {x : Vec Ideal S1x8320x256 .bf16} {K : ℕ → ℕ → ℝ} (hx : Rows x K) {n : ℕ} (hn : n ≤ 15) (i : Fin 512) (d : Fin 256) :
    keyChunk x n (ix3 0 i d) = ((K (128 + 512 * n + i.val) d.val : ℝ) : EReal) := by
  have e : min (128 + 512 * n + i.val) 8319 = 128 + 512 * n + i.val := by omega
  refine (hx ⟨min (128 + 512 * n + i.val) 8319, by omega⟩ d).trans ?_
  show ((K (min (128 + 512 * n + i.val) 8319) d.val : ℝ) : EReal) = _
  rw [e]

theorem valChunk_real {x : Vec Ideal S256x8320 .bf16} {V : ℕ → ℕ → ℝ} (hx : Cols x V) {n : ℕ} (hn : n ≤ 15) (e : Fin 256) (i : Fin 512) :
    valChunk x n (ix2 e i) = ((V e.val (128 + 512 * n + i.val) : ℝ) : EReal) := by
  have h : min (128 + 512 * n + i.val) 8319 = 128 + 512 * n + i.val := by omega
  refine (hx e ⟨min (128 + 512 * n + i.val) 8319, by omega⟩).trans ?_
  show ((V e.val (min (128 + 512 * n + i.val) 8319) : ℝ) : EReal) = _
  rw [h]

theorem metaKeys_real {x : Vec Ideal S1x8320x256 .bf16} {K : ℕ → ℕ → ℝ} (hx : Rows x K) (i : Fin 16) (d : Fin 256) :
    Point.metaKeys x (ix3 0 i d) = ((K (112 + i.val) d.val : ℝ) : EReal) := hx ⟨112 + i.val, by omega⟩ d

theorem metaVals_real {x : Vec Ideal S256x8320 .bf16} {V : ℕ → ℕ → ℝ} (hx : Cols x V) (e : Fin 256) (i : Fin 16) :
    Point.metaVals x (ix2 e i) = ((V e.val (112 + i.val) : ℝ) : EReal) := hx e ⟨112 + i.val, by omega⟩

/-- The difference of the two weighted means, the second one times `lam`. -/
def diff (lam : EReal) (s0 s1 v : ℕ → ℝ) : EReal := ((wmean s0 v : ℝ) : EReal) - lam * ((wmean s1 v : ℝ) : EReal)

/-- Entry `e` of the row `o` over its root mean square, times the gain `g` and the constant. -/
def normed (o : Fin 256 → EReal) (g : EReal) (e : Fin 256) : EReal :=
  o e * Ideal.rsqrt (Ideal.div (∑ x, o x * o x) (Ideal.ofBits .f32 0x43800000#32) + Ideal.ofBits .f32 0x358637BD#32) * g
    * Ideal.ofBits .f32 0x3F4CCCCD#32

end Cert.KernelIdeal.Attn

end
-- ==== Proof.NarrowValue.lean ====
module

public import proofs.«01_k».proof.Proof.Blocks
public import Idealize.ShloMosaic.Lib.Pointwise

/-!
# A tile of 128 queries, after its keys

What the two softmaxes of a tile of 128 queries hold after `n` chunks of keys: the sums of Online.lean.
-/

@[expose] public section

set_option maxRecDepth 16384

noncomputable section

namespace Cert.KernelIdeal.Attn

open Cert.KernelIdeal Cert.KernelIdeal.Gen
open Idealize.ShloMosaic

namespace Narrow

theorem max_apply (m : FVec Ideal S1x128 .f32) (s : FVec Ideal S512x128 .f32) (j : Fin 128) :
    k0_pay6 m s (ix2 0 j) = max (m (ix2 0 j)) (Finset.univ.fold max (⊥ : EReal) fun i : Fin 512 => s (ix2 i j)) := by
  unfold k0_pay6
  pointwise
  rw [bits_negInf]

theorem alpha_apply (m : FVec Ideal S1x128 .f32) (s : FVec Ideal S512x128 .f32) (j : Fin 128) :
    k0_pay7 m s (ix2 0 j) = Ideal.exp2 (m (ix2 0 j) - k0_pay6 m s (ix2 0 j)) := by
  unfold k0_pay7
  pointwise
  rfl

theorem powers_apply (m : FVec Ideal S1x128 .f32) (s : FVec Ideal S512x128 .f32) (i : Fin 512) (j : Fin 128) :
    k0_pay8 m s (ix2 i j) = Ideal.exp2 (s (ix2 i j) - k0_pay6 m s (ix2 0 j)) := by
  unfold k0_pay8
  pointwise
  rfl

theorem acc_apply (v : FVec Ideal S256x512 .bf16) (a : FVec Ideal S1x128 .f32) (p : FVec Ideal S512x128 .f32)
    (acc : FVec Ideal S256x128 .f32) (e : Fin 256) (j : Fin 128) :
    k0_pay9 v a p acc (ix2 e j) = a (ix2 0 j) * acc (ix2 e j) + ∑ x : Fin 512, v (ix2 e x) * p (ix2 x j) := by
  unfold k0_pay9
  pointwise

theorem sum_apply (l a : FVec Ideal S1x128 .f32) (p : FVec Ideal S512x128 .f32) (j : Fin 128) :
    k0_pay10 l a p (ix2 0 j) = a (ix2 0 j) * l (ix2 0 j) + ∑ x : Fin 512, p (ix2 x j) := by
  unfold k0_pay10
  pointwise

theorem query0_apply (q : Vec Ideal S1x128x256 .bf16) (j : Fin 128) (d : Fin 128) :
    k0_pay134 q (ix2 j d) = q (ix3 0 j ⟨128 * 0 + d.val, by omega⟩) := by
  unfold k0_pay134 k0_pay133
  pointwise

theorem sc0_apply (q : FVec Ideal S128x128 .bf16) (kc : FVec Ideal S1x512x256 .bf16) (i : Fin 512) (j : Fin 128) :
    sc0 q kc (ix2 i j) = ∑ d : Fin 128, kc (ix3 0 i ⟨128 * 0 + d.val, by omega⟩) * q (ix2 j d) := by
  unfold sc0 k0_pay4 k0_pay3
  pointwise

theorem sc0_real {q : Vec Ideal S1x128x256 .bf16} {kc : Vec Ideal S1x512x256 .bf16} {Q K : ℕ → ℕ → ℝ} {r0 b : ℕ}
    (hq : ∀ (j : Fin 128) (d : Fin 256), q (ix3 0 j d) = ((Q (r0 + j.val) d.val : ℝ) : EReal))
    (hk : ∀ (i : Fin 512) (d : Fin 256), kc (ix3 0 i d) = ((K (b + i.val) d.val : ℝ) : EReal)) (i : Fin 512) (j : Fin 128) :
    sc0 (k0_pay134 q) kc (ix2 i j) = ((score Q K 0 (r0 + j.val) (b + i.val) : ℝ) : EReal) := by
  rw [sc0_apply, score, ← coe_sum]
  exact Finset.sum_congr rfl fun d _ => by rw [query0_apply, hq, hk, ← EReal.coe_mul]

theorem query1_apply (q : Vec Ideal S1x128x256 .bf16) (j : Fin 128) (d : Fin 128) :
    k0_pay135 q (ix2 j d) = q (ix3 0 j ⟨128 * 1 + d.val, by omega⟩) := by
  unfold k0_pay135 k0_pay133
  pointwise

theorem sc1_apply (q : FVec Ideal S128x128 .bf16) (kc : FVec Ideal S1x512x256 .bf16) (i : Fin 512) (j : Fin 128) :
    sc1 q kc (ix2 i j) = ∑ d : Fin 128, kc (ix3 0 i ⟨128 * 1 + d.val, by omega⟩) * q (ix2 j d) := by
  unfold sc1 k0_pay5 k0_pay3
  pointwise

theorem sc1_real {q : Vec Ideal S1x128x256 .bf16} {kc : Vec Ideal S1x512x256 .bf16} {Q K : ℕ → ℕ → ℝ} {r0 b : ℕ}
    (hq : ∀ (j : Fin 128) (d : Fin 256), q (ix3 0 j d) = ((Q (r0 + j.val) d.val : ℝ) : EReal))
    (hk : ∀ (i : Fin 512) (d : Fin 256), kc (ix3 0 i d) = ((K (b + i.val) d.val : ℝ) : EReal)) (i : Fin 512) (j : Fin 128) :
    sc1 (k0_pay135 q) kc (ix2 i j) = ((score Q K 1 (r0 + j.val) (b + i.val) : ℝ) : EReal) := by
  rw [sc1_apply, score, ← coe_sum]
  exact Finset.sum_congr rfl fun d _ => by rw [query1_apply, hq, hk, ← EReal.coe_mul]

/-- What a softmax holds of query `j` after `n` chunks of keys. -/
def Half.Holds (h : Half Ideal) (s : ℕ → ℝ) (V : ℕ → ℕ → ℝ) (n : ℕ) (j : Fin 128) : Prop :=
  Taken s V (128 + 512 * n) (h.m (ix2 0 j)) (h.l (ix2 0 j)) (fun e => h.acc (ix2 e j))
    ∧ ∀ i : Fin 512, h.s (ix2 i j) = ((s (128 + 512 * min n 15 + i.val) : ℝ) : EReal)

theorem Half.Holds.absorb {h : Half Ideal} {s : ℕ → ℝ} {V : ℕ → ℕ → ℝ} {n : ℕ} {j : Fin 128} (H : h.Holds s V n j) (hn : n ≤ 15)
    {v : Vec Ideal S256x512 .bf16} {s' : FVec Ideal S512x128 .f32}
    (hv : ∀ (e : Fin 256) (i : Fin 512), v (ix2 e i) = ((V e.val (128 + 512 * n + i.val) : ℝ) : EReal))
    (hs' : ∀ i : Fin 512, s' (ix2 i j) = ((s (128 + 512 * min (n + 1) 15 + i.val) : ℝ) : EReal)) :
    (h.absorb v s').Holds s V (n + 1) j := by
  obtain ⟨ht, hs⟩ := H
  rw [min_eq_left hn] at hs
  refine ⟨?_, hs'⟩
  have st := ht.step (by omega) (fun i => h.s (ix2 i j)) hs (fun e i => v (ix2 e i)) hv _ rfl
  show Taken s V (128 + 512 * (n + 1)) (k0_pay6 h.m h.s (ix2 0 j)) (k0_pay10 h.l (k0_pay7 h.m h.s) (k0_pay8 h.m h.s) (ix2 0 j))
    (fun e => k0_pay9 v (k0_pay7 h.m h.s) (k0_pay8 h.m h.s) h.acc (ix2 e j))
  simp only [sum_apply, acc_apply, alpha_apply, powers_apply, max_apply]
  exact st

theorem start0_max (mk : Vec Ideal S1x16x256 .bf16) (q : Vec Ideal S1x128x256 .bf16) (j : Fin 128) :
    k0_pay137 (F := Ideal) mk q (ix2 0 j) = Finset.univ.fold max (⊥ : EReal) fun i : Fin 16 => k0_pay136 (F := Ideal) mk q (ix2 i j) := by
  unfold k0_pay137
  pointwise
  rw [bits_negInf]

theorem start0_powers (mk : Vec Ideal S1x16x256 .bf16) (q : Vec Ideal S1x128x256 .bf16) (i : Fin 16) (j : Fin 128) :
    k0_pay138 (F := Ideal) mk q (ix2 i j) = Ideal.exp2 (k0_pay136 (F := Ideal) mk q (ix2 i j) - k0_pay137 (F := Ideal) mk q (ix2 0 j)) := by
  unfold k0_pay138
  pointwise
  rfl

theorem start0_sum (mk : Vec Ideal S1x16x256 .bf16) (q : Vec Ideal S1x128x256 .bf16) (j : Fin 128) :
    k0_pay140 (F := Ideal) (k0_pay138 mk q) (ix2 0 j) = ∑ i : Fin 16, k0_pay138 (F := Ideal) mk q (ix2 i j) := by
  unfold k0_pay140
  pointwise

theorem start0_acc (mk : Vec Ideal S1x16x256 .bf16) (v : Vec Ideal S256x16 .bf16) (q : Vec Ideal S1x128x256 .bf16) (e : Fin 256) (j : Fin 128) :
    k0_pay139 (F := Ideal) mk v q (ix2 e j) = ∑ i : Fin 16, v (ix2 e i) * k0_pay138 (F := Ideal) mk q (ix2 i j) := by
  unfold k0_pay139
  pointwise

theorem start0_score (mk : Vec Ideal S1x16x256 .bf16) (q : Vec Ideal S1x128x256 .bf16) (i : Fin 16) (j : Fin 128) :
    k0_pay136 (F := Ideal) mk q (ix2 i j) = ∑ d : Fin 128, mk (ix3 0 i ⟨128 * 0 + d.val, by omega⟩) * k0_pay134 (F := Ideal) q (ix2 j d) := by
  unfold k0_pay136 k0_pay132
  pointwise

theorem start1_max (mk : FVec Ideal S16x256 .bf16) (q : Vec Ideal S1x128x256 .bf16) (j : Fin 128) :
    k0_pay142 (F := Ideal) mk (k0_pay135 q) (ix2 0 j) = Finset.univ.fold max (⊥ : EReal) fun i : Fin 16 => k0_pay141 (F := Ideal) mk (k0_pay135 q) (ix2 i j) := by
  unfold k0_pay142
  pointwise
  rw [bits_negInf]

theorem start1_powers (mk : FVec Ideal S16x256 .bf16) (q : Vec Ideal S1x128x256 .bf16) (i : Fin 16) (j : Fin 128) :
    k0_pay143 (F := Ideal) mk (k0_pay135 q) (ix2 i j) = Ideal.exp2 (k0_pay141 (F := Ideal) mk (k0_pay135 q) (ix2 i j) - k0_pay142 (F := Ideal) mk (k0_pay135 q) (ix2 0 j)) := by
  unfold k0_pay143
  pointwise
  rfl

theorem start1_sum (mk : FVec Ideal S16x256 .bf16) (q : Vec Ideal S1x128x256 .bf16) (j : Fin 128) :
    k0_pay145 (F := Ideal) mk (k0_pay135 q) (ix2 0 j) = ∑ i : Fin 16, k0_pay143 (F := Ideal) mk (k0_pay135 q) (ix2 i j) := by
  unfold k0_pay145
  pointwise

theorem start1_acc (mk : FVec Ideal S16x256 .bf16) (v : Vec Ideal S256x16 .bf16) (q : Vec Ideal S1x128x256 .bf16) (e : Fin 256) (j : Fin 128) :
    k0_pay144 (F := Ideal) mk v (k0_pay135 q) (ix2 e j) = ∑ i : Fin 16, v (ix2 e i) * k0_pay143 (F := Ideal) mk (k0_pay135 q) (ix2 i j) := by
  unfold k0_pay144
  pointwise

theorem start1_score (mk : Vec Ideal S1x16x256 .bf16) (q : Vec Ideal S1x128x256 .bf16) (i : Fin 16) (j : Fin 128) :
    k0_pay141 (F := Ideal) (k0_pay132 mk) (k0_pay135 q) (ix2 i j) = ∑ d : Fin 128, mk (ix3 0 i ⟨128 * 1 + d.val, by omega⟩) * k0_pay135 (F := Ideal) q (ix2 j d) := by
  unfold k0_pay141 k0_pay132
  pointwise

variable {x3 : Vec Ideal S1x8320x256 .bf16} {x4 : Vec Ideal S256x8320 .bf16} {q : Vec Ideal S1x128x256 .bf16} {Q K V : ℕ → ℕ → ℝ} {r0 : ℕ}

theorem start0_holds (hq : ∀ (j : Fin 128) (d : Fin 256), q (ix3 0 j d) = ((Q (r0 + j.val) d.val : ℝ) : EReal)) (hk : Rows x3 K)
    (hv : Cols x4 V) (j : Fin 128) : (Point.headStart0 x3 x4 q).Holds (score Q K 0 (r0 + j.val)) V 0 j := by
  have hs : ∀ i : Fin 16, k0_pay136 (F := Ideal) (Point.metaKeys x3) q (ix2 i j) = ((score Q K 0 (r0 + j.val) (112 + i.val) : ℝ) : EReal) := fun i => by
    rw [start0_score, score, ← coe_sum]
    exact Finset.sum_congr rfl fun d _ => by rw [query0_apply, hq, metaKeys_real hk, ← EReal.coe_mul]
  refine ⟨?_, fun i => sc0_real hq (b := 128) (fun i d => keyChunk_real hk (Nat.zero_le 15) i d) i j⟩
  have st := Taken.start (score Q K 0 (r0 + j.val)) V _ hs (fun e i => Point.metaVals x4 (ix2 e i)) (metaVals_real hv) _
    (start0_max (Point.metaKeys x3) q j)
  show Taken _ V 128 (k0_pay137 (F := Ideal) (Point.metaKeys x3) q (ix2 0 j)) (k0_pay140 (F := Ideal) (k0_pay138 (Point.metaKeys x3) q) (ix2 0 j)) (fun e => k0_pay139 (F := Ideal) (Point.metaKeys x3) (Point.metaVals x4) q (ix2 e j))
  simp only [start0_sum, start0_acc, start0_powers]
  exact st

/-- What the softmax of component 0 holds after `n` chunks. -/
theorem run0_holds (hq : ∀ (j : Fin 128) (d : Fin 256), q (ix3 0 j d) = ((Q (r0 + j.val) d.val : ℝ) : EReal)) (hk : Rows x3 K)
    (hv : Cols x4 V) (j : Fin 128) : ∀ n, n ≤ 16 →
    (Half.run (sc0 (k0_pay134 q)) x3 x4 (Point.headStart0 x3 x4 q) n).Holds (score Q K 0 (r0 + j.val)) V n j
  | 0, _ => start0_holds hq hk hv j
  | n + 1, h => (run0_holds hq hk hv j n (by omega)).absorb (by omega) (valChunk_real hv (by omega))
      (fun i => sc0_real hq (fun i d => keyChunk_real hk (Nat.min_le_right _ _) i d) i j)

/-- The quotient of accumulator and sum at the end: the weighted mean over all keys. -/
theorem full0_quotient (hq : ∀ (j : Fin 128) (d : Fin 256), q (ix3 0 j d) = ((Q (r0 + j.val) d.val : ℝ) : EReal)) (hk : Rows x3 K)
    (hv : Cols x4 V) (j : Fin 128) (e : Fin 256) :
    Ideal.div ((Point.headFull0 x3 x4 q).acc (ix2 e j)) ((Point.headFull0 x3 x4 q).l (ix2 0 j)) = ((wmean (score Q K 0 (r0 + j.val)) (V e.val) : ℝ) : EReal) :=
  Taken.quotient (run0_holds hq hk hv j 16 (le_refl _)).1 e

theorem start1_holds (hq : ∀ (j : Fin 128) (d : Fin 256), q (ix3 0 j d) = ((Q (r0 + j.val) d.val : ℝ) : EReal)) (hk : Rows x3 K)
    (hv : Cols x4 V) (j : Fin 128) : (Point.headStart1 x3 x4 q).Holds (score Q K 1 (r0 + j.val)) V 0 j := by
  have hs : ∀ i : Fin 16, k0_pay141 (F := Ideal) (k0_pay132 (Point.metaKeys x3)) (k0_pay135 q) (ix2 i j) = ((score Q K 1 (r0 + j.val) (112 + i.val) : ℝ) : EReal) := fun i => by
    rw [start1_score, score, ← coe_sum]
    exact Finset.sum_congr rfl fun d _ => by rw [query1_apply, hq, metaKeys_real hk, ← EReal.coe_mul]
  refine ⟨?_, fun i => sc1_real hq (b := 128) (fun i d => keyChunk_real hk (Nat.zero_le 15) i d) i j⟩
  have st := Taken.start (score Q K 1 (r0 + j.val)) V _ hs (fun e i => Point.metaVals x4 (ix2 e i)) (metaVals_real hv) _
    (start1_max (k0_pay132 (Point.metaKeys x3)) q j)
  show Taken _ V 128 (k0_pay142 (F := Ideal) (k0_pay132 (Point.metaKeys x3)) (k0_pay135 q) (ix2 0 j)) (k0_pay145 (F := Ideal) (k0_pay132 (Point.metaKeys x3)) (k0_pay135 q) (ix2 0 j)) (fun e => k0_pay144 (F := Ideal) (k0_pay132 (Point.metaKeys x3)) (Point.metaVals x4) (k0_pay135 q) (ix2 e j))
  simp only [start1_sum, start1_acc, start1_powers]
  exact st

/-- What the softmax of component 1 holds after `n` chunks. -/
theorem run1_holds (hq : ∀ (j : Fin 128) (d : Fin 256), q (ix3 0 j d) = ((Q (r0 + j.val) d.val : ℝ) : EReal)) (hk : Rows x3 K)
    (hv : Cols x4 V) (j : Fin 128) : ∀ n, n ≤ 16 →
    (Half.run (sc1 (k0_pay135 q)) x3 x4 (Point.headStart1 x3 x4 q) n).Holds (score Q K 1 (r0 + j.val)) V n j
  | 0, _ => start1_holds hq hk hv j
  | n + 1, h => (run1_holds hq hk hv j n (by omega)).absorb (by omega) (valChunk_real hv (by omega))
      (fun i => sc1_real hq (fun i d => keyChunk_real hk (Nat.min_le_right _ _) i d) i j)

/-- The quotient of accumulator and sum at the end: the weighted mean over all keys. -/
theorem full1_quotient (hq : ∀ (j : Fin 128) (d : Fin 256), q (ix3 0 j d) = ((Q (r0 + j.val) d.val : ℝ) : EReal)) (hk : Rows x3 K)
    (hv : Cols x4 V) (j : Fin 128) (e : Fin 256) :
    Ideal.div ((Point.headFull1 x3 x4 q).acc (ix2 e j)) ((Point.headFull1 x3 x4 q).l (ix2 0 j)) = ((wmean (score Q K 1 (r0 + j.val)) (V e.val) : ℝ) : EReal) :=
  Taken.quotient (run1_holds hq hk hv j 16 (le_refl _)).1 e

/-- What is stored for query `j` of the tile, at column `e`. -/
theorem out_apply (hq : ∀ (j : Fin 128) (d : Fin 256), q (ix3 0 j d) = ((Q (r0 + j.val) d.val : ℝ) : EReal)) (hk : Rows x3 K)
    (hv : Cols x4 V) (v16 : FVec Ideal S1x1 .f32) (v18 : FVec Ideal S256x1 .f32) (j : Fin 128) (e : Fin 256) :
    Point.headOut v16 v18 x3 x4 q (ix3 0 j e)
      = normed (fun e => diff (v16 (ix2 0 0)) (score Q K 0 (r0 + j.val)) (score Q K 1 (r0 + j.val)) (V e.val)) (v18 (ix2 e 0)) e := by
  unfold Point.headOut k0_pay1 k0_pay151
  pointwise
  simp only [full0_quotient hq hk hv, full1_quotient hq hk hv]
  rfl

end Narrow

end Cert.KernelIdeal.Attn

end
-- ==== Proof.WideValue.lean ====
module

public import proofs.«01_k».proof.Proof.Blocks
public import Idealize.ShloMosaic.Lib.Pointwise

/-!
# A tile of 256 queries, after its keys

What the two softmaxes of a tile of 256 queries hold after `n` chunks of keys: the sums of Online.lean.
-/

@[expose] public section

set_option maxRecDepth 16384

noncomputable section

namespace Cert.KernelIdeal.Attn

open Cert.KernelIdeal Cert.KernelIdeal.Gen
open Idealize.ShloMosaic

namespace Wide

theorem max_apply (m : FVec Ideal S1x256 .f32) (s : FVec Ideal S512x256 .f32) (j : Fin 256) :
    k0_pay60 m s (ix2 0 j) = max (m (ix2 0 j)) (Finset.univ.fold max (⊥ : EReal) fun i : Fin 512 => s (ix2 i j)) := by
  unfold k0_pay60
  pointwise
  rw [bits_negInf]

theorem alpha_apply (m : FVec Ideal S1x256 .f32) (s : FVec Ideal S512x256 .f32) (j : Fin 256) :
    k0_pay61 m s (ix2 0 j) = Ideal.exp2 (m (ix2 0 j) - k0_pay60 m s (ix2 0 j)) := by
  unfold k0_pay61
  pointwise
  rfl

theorem powers_apply (m : FVec Ideal S1x256 .f32) (s : FVec Ideal S512x256 .f32) (i : Fin 512) (j : Fin 256) :
    k0_pay62 m s (ix2 i j) = Ideal.exp2 (s (ix2 i j) - k0_pay60 m s (ix2 0 j)) := by
  unfold k0_pay62
  pointwise
  rfl

theorem acc_apply (v : FVec Ideal S256x512 .bf16) (a : FVec Ideal S1x256 .f32) (p : FVec Ideal S512x256 .f32)
    (acc : FVec Ideal S256x256 .f32) (e : Fin 256) (j : Fin 256) :
    k0_pay63 v a p acc (ix2 e j) = a (ix2 0 j) * acc (ix2 e j) + ∑ x : Fin 512, v (ix2 e x) * p (ix2 x j) := by
  unfold k0_pay63
  pointwise

theorem sum_apply (l a : FVec Ideal S1x256 .f32) (p : FVec Ideal S512x256 .f32) (j : Fin 256) :
    k0_pay64 l a p (ix2 0 j) = a (ix2 0 j) * l (ix2 0 j) + ∑ x : Fin 512, p (ix2 x j) := by
  unfold k0_pay64
  pointwise

theorem query0_apply (q : Vec Ideal S1x256x256 .bf16) (j : Fin 256) (d : Fin 128) :
    k0_pay112 q (ix2 j d) = q (ix3 0 j ⟨128 * 0 + d.val, by omega⟩) := by
  unfold k0_pay112 k0_pay111
  pointwise

theorem sc0_apply (q : FVec Ideal S256x128 .bf16) (kc : FVec Ideal S1x512x256 .bf16) (i : Fin 512) (j : Fin 256) :
    sc0 q kc (ix2 i j) = ∑ d : Fin 128, kc (ix3 0 i ⟨128 * 0 + d.val, by omega⟩) * q (ix2 j d) := by
  unfold sc0 k0_pay58 k0_pay57
  pointwise

theorem sc0_real {q : Vec Ideal S1x256x256 .bf16} {kc : Vec Ideal S1x512x256 .bf16} {Q K : ℕ → ℕ → ℝ} {r0 b : ℕ}
    (hq : ∀ (j : Fin 256) (d : Fin 256), q (ix3 0 j d) = ((Q (r0 + j.val) d.val : ℝ) : EReal))
    (hk : ∀ (i : Fin 512) (d : Fin 256), kc (ix3 0 i d) = ((K (b + i.val) d.val : ℝ) : EReal)) (i : Fin 512) (j : Fin 256) :
    sc0 (k0_pay112 q) kc (ix2 i j) = ((score Q K 0 (r0 + j.val) (b + i.val) : ℝ) : EReal) := by
  rw [sc0_apply, score, ← coe_sum]
  exact Finset.sum_congr rfl fun d _ => by rw [query0_apply, hq, hk, ← EReal.coe_mul]

theorem query1_apply (q : Vec Ideal S1x256x256 .bf16) (j : Fin 256) (d : Fin 128) :
    k0_pay113 q (ix2 j d) = q (ix3 0 j ⟨128 * 1 + d.val, by omega⟩) := by
  unfold k0_pay113 k0_pay111
  pointwise

theorem sc1_apply (q : FVec Ideal S256x128 .bf16) (kc : FVec Ideal S1x512x256 .bf16) (i : Fin 512) (j : Fin 256) :
    sc1 q kc (ix2 i j) = ∑ d : Fin 128, kc (ix3 0 i ⟨128 * 1 + d.val, by omega⟩) * q (ix2 j d) := by
  unfold sc1 k0_pay59 k0_pay57
  pointwise

theorem sc1_real {q : Vec Ideal S1x256x256 .bf16} {kc : Vec Ideal S1x512x256 .bf16} {Q K : ℕ → ℕ → ℝ} {r0 b : ℕ}
    (hq : ∀ (j : Fin 256) (d : Fin 256), q (ix3 0 j d) = ((Q (r0 + j.val) d.val : ℝ) : EReal))
    (hk : ∀ (i : Fin 512) (d : Fin 256), kc (ix3 0 i d) = ((K (b + i.val) d.val : ℝ) : EReal)) (i : Fin 512) (j : Fin 256) :
    sc1 (k0_pay113 q) kc (ix2 i j) = ((score Q K 1 (r0 + j.val) (b + i.val) : ℝ) : EReal) := by
  rw [sc1_apply, score, ← coe_sum]
  exact Finset.sum_congr rfl fun d _ => by rw [query1_apply, hq, hk, ← EReal.coe_mul]

/-- What a softmax holds of query `j` after `n` chunks of keys. -/
def Half.Holds (h : Half Ideal) (s : ℕ → ℝ) (V : ℕ → ℕ → ℝ) (n : ℕ) (j : Fin 256) : Prop :=
  Taken s V (128 + 512 * n) (h.m (ix2 0 j)) (h.l (ix2 0 j)) (fun e => h.acc (ix2 e j))
    ∧ ∀ i : Fin 512, h.s (ix2 i j) = ((s (128 + 512 * min n 15 + i.val) : ℝ) : EReal)

theorem Half.Holds.absorb {h : Half Ideal} {s : ℕ → ℝ} {V : ℕ → ℕ → ℝ} {n : ℕ} {j : Fin 256} (H : h.Holds s V n j) (hn : n ≤ 15)
    {v : Vec Ideal S256x512 .bf16} {s' : FVec Ideal S512x256 .f32}
    (hv : ∀ (e : Fin 256) (i : Fin 512), v (ix2 e i) = ((V e.val (128 + 512 * n + i.val) : ℝ) : EReal))
    (hs' : ∀ i : Fin 512, s' (ix2 i j) = ((s (128 + 512 * min (n + 1) 15 + i.val) : ℝ) : EReal)) :
    (h.absorb v s').Holds s V (n + 1) j := by
  obtain ⟨ht, hs⟩ := H
  rw [min_eq_left hn] at hs
  refine ⟨?_, hs'⟩
  have st := ht.step (by omega) (fun i => h.s (ix2 i j)) hs (fun e i => v (ix2 e i)) hv _ rfl
  show Taken s V (128 + 512 * (n + 1)) (k0_pay60 h.m h.s (ix2 0 j)) (k0_pay64 h.l (k0_pay61 h.m h.s) (k0_pay62 h.m h.s) (ix2 0 j))
    (fun e => k0_pay63 v (k0_pay61 h.m h.s) (k0_pay62 h.m h.s) h.acc (ix2 e j))
  simp only [sum_apply, acc_apply, alpha_apply, powers_apply, max_apply]
  exact st

theorem start0_max (mk : FVec Ideal S16x256 .bf16) (q : Vec Ideal S1x256x256 .bf16) (j : Fin 256) :
    k0_pay115 (F := Ideal) mk q (ix2 0 j) = Finset.univ.fold max (⊥ : EReal) fun i : Fin 16 => k0_pay114 (F := Ideal) mk q (ix2 i j) := by
  unfold k0_pay115
  pointwise
  rw [bits_negInf]

theorem start0_powers (mk : FVec Ideal S16x256 .bf16) (q : Vec Ideal S1x256x256 .bf16) (i : Fin 16) (j : Fin 256) :
    k0_pay116 (F := Ideal) mk q (ix2 i j) = Ideal.exp2 (k0_pay114 (F := Ideal) mk q (ix2 i j) - k0_pay115 (F := Ideal) mk q (ix2 0 j)) := by
  unfold k0_pay116
  pointwise
  rfl

theorem start0_sum (mk : FVec Ideal S16x256 .bf16) (q : Vec Ideal S1x256x256 .bf16) (j : Fin 256) :
    k0_pay118 (F := Ideal) mk q (ix2 0 j) = ∑ i : Fin 16, k0_pay116 (F := Ideal) mk q (ix2 i j) := by
  unfold k0_pay118
  pointwise

theorem start0_acc (mk : FVec Ideal S16x256 .bf16) (v : Vec Ideal S256x16 .bf16) (q : Vec Ideal S1x256x256 .bf16) (e : Fin 256) (j : Fin 256) :
    k0_pay117 (F := Ideal) mk v q (ix2 e j) = ∑ i : Fin 16, v (ix2 e i) * k0_pay116 (F := Ideal) mk q (ix2 i j) := by
  unfold k0_pay117
  pointwise

theorem start0_score (mk : Vec Ideal S1x16x256 .bf16) (q : Vec Ideal S1x256x256 .bf16) (i : Fin 16) (j : Fin 256) :
    k0_pay114 (F := Ideal) (k0_pay132 mk) q (ix2 i j) = ∑ d : Fin 128, mk (ix3 0 i ⟨128 * 0 + d.val, by omega⟩) * k0_pay112 (F := Ideal) q (ix2 j d) := by
  unfold k0_pay114 k0_pay132
  pointwise

theorem start1_max (mk : FVec Ideal S16x256 .bf16) (q : Vec Ideal S1x256x256 .bf16) (j : Fin 256) :
    k0_pay120 (F := Ideal) mk q (ix2 0 j) = Finset.univ.fold max (⊥ : EReal) fun i : Fin 16 => k0_pay119 (F := Ideal) mk q (ix2 i j) := by
  unfold k0_pay120
  pointwise
  rw [bits_negInf]

theorem start1_powers (mk : FVec Ideal S16x256 .bf16) (q : Vec Ideal S1x256x256 .bf16) (i : Fin 16) (j : Fin 256) :
    k0_pay121 (F := Ideal) mk q (ix2 i j) = Ideal.exp2 (k0_pay119 (F := Ideal) mk q (ix2 i j) - k0_pay120 (F := Ideal) mk q (ix2 0 j)) := by
  unfold k0_pay121
  pointwise
  rfl

theorem start1_sum (mk : FVec Ideal S16x256 .bf16) (q : Vec Ideal S1x256x256 .bf16) (j : Fin 256) :
    k0_pay123 (F := Ideal) mk q (ix2 0 j) = ∑ i : Fin 16, k0_pay121 (F := Ideal) mk q (ix2 i j) := by
  unfold k0_pay123
  pointwise

theorem start1_acc (mk : FVec Ideal S16x256 .bf16) (v : Vec Ideal S256x16 .bf16) (q : Vec Ideal S1x256x256 .bf16) (e : Fin 256) (j : Fin 256) :
    k0_pay122 (F := Ideal) mk v q (ix2 e j) = ∑ i : Fin 16, v (ix2 e i) * k0_pay121 (F := Ideal) mk q (ix2 i j) := by
  unfold k0_pay122
  pointwise

theorem start1_score (mk : Vec Ideal S1x16x256 .bf16) (q : Vec Ideal S1x256x256 .bf16) (i : Fin 16) (j : Fin 256) :
    k0_pay119 (F := Ideal) (k0_pay132 mk) q (ix2 i j) = ∑ d : Fin 128, mk (ix3 0 i ⟨128 * 1 + d.val, by omega⟩) * k0_pay113 (F := Ideal) q (ix2 j d) := by
  unfold k0_pay119 k0_pay132
  pointwise

variable {x3 : Vec Ideal S1x8320x256 .bf16} {x4 : Vec Ideal S256x8320 .bf16} {q : Vec Ideal S1x256x256 .bf16} {Q K V : ℕ → ℕ → ℝ} {r0 : ℕ}

theorem start0_holds (hq : ∀ (j : Fin 256) (d : Fin 256), q (ix3 0 j d) = ((Q (r0 + j.val) d.val : ℝ) : EReal)) (hk : Rows x3 K)
    (hv : Cols x4 V) (j : Fin 256) : (Outer.start0 (k0_pay132 (Point.metaKeys x3)) (Point.metaVals x4) x3 q).Holds (score Q K 0 (r0 + j.val)) V 0 j := by
  have hs : ∀ i : Fin 16, k0_pay114 (F := Ideal) (k0_pay132 (Point.metaKeys x3)) q (ix2 i j) = ((score Q K 0 (r0 + j.val) (112 + i.val) : ℝ) : EReal) := fun i => by
    rw [start0_score, score, ← coe_sum]
    exact Finset.sum_congr rfl fun d _ => by rw [query0_apply, hq, metaKeys_real hk, ← EReal.coe_mul]
  refine ⟨?_, fun i => sc0_real hq (b := 128) (fun i d => keyChunk_real hk (Nat.zero_le 15) i d) i j⟩
  have st := Taken.start (score Q K 0 (r0 + j.val)) V _ hs (fun e i => Point.metaVals x4 (ix2 e i)) (metaVals_real hv) _
    (start0_max (k0_pay132 (Point.metaKeys x3)) q j)
  show Taken _ V 128 (k0_pay115 (F := Ideal) (k0_pay132 (Point.metaKeys x3)) q (ix2 0 j)) (k0_pay118 (F := Ideal) (k0_pay132 (Point.metaKeys x3)) q (ix2 0 j)) (fun e => k0_pay117 (F := Ideal) (k0_pay132 (Point.metaKeys x3)) (Point.metaVals x4) q (ix2 e j))
  simp only [start0_sum, start0_acc, start0_powers]
  exact st

/-- What the softmax of component 0 holds after `n` chunks. -/
theorem run0_holds (hq : ∀ (j : Fin 256) (d : Fin 256), q (ix3 0 j d) = ((Q (r0 + j.val) d.val : ℝ) : EReal)) (hk : Rows x3 K)
    (hv : Cols x4 V) (j : Fin 256) : ∀ n, n ≤ 16 →
    (Half.run (sc0 (k0_pay112 q)) x3 x4 (Outer.start0 (k0_pay132 (Point.metaKeys x3)) (Point.metaVals x4) x3 q) n).Holds (score Q K 0 (r0 + j.val)) V n j
  | 0, _ => start0_holds hq hk hv j
  | n + 1, h => (run0_holds hq hk hv j n (by omega)).absorb (by omega) (valChunk_real hv (by omega))
      (fun i => sc0_real hq (fun i d => keyChunk_real hk (Nat.min_le_right _ _) i d) i j)

/-- The quotient of accumulator and sum at the end: the weighted mean over all keys. -/
theorem full0_quotient (hq : ∀ (j : Fin 256) (d : Fin 256), q (ix3 0 j d) = ((Q (r0 + j.val) d.val : ℝ) : EReal)) (hk : Rows x3 K)
    (hv : Cols x4 V) (j : Fin 256) (e : Fin 256) :
    Ideal.div ((Outer.full0 (k0_pay132 (Point.metaKeys x3)) (Point.metaVals x4) x3 x4 q).acc (ix2 e j)) ((Outer.full0 (k0_pay132 (Point.metaKeys x3)) (Point.metaVals x4) x3 x4 q).l (ix2 0 j)) = ((wmean (score Q K 0 (r0 + j.val)) (V e.val) : ℝ) : EReal) :=
  Taken.quotient (run0_holds hq hk hv j 16 (le_refl _)).1 e

theorem start1_holds (hq : ∀ (j : Fin 256) (d : Fin 256), q (ix3 0 j d) = ((Q (r0 + j.val) d.val : ℝ) : EReal)) (hk : Rows x3 K)
    (hv : Cols x4 V) (j : Fin 256) : (Outer.start1 (k0_pay132 (Point.metaKeys x3)) (Point.metaVals x4) x3 q).Holds (score Q K 1 (r0 + j.val)) V 0 j := by
  have hs : ∀ i : Fin 16, k0_pay119 (F := Ideal) (k0_pay132 (Point.metaKeys x3)) q (ix2 i j) = ((score Q K 1 (r0 + j.val) (112 + i.val) : ℝ) : EReal) := fun i => by
    rw [start1_score, score, ← coe_sum]
    exact Finset.sum_congr rfl fun d _ => by rw [query1_apply, hq, metaKeys_real hk, ← EReal.coe_mul]
  refine ⟨?_, fun i => sc1_real hq (b := 128) (fun i d => keyChunk_real hk (Nat.zero_le 15) i d) i j⟩
  have st := Taken.start (score Q K 1 (r0 + j.val)) V _ hs (fun e i => Point.metaVals x4 (ix2 e i)) (metaVals_real hv) _
    (start1_max (k0_pay132 (Point.metaKeys x3)) q j)
  show Taken _ V 128 (k0_pay120 (F := Ideal) (k0_pay132 (Point.metaKeys x3)) q (ix2 0 j)) (k0_pay123 (F := Ideal) (k0_pay132 (Point.metaKeys x3)) q (ix2 0 j)) (fun e => k0_pay122 (F := Ideal) (k0_pay132 (Point.metaKeys x3)) (Point.metaVals x4) q (ix2 e j))
  simp only [start1_sum, start1_acc, start1_powers]
  exact st

/-- What the softmax of component 1 holds after `n` chunks. -/
theorem run1_holds (hq : ∀ (j : Fin 256) (d : Fin 256), q (ix3 0 j d) = ((Q (r0 + j.val) d.val : ℝ) : EReal)) (hk : Rows x3 K)
    (hv : Cols x4 V) (j : Fin 256) : ∀ n, n ≤ 16 →
    (Half.run (sc1 (k0_pay113 q)) x3 x4 (Outer.start1 (k0_pay132 (Point.metaKeys x3)) (Point.metaVals x4) x3 q) n).Holds (score Q K 1 (r0 + j.val)) V n j
  | 0, _ => start1_holds hq hk hv j
  | n + 1, h => (run1_holds hq hk hv j n (by omega)).absorb (by omega) (valChunk_real hv (by omega))
      (fun i => sc1_real hq (fun i d => keyChunk_real hk (Nat.min_le_right _ _) i d) i j)

/-- The quotient of accumulator and sum at the end: the weighted mean over all keys. -/
theorem full1_quotient (hq : ∀ (j : Fin 256) (d : Fin 256), q (ix3 0 j d) = ((Q (r0 + j.val) d.val : ℝ) : EReal)) (hk : Rows x3 K)
    (hv : Cols x4 V) (j : Fin 256) (e : Fin 256) :
    Ideal.div ((Outer.full1 (k0_pay132 (Point.metaKeys x3)) (Point.metaVals x4) x3 x4 q).acc (ix2 e j)) ((Outer.full1 (k0_pay132 (Point.metaKeys x3)) (Point.metaVals x4) x3 x4 q).l (ix2 0 j)) = ((wmean (score Q K 1 (r0 + j.val)) (V e.val) : ℝ) : EReal) :=
  Taken.quotient (run1_holds hq hk hv j 16 (le_refl _)).1 e

/-- What is stored for query `j` of the tile, at column `e`. -/
theorem out_apply (hq : ∀ (j : Fin 256) (d : Fin 256), q (ix3 0 j d) = ((Q (r0 + j.val) d.val : ℝ) : EReal)) (hk : Rows x3 K)
    (hv : Cols x4 V) (v16 : FVec Ideal S1x1 .f32) (v18 : FVec Ideal S256x1 .f32) (j : Fin 256) (e : Fin 256) :
    Outer.tileOut v16 v18 (k0_pay132 (Point.metaKeys x3)) (Point.metaVals x4) x3 x4 q (ix3 0 j e)
      = normed (fun e => diff (v16 (ix2 0 0)) (score Q K 0 (r0 + j.val)) (score Q K 1 (r0 + j.val)) (V e.val)) (v18 (ix2 e 0)) e := by
  unfold Outer.tileOut k0_pay2 k0_pay129
  pointwise
  simp only [full0_quotient hq hk hv, full1_quotient hq hk hv]
  rfl

end Wide

end Cert.KernelIdeal.Attn

end
-- ==== Proof.BlockValue.lean ====
module

public import proofs.«01_k».proof.Proof.NarrowValue
public import proofs.«01_k».proof.Proof.WideValue
public import Idealize.ShloMosaic.Lib.Pointwise

/-!
# The block of a grid point, entry by entry

Row `r` of the stored block is the normalised difference of the two weighted means, whichever tile the row lies in.
-/

@[expose] public section

set_option maxRecDepth 16384

noncomputable section

namespace Cert.KernelIdeal.Attn

open Cert.KernelIdeal Cert.KernelIdeal.Gen
open Idealize.ShloMosaic

/-- The factor of the second softmax, off the block of the four vectors. -/
def lamBlock (x5 : Vec Ideal S4x128 .f32) : EReal :=
  Ideal.exp (∑ i : Fin 128, x5 (ix2 0 i) * x5 (ix2 1 i)) - Ideal.exp (∑ i : Fin 128, x5 (ix2 2 i) * x5 (ix2 3 i))
    + Ideal.ofBits .f32 0x3E4CCCCD#32

theorem lamBlock_eq (x5 : Vec Ideal S4x128 .f32) : k0_pay130 x5 (ix2 0 0) = lamBlock x5 := by
  unfold k0_pay130
  pointwise
  rfl

theorem gain_eq (x6 : Vec Ideal S256x1 .f32) (e : Fin 256) : k0_pay131 x6 (ix2 e 0) = x6 (ix2 e 0) := by
  unfold k0_pay131
  pointwise

theorem headQueries_real {x2 : Vec Ideal S1x8320x256 .bf16} {Q : ℕ → ℕ → ℝ} (hq : Rows x2 Q) (j : Fin 128) (d : Fin 256) :
    Point.headQueries x2 (ix3 0 j d) = ((Q (0 + j.val) d.val : ℝ) : EReal) := by
  rw [Nat.zero_add]
  exact hq ⟨j.val, by omega⟩ d

theorem queryTile_real {x2 : Vec Ideal S1x8320x256 .bf16} {Q : ℕ → ℕ → ℝ} (hq : Rows x2 Q) {k : ℕ} (hk : k < 32) (j d : Fin 256) :
    Outer.queryTile x2 k (ix3 0 j d) = ((Q (128 + 256 * k + j.val) d.val : ℝ) : EReal) := by
  have e : min (128 + 256 * k + j.val) 8319 = 128 + 256 * k + j.val := by omega
  refine (hq ⟨min (128 + 256 * k + j.val) 8319, by omega⟩ d).trans ?_
  show ((Q (min (128 + 256 * k + j.val) 8319) d.val : ℝ) : EReal) = _
  rw [e]

/-- Entry `(r, e)` of the block. -/
theorem blockOut_apply {x2 x3 : Vec Ideal S1x8320x256 .bf16} {x4 : Vec Ideal S256x8320 .bf16} {Q K V : ℕ → ℕ → ℝ} (hq : Rows x2 Q) (hk : Rows x3 K)
    (hv : Cols x4 V) (x5 : Vec Ideal S4x128 .f32) (x6 : Vec Ideal S256x1 .f32) (r : Fin 8320) (e : Fin 256) :
    Point.blockOut x2 x3 x4 x5 x6 (ix3 0 r e)
      = normed (fun e => diff (lamBlock x5) (score Q K 0 r.val) (score Q K 1 r.val) (V e.val)) (x6 (ix2 e 0)) e := by
  by_cases h : r.val < 128
  · have st := Narrow.out_apply (headQueries_real hq) hk hv (k0_pay130 x5) (k0_pay131 x6) ⟨r.val, h⟩ e
    rw [lamBlock_eq, gain_eq] at st
    simp only [Nat.zero_add] at st
    exact (dif_pos h).trans st
  · have hr := r.isLt
    have hd : (r.val - 128) / 256 < 32 := by omega
    have st := Wide.out_apply (queryTile_real hq hd) hk hv (k0_pay130 x5) (k0_pay131 x6) ⟨(r.val - 128) % 256, Nat.mod_lt _ (by decide)⟩ e
    rw [lamBlock_eq, gain_eq] at st
    have hrow : 128 + 256 * ((r.val - 128) / 256) + (r.val - 128) % 256 = r.val := by omega
    simp only [hrow] at st
    exact (dif_neg h).trans st

end Cert.KernelIdeal.Attn

end
-- ==== Proof.Result.lean ====
module

public import proofs.«01_k».proof.Proof.BlockValue
public import proofs.«01_k».proof.Proof.Run
public import Idealize.ShloMosaic.Lib.Pointwise
public import Idealize.ShloMosaic.Lib.Pipeline.ValueKit
public import Idealize.ShloMosaic.Lib.Claim

/-!
# The result array of the call

The sixteen blocks tile the array: entry `(b, r, 256 h + e)` is the normalised difference over the queries, keys and
values of batch entry `b` and head `h`.
-/

@[expose] public section

set_option maxRecDepth 16384

noncomputable section

namespace Cert.KernelIdeal.Attn

open Cert.KernelIdeal Cert.KernelIdeal.Gen
open Idealize.ShloMosaic

open Idealize.ShloMosaic.TcCoe

/-- The entries of a two-axis array as a table of reals: zero outside the array. -/
def table {a b : ℕ} (X : Fin a → Fin b → EReal) (i j : ℕ) : ℝ := if h : i < a ∧ j < b then (X ⟨i, h.1⟩ ⟨j, h.2⟩).toReal else 0

/-- Queries of batch entry `b` and head `h`. -/
def qTable (P : ℕ → ℕ → ℝ) (b h r d : ℕ) : ℝ := P (8320 * b + r) (256 * h + d)
/-- Keys of batch entry `b` and head `h`. -/
def kTable (P : ℕ → ℕ → ℝ) (b h r d : ℕ) : ℝ := P (8320 * b + r) (1024 + 256 * h + d)
/-- Values of batch entry `b` and head `h`, column first. -/
def vTable (W : ℕ → ℕ → ℝ) (b h e r : ℕ) : ℝ := W (256 * h + e) (8320 * b + r)

/-- The factor of the second softmax, off the four vectors. -/
def lamOf (l1 l2 l3 l4 : Fin 128 → EReal) : EReal :=
  Ideal.exp (∑ i, l1 i * l2 i) - Ideal.exp (∑ i, l3 i * l4 i) + Ideal.ofBits .f32 0x3E4CCCCD#32

/-- Entry `(b, r, 256 h + e)` of the result. -/
def value (P W : ℕ → ℕ → ℝ) (lam : EReal) (g : Fin 256 → EReal) (b r h : ℕ) (e : Fin 256) : EReal :=
  normed (fun e => diff lam (score (qTable P b h) (kTable P b h) 0 r) (score (qTable P b h) (kTable P b h) 1 r) (vTable W b h e.val)) (g e) e

variable (m : (ℓ : Loc nD τ sig) → Buf (Elt Ideal) ℓ)

/-- The result array. -/
def result (A0 : Vec Ideal S33280x8192 .bf16) (A1 : Vec Ideal S2048x33280 .bf16) (a2 a3 a4 a5 : Vec Ideal S128 .f32) (a6 : Vec Ideal S256 .f32) :
    Vec Ideal S4x8320x1024 .bf16 := fun y =>
  value (table fun i j => A0 (ix2 i j)) (table fun i j => A1 (ix2 i j))
    (lamOf (fun i => a2 (ix1 i)) (fun i => a3 (ix1 i)) (fun i => a4 (ix1 i)) (fun i => a5 (ix1 i))) (fun e => a6 (ix1 e))
    (y 0).val (y 1).val ((y 2).val / 256) ⟨(y 2).val % 256, Nat.mod_lt _ (by decide)⟩

/-- Block indices of the windows at a point. -/
theorem idx0 : ∀ t : Fin cfg0.N, win0_0.index t = ![(grid0.coords t 0).val, 0, (grid0.coords t 1).val]
    ∧ win0_1.index t = ![(grid0.coords t 0).val, 0, 4 + (grid0.coords t 1).val]
    ∧ win0_2.index t = ![(grid0.coords t 1).val, (grid0.coords t 0).val]
    ∧ win0_3.index t = ![0, 0] ∧ win0_4.index t = ![0, 0]
    ∧ win0_5.index t = ![(grid0.coords t 0).val, 0, (grid0.coords t 1).val] :=
  (by decide +kernel : ∀ t : Fin grid0.N, _)

theorem coords_lt (t : Fin cfg0.N) : (grid0.coords t 0).val < 4 ∧ (grid0.coords t 1).val < 4 := ⟨(grid0.coords t 0).isLt, (grid0.coords t 1).isLt⟩

theorem table_eq {a b : ℕ} {X : Fin a → Fin b → EReal} (i : Fin a) (j : Fin b) (h : X i j ≠ ⊥ ∧ X i j ≠ ⊤) :
    X i j = ((table X i.val j.val : ℝ) : EReal) := by
  rw [table, dif_pos ⟨i.isLt, j.isLt⟩, EReal.coe_toReal h.2 h.1]

theorem queries_real (c : Dev nD) (t : Fin cfg0.N)
    (h0 : ∀ (i : Fin 33280) (j : Fin 8192), j.val < 2048 → m ((c : Thread nD τ).loc main_arg0) (ix2 i j) ≠ (⊥ : EReal) ∧ m ((c : Thread nD τ).loc main_arg0) (ix2 i j) ≠ (⊤ : EReal)) :
    Rows (iblk m c 0 t) (qTable (table fun i j => m ((c : Thread nD τ).loc main_arg0) (ix2 i j)) (grid0.coords t 0).val (grid0.coords t 1).val) := by
  intro r d
  obtain ⟨e0, e1, e2, e3, e4, e5⟩ := idx0 t
  obtain ⟨hb, hh⟩ := coords_lt t
  have key : iblk m c 0 t (ix3 0 r d) = m ((c : Thread nD τ).loc main_arg0) (ix2 ⟨8320 * (grid0.coords t 0).val + r.val, by omega⟩ ⟨256 * (grid0.coords t 1).val + d.val, by omega⟩) := by
    blk_point [iblk, V, e0]
  rw [key]
  exact table_eq (X := fun i j => m ((c : Thread nD τ).loc main_arg0) (ix2 i j)) _ _ (h0 _ _ (by show 256 * _ + d.val < 2048; omega))

theorem keys_real (c : Dev nD) (t : Fin cfg0.N)
    (h0 : ∀ (i : Fin 33280) (j : Fin 8192), j.val < 2048 → m ((c : Thread nD τ).loc main_arg0) (ix2 i j) ≠ (⊥ : EReal) ∧ m ((c : Thread nD τ).loc main_arg0) (ix2 i j) ≠ (⊤ : EReal)) :
    Rows (iblk m c 1 t) (kTable (table fun i j => m ((c : Thread nD τ).loc main_arg0) (ix2 i j)) (grid0.coords t 0).val (grid0.coords t 1).val) := by
  intro r d
  obtain ⟨e0, e1, e2, e3, e4, e5⟩ := idx0 t
  obtain ⟨hb, hh⟩ := coords_lt t
  have key : iblk m c 1 t (ix3 0 r d) = m ((c : Thread nD τ).loc main_arg0) (ix2 ⟨8320 * (grid0.coords t 0).val + r.val, by omega⟩ ⟨1024 + 256 * (grid0.coords t 1).val + d.val, by omega⟩) := by
    blk_point [iblk, V, e1]
  rw [key]
  exact table_eq (X := fun i j => m ((c : Thread nD τ).loc main_arg0) (ix2 i j)) _ _ (h0 _ _ (by show 1024 + 256 * _ + d.val < 2048; omega))

theorem values_real (c : Dev nD) (t : Fin cfg0.N)
    (h1 : ∀ (i : Fin 2048) (j : Fin 33280), i.val < 1024 → m ((c : Thread nD τ).loc main_arg1) (ix2 i j) ≠ (⊥ : EReal) ∧ m ((c : Thread nD τ).loc main_arg1) (ix2 i j) ≠ (⊤ : EReal)) :
    Cols (iblk m c 2 t) (vTable (table fun i j => m ((c : Thread nD τ).loc main_arg1) (ix2 i j)) (grid0.coords t 0).val (grid0.coords t 1).val) := by
  intro e k
  obtain ⟨e0, e1, e2, e3, e4, e5⟩ := idx0 t
  obtain ⟨hb, hh⟩ := coords_lt t
  have key : iblk m c 2 t (ix2 e k) = m ((c : Thread nD τ).loc main_arg1) (ix2 ⟨256 * (grid0.coords t 1).val + e.val, by omega⟩ ⟨8320 * (grid0.coords t 0).val + k.val, by omega⟩) := by
    blk_point [iblk, V, e2]
  rw [key]
  exact table_eq (X := fun i j => m ((c : Thread nD τ).loc main_arg1) (ix2 i j)) _ _ (h1 _ _ (by show 256 * _ + e.val < 1024; omega))

/-- The array of the four vectors that the call takes. -/
theorem vectors_eq (c : Dev nD) : V m c main_v4 = concatenate S4x128 0
    [⟨S1x128, broadcastInDim S1x128 ![1] bcast_S128_S1x128_1 (m ((c : Thread nD τ).loc main_arg2) : Vec Ideal S128 .f32)⟩,
     ⟨S1x128, broadcastInDim S1x128 ![1] bcast_S128_S1x128_1 (m ((c : Thread nD τ).loc main_arg3) : Vec Ideal S128 .f32)⟩,
     ⟨S1x128, broadcastInDim S1x128 ![1] bcast_S128_S1x128_1 (m ((c : Thread nD τ).loc main_arg4) : Vec Ideal S128 .f32)⟩,
     ⟨S1x128, broadcastInDim S1x128 ![1] bcast_S128_S1x128_1 (m ((c : Thread nD τ).loc main_arg5) : Vec Ideal S128 .f32)⟩]
    concatenates_S1x128_S1x128_S1x128_S1x128_S4x128_d0 := by
  dsimp only [V, hostOps0]
  after_results
  rfl

/-- The four vectors are the rows of the array that the call takes. -/
theorem vectors_apply (c : Dev nD) (i : Fin 128) :
    V m c main_v4 (ix2 (0 : Fin 4) i) = m ((c : Thread nD τ).loc main_arg2) (ix1 i) ∧ V m c main_v4 (ix2 (1 : Fin 4) i) = m ((c : Thread nD τ).loc main_arg3) (ix1 i)
    ∧ V m c main_v4 (ix2 (2 : Fin 4) i) = m ((c : Thread nD τ).loc main_arg4) (ix1 i) ∧ V m c main_v4 (ix2 (3 : Fin 4) i) = m ((c : Thread nD τ).loc main_arg5) (ix1 i) := by
  rw [vectors_eq]
  refine ⟨?_, ?_, ?_, ?_⟩ <;> pointwise

theorem lamBlock_iblk (c : Dev nD) (t : Fin cfg0.N) : lamBlock (iblk m c 3 t)
    = lamOf (fun i => m ((c : Thread nD τ).loc main_arg2) (ix1 i)) (fun i => m ((c : Thread nD τ).loc main_arg3) (ix1 i))
        (fun i => m ((c : Thread nD τ).loc main_arg4) (ix1 i)) (fun i => m ((c : Thread nD τ).loc main_arg5) (ix1 i)) := by
  obtain ⟨e0, e1, e2, e3, e4, e5⟩ := idx0 t
  have hw (k : Fin 4) (i : Fin 128) : iblk m c 3 t (ix2 k i) = V m c main_v4 (ix2 k i) := by
    blk_ext [iblk, e3]
  have k0 (i : Fin 128) := (hw 0 i).trans (vectors_apply m c i).1
  have k1 (i : Fin 128) := (hw 1 i).trans (vectors_apply m c i).2.1
  have k2 (i : Fin 128) := (hw 2 i).trans (vectors_apply m c i).2.2.1
  have k3 (i : Fin 128) := (hw 3 i).trans (vectors_apply m c i).2.2.2
  simp only [lamBlock, lamOf, k0, k1, k2, k3]

theorem gain_iblk (c : Dev nD) (t : Fin cfg0.N) (e : Fin 256) : iblk m c 4 t (ix2 e 0) = m ((c : Thread nD τ).loc main_arg6) (ix1 e) := by
  obtain ⟨e0, e1, e2, e3, e4, e5⟩ := idx0 t
  blk_point [iblk, V, e4]

/-- The array that the call leaves. -/
theorem array_eq (c : Dev nD)
    (h0 : ∀ (i : Fin 33280) (j : Fin 8192), j.val < 2048 → m ((c : Thread nD τ).loc main_arg0) (ix2 i j) ≠ (⊥ : EReal) ∧ m ((c : Thread nD τ).loc main_arg0) (ix2 i j) ≠ (⊤ : EReal))
    (h1 : ∀ (i : Fin 2048) (j : Fin 33280), i.val < 1024 → m ((c : Thread nD τ).loc main_arg1) (ix2 i j) ≠ (⊥ : EReal) ∧ m ((c : Thread nD τ).loc main_arg1) (ix2 i j) ≠ (⊤ : EReal)) :
    (dats m 0 c).arrAt 5 cfg0.N
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) := by
  refine (dats m 0 c).arrAt_eq_of_covers 5 _ (by decide +kernel) fun t hf y => ?_
  rw [after0_5]
  obtain ⟨e0, e1, e2, e3, e4, e5⟩ := idx0 t
  obtain ⟨hb, hh⟩ := coords_lt t
  have key (r : Fin 8320) (e : Fin 256) := blockOut_apply (queries_real m c t h0) (keys_real m c t h0) (values_real m c t h1) (iblk m c 3 t) (iblk m c 4 t) r e
  obtain ⟨r, e, rfl⟩ : ∃ (r : Fin 8320) (e : Fin 256), y = ix3 (0 : Fin 1) r e := ⟨y 1, y 2, by
    funext a
    match a with
    | ⟨0, _⟩ => exact Subsingleton.elim (α := Fin 1) _ _
    | ⟨1, _⟩ => rfl
    | ⟨2, _⟩ => rfl⟩
  have hp : ((cfg0.win 5).blk t).view.emb (ix3 (0 : Fin 1) r e) = ix3 (⟨(grid0.coords t 0).val, hb⟩ : Fin 4) r (⟨256 * (grid0.coords t 1).val + e.val, by omega⟩ : Fin 1024) := by
    blk_ext [e5]
  rw [hp]
  refine (key r e).trans ?_
  rw [lamBlock_iblk]
  refine (congrArg (fun g => normed _ g e) (gain_iblk m c t e)).trans ?_
  have d1 : (256 * (grid0.coords t 1).val + e.val) / 256 = (grid0.coords t 1).val := by omega
  have d3 : (⟨(256 * (grid0.coords t 1).val + e.val) % 256, Nat.mod_lt _ (by decide)⟩ : Fin 256) = e := Fin.ext (by show (_ + _) % 256 = _; omega)
  show _ = value _ _ _ _ (grid0.coords t 0).val r.val ((256 * (grid0.coords t 1).val + e.val) / 256) ⟨(256 * (grid0.coords t 1).val + e.val) % 256, _⟩
  rw [d1, d3]
  rfl

end Cert.KernelIdeal.Attn

end
-- ==== Proof.RefValue.lean ====
module

public import proofs.«01_k».proof.Proof.Reference
public import proofs.«01_k».proof.Proof.Result

/-!
# The reference's result is the call's

With real queries, keys, values and vectors the reference's softmax weights are powers of two over their sum, and the
weighted values are the difference of the two means of Online.lean.
-/

@[expose] public section

set_option maxRecDepth 16384

noncomputable section

namespace Cert.ReferenceIdeal.Attn

open Cert.ReferenceIdeal Cert.ReferenceIdeal.Gen
open Idealize.ShloMosaic Idealize.ShloMosaic.TcCoe
open Cert.KernelIdeal.Attn (coe_sum div_real sum_fin_Ico wmean wmean_shift powers_pos fold_real bits_negInf score table table_eq qTable kTable vTable
  lamOf value normed diff result)

/-- The softmax weight of key `112 + x`: the scores in units of two, less `M` after the change of base. -/
def prob (s : ℕ → ℝ) (M : ℝ) (x : Fin 8208) : ℝ :=
  Real.exp (s (112 + x.val) * Real.log 2 - M) / ∑ y : Fin 8208, Real.exp (s (112 + y.val) * Real.log 2 - M)

theorem exp_power (t M : ℝ) : Real.exp (t * Real.log 2 - M) = (2 : ℝ) ^ (t - M / Real.log 2) := by
  have h : Real.log 2 ≠ 0 := ne_of_gt (Real.log_pos (by norm_num))
  rw [Real.rpow_def_of_pos (by norm_num)]
  congr 1
  field_simp

/-- The mean under the softmax weights is the mean under the powers of two, whatever was subtracted. -/
theorem prob_mean (s v : ℕ → ℝ) (M : ℝ) : ∑ x : Fin 8208, v (112 + x.val) * prob s M x = wmean s v := by
  rw [← wmean_shift s v (M / Real.log 2)]
  unfold wmean prob
  simp only [exp_power]
  rw [sum_fin_Ico 112 8208 fun k => (2 : ℝ) ^ (s k - M / Real.log 2), ← sum_fin_Ico 112 8208 fun k => v k * (2 : ℝ) ^ (s k - M / Real.log 2), Finset.sum_div]
  exact Finset.sum_congr rfl fun x _ => (mul_div_assoc _ _ _).symm

theorem exps_pos (s : ℕ → ℝ) (M : ℝ) : (∑ y : Fin 8208, Real.exp (s (112 + y.val) * Real.log 2 - M)) ≠ 0 :=
  ne_of_gt (Finset.sum_pos (fun _ _ => Real.exp_pos _) ⟨⟨0, by decide⟩, Finset.mem_univ _⟩)

theorem bits_two : Ideal.ofBits .f32 0x40000000#32 = ((2 : ℝ) : EReal) := by
  simp [Ideal.ofBits, Ideal.ieee, -EReal.coe_mul]; norm_num

/-- The softmax of real scores. -/
theorem soft_real {s : FVec Ideal S4x4x2x8320x8208 .f32} {b h : Fin 4} {c : Fin 2} {r : Fin 8320} {t : ℕ → ℝ}
    (hs : ∀ x : Fin 8208, s (ix5 b h c r x) = ((t (112 + x.val) * Real.log 2 : ℝ) : EReal)) :
    ∃ M : ℝ, ∀ x : Fin 8208, soft (expo s) (ix5 b h c r x) = ((prob t M x : ℝ) : EReal) := by
  obtain ⟨M, hM⟩ := fold_real (n := 8208) (by decide) fun x => t (112 + x.val) * Real.log 2
  have htop : top s (ix4 b h c r) = (M : EReal) := by
    rw [top_apply, bits_negInf]
    simp only [hs]
    exact (congrArg (max (⊥ : EReal)) hM).trans (max_eq_right bot_le)
  have he (x : Fin 8208) : expo s (ix5 b h c r x) = ((Real.exp (t (112 + x.val) * Real.log 2 - M) : ℝ) : EReal) := by
    rw [expo_apply, htop, hs, ← EReal.coe_sub, Ideal.exp_coe]
  refine ⟨M, fun x => ?_⟩
  rw [soft_apply]
  simp only [he]
  rw [coe_sum, div_real _ _ (exps_pos t M)]
  rfl

/-- The weighted values, from real scores, values and factor. -/
theorem mixed_real {s : FVec Ideal S4x4x2x8320x8208 .f32} {v : FVec Ideal S4x8208x4x256 .f32} {l : FVec Ideal S_ .f32} {L : ℝ}
    (hl : l ix0 = (L : EReal)) {b h : Fin 4} {r : Fin 8320} {t0 t1 : ℕ → ℝ} {e : Fin 256} {w : ℕ → ℝ}
    (h0 : ∀ x : Fin 8208, s (ix5 b h 0 r x) = ((t0 (112 + x.val) * Real.log 2 : ℝ) : EReal))
    (h1 : ∀ x : Fin 8208, s (ix5 b h 1 r x) = ((t1 (112 + x.val) * Real.log 2 : ℝ) : EReal))
    (hv : ∀ x : Fin 8208, v (ix4 b x h e) = ((w (112 + x.val) : ℝ) : EReal)) :
    mixed v (weights l (soft (expo s))) (ix4 b r h e) = diff (L : EReal) t0 t1 w := by
  obtain ⟨M0, e0⟩ := soft_real h0
  obtain ⟨M1, e1⟩ := soft_real h1
  rw [mixed_apply, diff, ← prob_mean t0 w M0, ← prob_mean t1 w M1, ← EReal.coe_mul, ← EReal.coe_sub, Finset.mul_sum, ← Finset.sum_sub_distrib, ← coe_sum]
  refine Finset.sum_congr rfl fun x _ => ?_
  rw [weights_apply, e0, e1, hl, hv, ← EReal.coe_mul, ← EReal.coe_sub, ← EReal.coe_mul]
  exact congrArg _ (by ring)

/-- A number that is neither infinity. -/
abbrev Fin_ (x : EReal) : Prop := x ≠ ⊥ ∧ x ≠ ⊤

theorem lamOf_real {l1 l2 l3 l4 : Fin 128 → EReal} (h1 : ∀ i, Fin_ (l1 i)) (h2 : ∀ i, Fin_ (l2 i)) (h3 : ∀ i, Fin_ (l3 i)) (h4 : ∀ i, Fin_ (l4 i)) :
    ∃ L : ℝ, lamOf l1 l2 l3 l4 = (L : EReal) := by
  have e1 (i) : l1 i = (((l1 i).toReal : ℝ) : EReal) := (EReal.coe_toReal (h1 i).2 (h1 i).1).symm
  have e2 (i) : l2 i = (((l2 i).toReal : ℝ) : EReal) := (EReal.coe_toReal (h2 i).2 (h2 i).1).symm
  have e3 (i) : l3 i = (((l3 i).toReal : ℝ) : EReal) := (EReal.coe_toReal (h3 i).2 (h3 i).1).symm
  have e4 (i) : l4 i = (((l4 i).toReal : ℝ) : EReal) := (EReal.coe_toReal (h4 i).2 (h4 i).1).symm
  have hc : ∃ x : ℝ, Ideal.ofBits .f32 0x3E4CCCCD#32 = (x : EReal) := by
    simp [Ideal.ofBits, Ideal.ieee]
    exact ⟨_, rfl⟩
  obtain ⟨x, hx⟩ := hc
  have p1 : (∑ i, l1 i * l2 i) = ((∑ i, (l1 i).toReal * (l2 i).toReal : ℝ) : EReal) := by
    rw [← coe_sum]
    exact Finset.sum_congr rfl fun i _ => by rw [EReal.coe_mul, ← e1, ← e2]
  have p2 : (∑ i, l3 i * l4 i) = ((∑ i, (l3 i).toReal * (l4 i).toReal : ℝ) : EReal) := by
    rw [← coe_sum]
    exact Finset.sum_congr rfl fun i _ => by rw [EReal.coe_mul, ← e3, ← e4]
  unfold lamOf
  rw [p1, p2, hx, Ideal.exp_coe, Ideal.exp_coe, ← EReal.coe_sub, ← EReal.coe_add]
  exact ⟨_, rfl⟩

variable {A0 : FVec Ideal S33280x8192 .bf16} {A1 : FVec Ideal S2048x33280 .bf16} {a2 a3 a4 a5 : FVec Ideal S128 .f32} {a6 : FVec Ideal S256 .f32}

theorem scores_real (hA : ∀ (i : Fin 33280) (j : Fin 8192), j.val < 2048 → Fin_ (A0 (ix2 i j))) (b h : Fin 4) (c : Fin 2) (r : Fin 8320) (x : Fin 8208) :
    scores (queries A0) (keys A0) (ix5 b h c r x)
      = ((score (qTable (table fun i j => A0 (ix2 i j)) b.val h.val) (kTable (table fun i j => A0 (ix2 i j)) b.val h.val) c.val r.val (112 + x.val)
          * Real.log 2 : ℝ) : EReal) := by
  rw [scores_apply, bits_two, Ideal.log_coe, if_neg (by norm_num), EReal.coe_mul, score, ← coe_sum]
  refine congrArg (· * _) (Finset.sum_congr rfl fun d _ => ?_)
  rw [queries_apply, keys_apply,
    table_eq (X := fun i j => A0 (ix2 i j)) _ _ (hA _ _ (by show 256 * h.val + (128 * c.val + d.val) < 2048; omega)),
    table_eq (X := fun i j => A0 (ix2 i j)) _ _ (hA _ _ (by show 1024 + 256 * h.val + (128 * c.val + d.val) < 2048; omega)), ← EReal.coe_mul, mul_comm]
  rfl

theorem vals_real (hB : ∀ (i : Fin 2048) (j : Fin 33280), i.val < 1024 → Fin_ (A1 (ix2 i j))) (b h : Fin 4) (x : Fin 8208) (e : Fin 256) :
    vals A1 (ix4 b x h e) = ((vTable (table fun i j => A1 (ix2 i j)) b.val h.val e.val (112 + x.val) : ℝ) : EReal) := by
  rw [vals_apply, table_eq (X := fun i j => A1 (ix2 i j)) _ _ (hB _ _ (by show 256 * h.val + e.val < 1024; omega))]
  rfl

/-- The reference's result is the array that the call leaves. -/
theorem out_eq (hA : ∀ (i : Fin 33280) (j : Fin 8192), j.val < 2048 → Fin_ (A0 (ix2 i j)))
    (hB : ∀ (i : Fin 2048) (j : Fin 33280), i.val < 1024 → Fin_ (A1 (ix2 i j)))
    (h2 : ∀ i : Fin 128, Fin_ (a2 (ix1 i))) (h3 : ∀ i : Fin 128, Fin_ (a3 (ix1 i))) (h4 : ∀ i : Fin 128, Fin_ (a4 (ix1 i))) (h5 : ∀ i : Fin 128, Fin_ (a5 (ix1 i))) :
    out A0 A1 a2 a3 a4 a5 a6 = result A0 A1 a2 a3 a4 a5 a6 := by
  obtain ⟨L, hL⟩ := lamOf_real h2 h3 h4 h5
  funext y
  obtain ⟨b, r, n, rfl⟩ : ∃ (b : Fin 4) (r : Fin 8320) (n : Fin 1024), y = ix3 b r n := ⟨y 0, y 1, y 2, by
    funext a
    match a with
    | ⟨0, _⟩ => rfl
    | ⟨1, _⟩ => rfl
    | ⟨2, _⟩ => rfl⟩
  have hl : lam a2 a3 a4 a5 ix0 = (L : EReal) := (lam_apply a2 a3 a4 a5).trans hL
  have mx (h : Fin 4) (e : Fin 256) := mixed_real hl (scores_real hA b h 0 r) (scores_real hA b h 1 r) (fun x => vals_real hB b h x e)
  rw [out_apply, scaled_apply]
  simp only [mx]
  show _ = value _ _ _ _ b.val r.val (n.val / 256) ⟨n.val % 256, _⟩
  rw [hL]
  rfl

end Cert.ReferenceIdeal.Attn

end
-- ==== Proof.UpValue.lean ====
module

public import proofs.«01_k».proof.Proof.Gen.UpIdeal.Value
public import Idealize.ShloMosaic.Lib.Pointwise
public import Idealize.ShloMosaic.Lib.Pipeline.ValueKit
public import Idealize.ShloMosaic.Lib.Pipeline.ReadBack
public import Idealize.ShloMosaic.Lib.Claim

/-!
# The first product of the feed-forward part

The grid goes over blocks of 1040 rows and, for each, over eleven blocks of 1024 columns. At the first column block the
normalised rows are stored in a buffer that the other ten read. So entry `(i, n)` of the result is the product of the
normalised row `i` and column `n` of the weights.
-/

@[expose] public section

set_option maxRecDepth 16384

noncomputable section

namespace Cert.UpIdeal.Ffn

open Cert.UpIdeal Cert.UpIdeal.Gen
open Idealize.ShloMosaic Idealize.ShloMosaic.TcCoe

/-- Entry `k` of a normalised row with entries `x`, scaled by `g`. -/
def rms (x : Fin 2048 → EReal) (g : EReal) (k : Fin 2048) : EReal :=
  x k * Ideal.rsqrt (Ideal.div (∑ l, x l * x l) (Ideal.ofBits .f32 0x45000000#32) + Ideal.ofBits .f32 0x358637BD#32) * g

/-- The result array. -/
def result (A0 : Vec Ideal S33280x2048 .f32) (a1 : Vec Ideal S2048 .f32) (A2 : Vec Ideal S2048x11264 .f32) : Vec Ideal S33280x11264 .bf16 := fun y =>
  ∑ k, rms (fun l => A0 (ix2 (y 0) l)) (a1 (ix1 k)) k * A2 (ix2 k (y 1))

/-- The rows that the first column block stores. -/
theorem rows_apply (x : Vec Ideal S1040x2048 .f32) (g : Vec Ideal S1x2048 .f32) (r : Fin 1040) (k : Fin 2048) :
    (k0_pay1 (F := Ideal) x g : Vec Ideal S1040x2048 .bf16) (ix2 r k) = rms (fun l => x (ix2 r l)) (g (ix2 0 k)) k := by
  pointwise [k0_pay1, rms]

/-- A block of the product. -/
theorem product_apply (h : Vec Ideal S1040x2048 .bf16) (w : Vec Ideal S2048x1024 .bf16) (r : Fin 1040) (n : Fin 1024) :
    (k0_pay2 (F := Ideal) h w : Vec Ideal S1040x1024 .bf16) (ix2 r n) = ∑ k, h (ix2 r k) * w (ix2 k n) := by
  pointwise [k0_pay2]

variable (m : (ℓ : Loc nD τ sig) → Buf (Elt Ideal) ℓ)

theorem idx0 : ∀ t : Fin cfg0.N, win0_0.index t = ![t.val / 11, 0] ∧ win0_1.index t = ![0, 0]
    ∧ win0_2.index t = ![0, t.val % 11] ∧ win0_3.index t = ![t.val / 11, t.val % 11] :=
  (by decide +kernel : ∀ t : Fin grid0.N, _)

theorem row_block (c : Dev nD) (t : Fin cfg0.N) (r : Fin 1040) (k : Fin 2048) (hb : 1040 * (t.val / 11) + r.val < 33280) :
    iblk m c 0 t (ix2 r k) = m ((c : Thread nD τ).loc main_arg0) (ix2 ⟨1040 * (t.val / 11) + r.val, hb⟩ k) := by
  obtain ⟨e0, e1, e2, e3⟩ := idx0 t
  blk_point [iblk, V, e0]

theorem gain_block (c : Dev nD) (t : Fin cfg0.N) (k : Fin 2048) :
    iblk m c 1 t (ix2 0 k) = m ((c : Thread nD τ).loc main_arg1) (ix1 k) := by
  obtain ⟨e0, e1, e2, e3⟩ := idx0 t
  blk_point [iblk, V, e1]

theorem weight_block (c : Dev nD) (t : Fin cfg0.N) (k : Fin 2048) (n : Fin 1024) (hb : 1024 * (t.val % 11) + n.val < 11264) :
    iblk m c 2 t (ix2 k n) = m ((c : Thread nD τ).loc main_arg2) (ix2 k ⟨1024 * (t.val % 11) + n.val, hb⟩) := by
  obtain ⟨e0, e1, e2, e3⟩ := idx0 t
  blk_point [iblk, V, e2]

/-- The buffer after any point: the normalised rows of the point's row block. -/
theorem buffer_apply (c : Dev nD) (n : ℕ) : ∀ (hn : n < cfg0.N) (r : Fin 1040) (k : Fin 2048) (hb : 1040 * (n / 11) + r.val < 33280),
    (outsAt0 m c n hn).2 (ix2 r k)
      = rms (fun l => m ((c : Thread nD τ).loc main_arg0) (ix2 ⟨1040 * (n / 11) + r.val, hb⟩ l)) (m ((c : Thread nD τ).loc main_arg1) (ix1 k)) k := by
  induction n using Nat.strong_induction_on with
  | _ n ih =>
    intro hn r k hb
    by_cases h0 : n % 11 = 0
    · rw [outsAt0_A m c ⟨n, hn⟩ h0]
      frame_out
      rw [rows_apply, gain_block]
      simp only [row_block m c ⟨n, hn⟩ r _ hb]
    · rw [outsAt0_B m c ⟨n, hn⟩ h0]
      dsimp only [sout0_B_0]
      have e : (n - 1) / 11 = n / 11 := by omega
      have hb' : 1040 * ((n - 1) / 11) + r.val < 33280 := by omega
      rw [ih (n - 1) (by omega) _ r k hb']
      simp only [e]

/-- The array that the call leaves. -/
theorem array_eq (c : Dev nD) : (dats m 0 c).arrAt 3 cfg0.N
    = result (m ((c : Thread nD τ).loc main_arg0)) (m ((c : Thread nD τ).loc main_arg1)) (m ((c : Thread nD τ).loc main_arg2)) := by
  refine (dats m 0 c).arrAt_eq_of_covers 3 _ (by decide +kernel) fun t hf y => ?_
  rw [after0_3]
  obtain ⟨e0, e1, e2, e3⟩ := idx0 t
  have ht : t.val < 352 := t.isLt
  obtain ⟨r, n, rfl⟩ : ∃ (r : Fin 1040) (n : Fin 1024), y = ix2 r n := ⟨y 0, y 1, by
    funext a
    match a with
    | ⟨0, _⟩ => rfl
    | ⟨1, _⟩ => rfl⟩
  have hr : 1040 * (t.val / 11) + r.val < 33280 := by omega
  have hn : 1024 * (t.val % 11) + n.val < 11264 := by omega
  have hp : ((cfg0.win 3).blk t).view.emb (ix2 r n) = ix2 (⟨1040 * (t.val / 11) + r.val, hr⟩ : Fin 33280) (⟨1024 * (t.val % 11) + n.val, hn⟩ : Fin 11264) := by
    blk_ext [e3]
  rw [hp]
  have key : (outsAt0 m c t.val t.isLt).1 (ix2 r n) = ∑ k, (outsAt0 m c t.val t.isLt).2 (ix2 r k) * iblk m c 2 t (ix2 k n) := by
    by_cases h0 : t.val % 11 = 0
    · rw [outsAt0_A m c t h0]
      dsimp only
      frame_out
      exact product_apply _ _ r n
    · rw [outsAt0_B m c t h0]
      dsimp only [sout0_B_0]
      frame_out
      rw [read_unread_whole]
      exact product_apply _ _ r n
  refine (show _ = (outsAt0 m c t.val t.isLt).1 (ix2 r n) from rfl).trans ?_
  rw [key]
  refine Finset.sum_congr rfl fun k _ => ?_
  rw [buffer_apply m c t.val t.isLt r k hr, weight_block m c t k n hn]
  rfl

end Cert.UpIdeal.Ffn

end
-- ==== Proof.UpReference.lean ====
module

public import proofs.«01_k».proof.Proof.Gen.UpReferenceIdeal.Run
public import proofs.«01_k».proof.Proof.UpValue
public import Idealize.ShloMosaic.Lib.Pointwise

/-!
# The reference of the first feed-forward product

Each row is normalised and multiplied with the weights.
-/

@[expose] public section

set_option maxRecDepth 16384

noncomputable section

namespace Cert.UpReferenceIdeal.Ffn

open Cert.UpReferenceIdeal Cert.UpReferenceIdeal.Gen
open Idealize.ShloMosaic Idealize.ShloMosaic.TcCoe
open Cert.UpIdeal.Ffn (rms result)

/-- The normalised rows. -/
def rows (A0 : FVec Ideal S33280x2048 .f32) (a1 : FVec Ideal S2048 .f32) : FVec Ideal S33280x2048 .f32 :=
  mulf (mulf A0 (broadcastInDim S33280x2048 ![0, 1] bcast_S33280x1_S33280x2048_0_1 (Host.rsqrt (addf (Host.divf
    (broadcastInDim S33280x1 ![0] bcast_S33280_S33280x1_0 (Host.reduceAdd (mulf A0 A0) (constant S_ .f32 0x00000000#32) reducesTo_S33280x2048_S33280_d1 h_S_))
    (broadcastInDim S33280x1 ![] bcast_S_S33280x1 (constant S_ .f32 0x45000000#32))) (broadcastInDim S33280x1 ![] bcast_S_S33280x1 (constant S_ .f32 0x358637BD#32))))))
    (broadcastInDim S33280x2048 ![0, 1] bcast_S1x2048_S33280x2048_0_1 (broadcastInDim S1x2048 ![1] bcast_S2048_S1x2048_1 a1))

/-- The product. -/
def out (A0 : FVec Ideal S33280x2048 .f32) (a1 : FVec Ideal S2048 .f32) (A2 : FVec Ideal S2048x11264 .f32) : FVec Ideal S33280x11264 .bf16 :=
  truncf .bf16 (Host.dotGeneral dot_S33280x2048_S2048x11264_S33280x11264_1_0_0_1_n_n none (rows A0 a1) A2) bitsLt_bf16_f32

theorem rows_apply (A0 : FVec Ideal S33280x2048 .f32) (a1 : FVec Ideal S2048 .f32) (i : Fin 33280) (k : Fin 2048) :
    rows A0 a1 (ix2 i k) = rms (fun l => A0 (ix2 i l)) (a1 (ix1 k)) k := by
  pointwise [rows, rms]

theorem out_apply (A0 : FVec Ideal S33280x2048 .f32) (a1 : FVec Ideal S2048 .f32) (A2 : FVec Ideal S2048x11264 .f32) (i : Fin 33280) (n : Fin 11264) :
    out A0 a1 A2 (ix2 i n) = ∑ k, rows A0 a1 (ix2 i k) * A2 (ix2 k n) := by
  pointwise [out]

/-- The reference's result is the call's. -/
theorem out_eq (A0 : FVec Ideal S33280x2048 .f32) (a1 : FVec Ideal S2048 .f32) (A2 : FVec Ideal S2048x11264 .f32) : out A0 a1 A2 = result A0 a1 A2 := by
  funext y
  obtain ⟨i, n, rfl⟩ : ∃ (i : Fin 33280) (n : Fin 11264), y = ix2 i n := ⟨y 0, y 1, eq_ix2 y⟩
  rw [out_apply]
  exact Finset.sum_congr rfl fun k _ => congrArg (· * A2 (ix2 k n)) (rows_apply A0 a1 i k)

end Cert.UpReferenceIdeal.Ffn

end
-- ==== Proof.ProjPoint.lean ====
module

public import proofs.«01_k».proof.Proof.Gen.ProjIdeal.Frame
public import proofs.«01_k».proof.Proof.Gen.ProjIdeal.Skeleton
public import Idealize.ShloMosaic.Lib.Pipeline.FrameBody
public import Idealize.ShloMosaic.Lib.VecWindow
public import Idealize.ShloMosaic.Lib.Ring
public import Idealize.ShloMosaic.Lib.Tactic
public import Idealize.ShloMosaic.Lib.WordCmp
public import Idealize.ShloMosaic.Lib.Pipeline.ValueKit

/-!
# One grid point of the input projection

A grid point is a block of 640 rows and one of ten column tiles.  The first tile also
normalises the rows into a scratch that the other nine read.  Six kinds of tile are told
apart by conditions on the tile's number.
-/

@[expose] public section

set_option maxRecDepth 16384

noncomputable section

namespace Cert.ProjIdeal.Proj

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's condition 0. -/
abbrev cond0 (i : grid0.Coords) : Prop := (Scalar.cmpi .ne (Scalar.extui (Scalar.cmpi .eq (BitVec.ofNat 32 (i 1).val) 0#32)) 0#32) = 1#1
/-- Where it holds. -/
theorem hcond0 : ∀ t : Fin cfg0.N, cond0 (grid0.coords t) ↔ t.val % 10 = 0 :=
  (fun t => by
    have ht : t.val < 520 := Nat.lt_of_lt_of_eq t.isLt N_0
    have e0 : (grid0.coords t 0).val = t.val / 10 % 52 := Pipeline.Grid.coords_val t 0 (by decide) rfl
    have e1 : (grid0.coords t 1).val = t.val / 1 % 10 := Pipeline.Grid.coords_val t 1 (by decide) rfl
    simp only [cond0, e0, e1]
    word_cmp
   : ∀ t : Fin grid0.N, cond0 (grid0.coords t) ↔ t.val % 10 = 0)

/-- The body's condition 1. -/
abbrev cond1 (i : grid0.Coords) : Prop := k0_cond2 i = 1#1
/-- Where it holds. -/
theorem hcond1 : ∀ t : Fin cfg0.N, cond1 (grid0.coords t) ↔ t.val % 10 = 0 :=
  (fun t => by
    have ht : t.val < 520 := Nat.lt_of_lt_of_eq t.isLt N_0
    have e0 : (grid0.coords t 0).val = t.val / 10 % 52 := Pipeline.Grid.coords_val t 0 (by decide) rfl
    have e1 : (grid0.coords t 1).val = t.val / 1 % 10 := Pipeline.Grid.coords_val t 1 (by decide) rfl
    simp only [cond1, k0_cond2, e0, e1]
    word_cmp
   : ∀ t : Fin grid0.N, cond1 (grid0.coords t) ↔ t.val % 10 = 0)

/-- The body's condition 2. -/
abbrev cond2 (i : grid0.Coords) : Prop := k0_cond3 i = 1#1
/-- Where it holds. -/
theorem hcond2 : ∀ t : Fin cfg0.N, cond2 (grid0.coords t) ↔ t.val % 10 = 1 :=
  (fun t => by
    have ht : t.val < 520 := Nat.lt_of_lt_of_eq t.isLt N_0
    have e0 : (grid0.coords t 0).val = t.val / 10 % 52 := Pipeline.Grid.coords_val t 0 (by decide) rfl
    have e1 : (grid0.coords t 1).val = t.val / 1 % 10 := Pipeline.Grid.coords_val t 1 (by decide) rfl
    simp only [cond2, k0_cond3, e0, e1]
    word_cmp
   : ∀ t : Fin grid0.N, cond2 (grid0.coords t) ↔ t.val % 10 = 1)

/-- The body's condition 3. -/
abbrev cond3 (i : grid0.Coords) : Prop := k0_cond4 i = 1#1
/-- Where it holds. -/
theorem hcond3 : ∀ t : Fin cfg0.N, cond3 (grid0.coords t) ↔ t.val % 10 = 2 :=
  (fun t => by
    have ht : t.val < 520 := Nat.lt_of_lt_of_eq t.isLt N_0
    have e0 : (grid0.coords t 0).val = t.val / 10 % 52 := Pipeline.Grid.coords_val t 0 (by decide) rfl
    have e1 : (grid0.coords t 1).val = t.val / 1 % 10 := Pipeline.Grid.coords_val t 1 (by decide) rfl
    simp only [cond3, k0_cond4, e0, e1]
    word_cmp
   : ∀ t : Fin grid0.N, cond3 (grid0.coords t) ↔ t.val % 10 = 2)

/-- The body's condition 4. -/
abbrev cond4 (i : grid0.Coords) : Prop := k0_cond5 i = 1#1
/-- Where it holds. -/
theorem hcond4 : ∀ t : Fin cfg0.N, cond4 (grid0.coords t) ↔ t.val % 10 = 3 :=
  (fun t => by
    have ht : t.val < 520 := Nat.lt_of_lt_of_eq t.isLt N_0
    have e0 : (grid0.coords t 0).val = t.val / 10 % 52 := Pipeline.Grid.coords_val t 0 (by decide) rfl
    have e1 : (grid0.coords t 1).val = t.val / 1 % 10 := Pipeline.Grid.coords_val t 1 (by decide) rfl
    simp only [cond4, k0_cond5, e0, e1]
    word_cmp
   : ∀ t : Fin grid0.N, cond4 (grid0.coords t) ↔ t.val % 10 = 3)

/-- The body's condition 5. -/
abbrev cond5 (i : grid0.Coords) : Prop := k0_cond6 i = 1#1
/-- Where it holds. -/
theorem hcond5 : ∀ t : Fin cfg0.N, cond5 (grid0.coords t) ↔ (4 ≤ t.val % 10 ∧ t.val % 10 ≤ 7) :=
  (by decide +kernel : ∀ t : Fin grid0.N, cond5 (grid0.coords t) ↔ (4 ≤ t.val % 10 ∧ t.val % 10 ≤ 7))

/-- The body's condition 6. -/
abbrev cond6 (i : grid0.Coords) : Prop := k0_cond7 i = 1#1
/-- Where it holds. -/
theorem hcond6 : ∀ t : Fin cfg0.N, cond6 (grid0.coords t) ↔ 8 ≤ t.val % 10 :=
  (by decide +kernel : ∀ t : Fin grid0.N, cond6 (grid0.coords t) ↔ 8 ≤ t.val % 10)

/-- A block of 1024 columns put together from eight groups of 128. -/
def groups (p : Fin 8 → Vec F S640x128 .bf16) : Vec F S640x1024 .bf16 := fun y =>
  p ⟨(y 1).val / 128, by have : (y 1).val < 1024 := (y 1).isLt; omega⟩ (ValueIdx.ix2 (y 0) ⟨(y 1).val % 128, by omega⟩)

/-- A block of eight groups in the columns of one of them. -/
theorem groups_at (p : Fin 8 → Vec F S640x128 .bf16) (g : Fin 8) (x : S640x128.Idx) (y : S640x1024.Idx)
    (h0 : (y 0).val = (x 0).val) (h1 : (y 1).val = 128 * g.val + (x 1).val) : p g x = groups p y := by
  have hx : (x 1).val < 128 := (x 1).isLt
  unfold groups
  refine congr (congrArg p (Fin.ext ?_)) (funext fun a => ?_)
  · show g.val = (y 1).val / 128; omega
  · fin_cases a
    · exact Fin.ext h0.symm
    · refine Fin.ext ?_
      show (x 1).val = (y 1).val % 128; omega

/-- What eight stores of 128 columns leave in a block. -/
theorem read_groups (v : View sig .tc .vmem S640x1024 .bf16) (f : v.ty.Contents (Elt F)) (p : Fin 8 → Vec F S640x128 .bf16)
    (h0 : ∀ a, (![0, 0] : Fin 2 → ℕ) a + S640x128.size a ≤ S640x1024.size a)
    (h1 : ∀ a, (![0, 128] : Fin 2 → ℕ) a + S640x128.size a ≤ S640x1024.size a)
    (h2 : ∀ a, (![0, 256] : Fin 2 → ℕ) a + S640x128.size a ≤ S640x1024.size a)
    (h3 : ∀ a, (![0, 384] : Fin 2 → ℕ) a + S640x128.size a ≤ S640x1024.size a)
    (h4 : ∀ a, (![0, 512] : Fin 2 → ℕ) a + S640x128.size a ≤ S640x1024.size a)
    (h5 : ∀ a, (![0, 640] : Fin 2 → ℕ) a + S640x128.size a ≤ S640x1024.size a)
    (h6 : ∀ a, (![0, 768] : Fin 2 → ℕ) a + S640x128.size a ≤ S640x1024.size a)
    (h7 : ∀ a, (![0, 896] : Fin 2 → ℕ) a + S640x128.size a ≤ S640x1024.size a)
    : v.read (Elt F) (v.writes (Elt F) f [⟨Rect.unit (s := S640x1024) ![0, 896] S640x128.size h7, p 7⟩,
      ⟨Rect.unit (s := S640x1024) ![0, 768] S640x128.size h6, p 6⟩,
      ⟨Rect.unit (s := S640x1024) ![0, 640] S640x128.size h5, p 5⟩,
      ⟨Rect.unit (s := S640x1024) ![0, 512] S640x128.size h4, p 4⟩,
      ⟨Rect.unit (s := S640x1024) ![0, 384] S640x128.size h3, p 3⟩,
      ⟨Rect.unit (s := S640x1024) ![0, 256] S640x128.size h2, p 2⟩,
      ⟨Rect.unit (s := S640x1024) ![0, 128] S640x128.size h1, p 1⟩,
      ⟨Rect.unit (s := S640x1024) ![0, 0] S640x128.size h0, p 0⟩]) = groups p := by
  funext y
  refine View.read_writes_apply_of_pieces v f (groups p) _ ?_ y (View.cover_of_tiledL (s := S640x1024) _ (fun a => S640x128.size a) (by sl_kernel_rfl) y)
  intro q hq
  simp only [List.mem_cons, List.not_mem_nil, or_false] at hq
  rcases hq with rfl | rfl | rfl | rfl | rfl | rfl | rfl | rfl
  · exact fun x => groups_at p 7 x _ (by show 0 + 1 * (x 0).val = (x 0).val; omega) (by show 896 + 1 * (x 1).val = 128 * 7 + (x 1).val; omega)
  · exact fun x => groups_at p 6 x _ (by show 0 + 1 * (x 0).val = (x 0).val; omega) (by show 768 + 1 * (x 1).val = 128 * 6 + (x 1).val; omega)
  · exact fun x => groups_at p 5 x _ (by show 0 + 1 * (x 0).val = (x 0).val; omega) (by show 640 + 1 * (x 1).val = 128 * 5 + (x 1).val; omega)
  · exact fun x => groups_at p 4 x _ (by show 0 + 1 * (x 0).val = (x 0).val; omega) (by show 512 + 1 * (x 1).val = 128 * 4 + (x 1).val; omega)
  · exact fun x => groups_at p 3 x _ (by show 0 + 1 * (x 0).val = (x 0).val; omega) (by show 384 + 1 * (x 1).val = 128 * 3 + (x 1).val; omega)
  · exact fun x => groups_at p 2 x _ (by show 0 + 1 * (x 0).val = (x 0).val; omega) (by show 256 + 1 * (x 1).val = 128 * 2 + (x 1).val; omega)
  · exact fun x => groups_at p 1 x _ (by show 0 + 1 * (x 0).val = (x 0).val; omega) (by show 128 + 1 * (x 1).val = 128 * 1 + (x 1).val; omega)
  · exact fun x => groups_at p 0 x _ (by show 0 + 1 * (x 0).val = (x 0).val; omega) (by show 0 + 1 * (x 1).val = 128 * 0 + (x 1).val; omega)

/-- The same with the eight groups one by one. -/
theorem read_eight (v : View sig .tc .vmem S640x1024 .bf16) (f : v.ty.Contents (Elt F)) (w0 w1 w2 w3 w4 w5 w6 w7 : Vec F S640x128 .bf16)
    (h0 : ∀ a, (![0, 0] : Fin 2 → ℕ) a + S640x128.size a ≤ S640x1024.size a)
    (h1 : ∀ a, (![0, 128] : Fin 2 → ℕ) a + S640x128.size a ≤ S640x1024.size a)
    (h2 : ∀ a, (![0, 256] : Fin 2 → ℕ) a + S640x128.size a ≤ S640x1024.size a)
    (h3 : ∀ a, (![0, 384] : Fin 2 → ℕ) a + S640x128.size a ≤ S640x1024.size a)
    (h4 : ∀ a, (![0, 512] : Fin 2 → ℕ) a + S640x128.size a ≤ S640x1024.size a)
    (h5 : ∀ a, (![0, 640] : Fin 2 → ℕ) a + S640x128.size a ≤ S640x1024.size a)
    (h6 : ∀ a, (![0, 768] : Fin 2 → ℕ) a + S640x128.size a ≤ S640x1024.size a)
    (h7 : ∀ a, (![0, 896] : Fin 2 → ℕ) a + S640x128.size a ≤ S640x1024.size a)
    : v.read (Elt F) (v.writes (Elt F) f [⟨Rect.unit (s := S640x1024) ![0, 896] S640x128.size h7, w7⟩,
      ⟨Rect.unit (s := S640x1024) ![0, 768] S640x128.size h6, w6⟩,
      ⟨Rect.unit (s := S640x1024) ![0, 640] S640x128.size h5, w5⟩,
      ⟨Rect.unit (s := S640x1024) ![0, 512] S640x128.size h4, w4⟩,
      ⟨Rect.unit (s := S640x1024) ![0, 384] S640x128.size h3, w3⟩,
      ⟨Rect.unit (s := S640x1024) ![0, 256] S640x128.size h2, w2⟩,
      ⟨Rect.unit (s := S640x1024) ![0, 128] S640x128.size h1, w1⟩,
      ⟨Rect.unit (s := S640x1024) ![0, 0] S640x128.size h0, w0⟩]) = groups ![w0, w1, w2, w3, w4, w5, w6, w7] :=
  read_groups v f ![w0, w1, w2, w3, w4, w5, w6, w7] h0 h1 h2 h3 h4 h5 h6 h7

/-- The tile of queries: eight heads, each rotated and scaled. -/
def outA (hn : Vec F S640x2048 .bf16) (w : Vec F S2048x1024 .bf16) (ct st : Vec F S640x128 .f32) : Vec F S640x1024 .bf16 :=
  groups ![k0_pay14 hn w ct st, k0_pay15 hn w ct st, k0_pay16 hn w ct st,
    k0_pay18 (k0_pay12 ct) (k0_pay13 st) (k0_pay17 hn w), k0_pay19 (k0_pay11 hn w) (k0_pay12 ct) (k0_pay13 st),
    k0_pay20 (k0_pay11 hn w) (k0_pay12 ct) (k0_pay13 st), k0_pay21 (k0_pay11 hn w) (k0_pay12 ct) (k0_pay13 st),
    k0_pay2 (k0_pay23 (k0_pay11 hn w) (k0_pay12 ct)) (k0_pay24 (k0_pay11 hn w) (k0_pay13 st))]

/-- The tile of keys: eight heads, each rotated. -/
def outB (hn : Vec F S640x2048 .bf16) (w : Vec F S2048x1024 .bf16) (ct st : Vec F S640x128 .f32) : Vec F S640x1024 .bf16 :=
  groups ![k0_pay28 hn w ct st, k0_pay29 hn w ct st, k0_pay30 hn w ct st, k0_pay31 hn w ct st,
    k0_pay3 (k0_pay25 hn w) (k0_pay26 ct) (k0_pay27 st), k0_pay4 (k0_pay25 hn w) (k0_pay26 ct) (k0_pay27 st),
    k0_pay5 (k0_pay25 hn w) (k0_pay26 ct) (k0_pay27 st), k0_pay6 (k0_pay25 hn w) (k0_pay26 ct) (k0_pay27 st)]

end Cert.ProjIdeal.Proj
-- ==== Proof.ProjRunA.lean ====
module

public import proofs.«01_k».proof.Proof.ProjPoint

/-!
# The tile of queries

The body at such a grid point, run from whatever the buffers hold.
-/

@[expose] public section

set_option maxRecDepth 16384

noncomputable section

namespace Cert.ProjIdeal.Proj

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The first column tile of a row block: the normalised rows go to the scratch, then the rotated and scaled queries to the block. -/
theorem runA (c : Dev nD) (i : grid0.Coords) (arg2 : Memref sig .tc .vmem S640x2048 .f32) (harg2 : arg2.IsWhole) (arg3 : Memref sig .tc .vmem S1x2048 .f32) (harg3 : arg3.IsWhole) (arg4 : Memref sig .tc .vmem S640x128 .f32) (harg4 : arg4.IsWhole) (arg5 : Memref sig .tc .vmem S640x128 .f32) (harg5 : arg5.IsWhole)
    (arg6 : Memref sig .tc .vmem S2048x1024 .bf16) (harg6 : arg6.IsWhole) (arg7 : Memref sig .tc .vmem S1024x2048 .bf16) (harg7 : arg7.IsWhole) (arg8 : Memref sig .tc .vmem S640x1024 .bf16) (harg8 : arg8.IsWhole) (arg9 : Memref sig .tc .vmem S1024x640 .bf16) (harg9 : arg9.IsWhole)
    (arg10 : Memref sig .tc .vmem S640x2048 .bf16) (harg10 : arg10.IsWhole) (hc0 : cond0 i) (hc1 : cond1 i) (hc2 : ¬cond2 i) (hc3 : ¬cond3 i) (hc4 : ¬cond4 i) (hc5 : ¬cond5 i) (hc6 : ¬cond6 i)
    (x0 : Vec F S640x2048 .f32) (x1 : Vec F S1x2048 .f32) (x2 : Vec F S640x128 .f32) (x3 : Vec F S640x128 .f32) (x4 : Vec F S2048x1024 .bf16) (x5 : Vec F S1024x2048 .bf16) (d6 : Vec F S640x1024 .bf16) (d7 : Vec F S1024x640 .bf16) (xs : Vec F S640x2048 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare d7 ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outA (k0_pay1 x0 x1) x4 x2 x3) ∗ owns (c : Thread nD τ) arg9 fullShare (d7) ∗ owns (c : Thread nD τ) arg10 fullShare (k0_pay1 x0 x1)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10) K := by
    intro E K
    simp only [cc0_in_proj_eq_skeleton]; unfold cc0_in_proj_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6; obtain rfl := harg9.eq_unread hf7; obtain rfl := harg10.eq_unread hfs
    sl_exec (disch := first | sl_exact hc0 | sl_exact hc1 | sl_exact hc2 | sl_exact hc3 | sl_exact hc4 | sl_exact hc5 | sl_exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr
      swap; · iexact H6
      ipureintro; skip
      have e4 : View.readAt (Elt F) arg4.view (Rect.unit (s := S640x128) ![0, 0] S640x128.size inb_S640x128_S640x128_0_0).toLoadRect (harg4.unread x2) = x2 :=
        (View.readAt_full _ _ _).trans (harg4.read_unread _)
      have e5 : View.readAt (Elt F) arg5.view (Rect.unit (s := S640x128) ![0, 0] S640x128.size inb_S640x128_S640x128_0_0).toLoadRect (harg5.unread x3) = x3 :=
        (View.readAt_full _ _ _).trans (harg5.read_unread _)
      have e6 : View.readAt (Elt F) arg6.view (Rect.unit (s := S2048x1024) ![0, 0] S2048x1024.size inb_S2048x1024_S2048x1024_0_0).toLoadRect (harg6.unread x4) = x4 :=
        (View.readAt_full _ _ _).trans (harg6.read_unread _)
      have e2 : View.readAt (Elt F) arg2.view (Rect.unit (s := S640x2048) ![0, 0] S640x2048.size inb_S640x2048_S640x2048_0_0).toLoadRect (harg2.unread x0) = x0 :=
        (View.readAt_full _ _ _).trans (harg2.read_unread _)
      have e3 : View.readAt (Elt F) arg3.view (Rect.unit (s := S1x2048) ![0, 0] S1x2048.size inb_S1x2048_S1x2048_0_0).toLoadRect (harg3.unread x1) = x1 :=
        (View.readAt_full _ _ _).trans (harg3.read_unread _)
      have e10 : arg10.view.readCov (Val := Elt F) [⟨Rect.unit (s := S640x2048) ![0, 0] S640x2048.size inb_S640x2048_S640x2048_0_0, k0_pay1 x0 x1⟩] (Rect.unit (s := S640x2048) ![0, 0] S640x2048.size inb_S640x2048_S640x2048_0_0).toLoadRect = k0_pay1 x0 x1 :=
        View.readCov_full _ _ _ _ _
      (try delta runA.sl.r_5)
      (try delta runA.sl.r_4)
      (try delta runA.sl.r_3)
      (try delta runA.sl.r_2)
      (try delta runA.sl.r_1)
      (try delta runA.sl.r)
      (try delta runA.sl.v23)
      (try delta runA.sl.HS_1)
      simp only [e4, e5, e6, e10, e2, e3]
      unfold outA
      exact read_eight (F := F) arg8.view (harg8.unread d6) _ _ _ _ _ _ _ _ _ _ _ _ _ _ _ _
    isplitl [H7]
    · iexists _; isplitr
      swap; · iexact H7
      ipureintro; exact harg9.read_unread _
    iexists _; isplitr
    swap; · iexact HS
    ipureintro; unfold runA.sl.HS_1; rw [View.read_writes_full, View.readAt_full, View.readAt_full, harg2.read_unread, harg3.read_unread]

end Cert.ProjIdeal.Proj
-- ==== Proof.ProjRunB.lean ====
module

public import proofs.«01_k».proof.Proof.ProjRunA

/-!
# The tile of keys

The body at such a grid point, run from whatever the buffers hold.
-/

@[expose] public section

set_option maxRecDepth 16384

noncomputable section

namespace Cert.ProjIdeal.Proj

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The second column tile: the rotated keys. -/
theorem runB (c : Dev nD) (i : grid0.Coords) (arg2 : Memref sig .tc .vmem S640x2048 .f32) (harg2 : arg2.IsWhole) (arg3 : Memref sig .tc .vmem S1x2048 .f32) (harg3 : arg3.IsWhole) (arg4 : Memref sig .tc .vmem S640x128 .f32) (harg4 : arg4.IsWhole) (arg5 : Memref sig .tc .vmem S640x128 .f32) (harg5 : arg5.IsWhole)
    (arg6 : Memref sig .tc .vmem S2048x1024 .bf16) (harg6 : arg6.IsWhole) (arg7 : Memref sig .tc .vmem S1024x2048 .bf16) (harg7 : arg7.IsWhole) (arg8 : Memref sig .tc .vmem S640x1024 .bf16) (harg8 : arg8.IsWhole) (arg9 : Memref sig .tc .vmem S1024x640 .bf16) (harg9 : arg9.IsWhole)
    (arg10 : Memref sig .tc .vmem S640x2048 .bf16) (harg10 : arg10.IsWhole) (hc0 : ¬cond0 i) (hc1 : ¬cond1 i) (hc2 : cond2 i) (hc3 : ¬cond3 i) (hc4 : ¬cond4 i) (hc5 : ¬cond5 i) (hc6 : ¬cond6 i)
    (x0 : Vec F S640x2048 .f32) (x1 : Vec F S1x2048 .f32) (x2 : Vec F S640x128 .f32) (x3 : Vec F S640x128 .f32) (x4 : Vec F S2048x1024 .bf16) (x5 : Vec F S1024x2048 .bf16) (d6 : Vec F S640x1024 .bf16) (d7 : Vec F S1024x640 .bf16) (xs : Vec F S640x2048 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare d7 ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outB xs x4 x2 x3) ∗ owns (c : Thread nD τ) arg9 fullShare (d7) ∗ owns (c : Thread nD τ) arg10 fullShare (xs)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10) K := by
    intro E K
    simp only [cc0_in_proj_eq_skeleton]; unfold cc0_in_proj_skel
    simp only [k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6; obtain rfl := harg9.eq_unread hf7; obtain rfl := harg10.eq_unread hfs
    sl_exec (disch := first | sl_exact hc0 | sl_exact hc1 | sl_exact hc2 | sl_exact hc3 | sl_exact hc4 | sl_exact hc5 | sl_exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr
      swap; · iexact H6
      ipureintro; skip
      have e4 : View.readAt (Elt F) arg4.view (Rect.unit (s := S640x128) ![0, 0] S640x128.size inb_S640x128_S640x128_0_0).toLoadRect (harg4.unread x2) = x2 :=
        (View.readAt_full _ _ _).trans (harg4.read_unread _)
      have e5 : View.readAt (Elt F) arg5.view (Rect.unit (s := S640x128) ![0, 0] S640x128.size inb_S640x128_S640x128_0_0).toLoadRect (harg5.unread x3) = x3 :=
        (View.readAt_full _ _ _).trans (harg5.read_unread _)
      have e6 : View.readAt (Elt F) arg6.view (Rect.unit (s := S2048x1024) ![0, 0] S2048x1024.size inb_S2048x1024_S2048x1024_0_0).toLoadRect (harg6.unread x4) = x4 :=
        (View.readAt_full _ _ _).trans (harg6.read_unread _)
      have e10 : View.readAt (Elt F) arg10.view (Rect.unit (s := S640x2048) ![0, 0] S640x2048.size inb_S640x2048_S640x2048_0_0).toLoadRect (harg10.unread xs) = xs :=
        (View.readAt_full _ _ _).trans (harg10.read_unread _)
      (try delta runB.sl.r_3)
      (try delta runB.sl.r_2)
      (try delta runB.sl.r_1)
      (try delta runB.sl.r)
      simp only [e4, e5, e6, e10]
      unfold outB
      exact read_eight (F := F) arg8.view (harg8.unread d6) _ _ _ _ _ _ _ _ _ _ _ _ _ _ _ _
    isplitl [H7]
    · iexists _; isplitr
      swap; · iexact H7
      ipureintro; exact harg9.read_unread _
    iexists _; isplitr
    swap; · iexact HS
    ipureintro; exact harg10.read_unread _

end Cert.ProjIdeal.Proj
-- ==== Proof.ProjRunC.lean ====
module

public import proofs.«01_k».proof.Proof.ProjRunB

/-!
# The other tiles

The body at such a grid point, run from whatever the buffers hold.
-/

@[expose] public section

set_option maxRecDepth 16384

noncomputable section

namespace Cert.ProjIdeal.Proj

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The third column tile: the scaled queries of the neighbourhood attention. -/
theorem runC (c : Dev nD) (i : grid0.Coords) (arg2 : Memref sig .tc .vmem S640x2048 .f32) (harg2 : arg2.IsWhole) (arg3 : Memref sig .tc .vmem S1x2048 .f32) (harg3 : arg3.IsWhole) (arg4 : Memref sig .tc .vmem S640x128 .f32) (harg4 : arg4.IsWhole) (arg5 : Memref sig .tc .vmem S640x128 .f32) (harg5 : arg5.IsWhole)
    (arg6 : Memref sig .tc .vmem S2048x1024 .bf16) (harg6 : arg6.IsWhole) (arg7 : Memref sig .tc .vmem S1024x2048 .bf16) (harg7 : arg7.IsWhole) (arg8 : Memref sig .tc .vmem S640x1024 .bf16) (harg8 : arg8.IsWhole) (arg9 : Memref sig .tc .vmem S1024x640 .bf16) (harg9 : arg9.IsWhole)
    (arg10 : Memref sig .tc .vmem S640x2048 .bf16) (harg10 : arg10.IsWhole) (hc0 : ¬cond0 i) (hc1 : ¬cond1 i) (hc2 : ¬cond2 i) (hc3 : cond3 i) (hc4 : ¬cond4 i) (hc5 : ¬cond5 i) (hc6 : ¬cond6 i)
    (x0 : Vec F S640x2048 .f32) (x1 : Vec F S1x2048 .f32) (x2 : Vec F S640x128 .f32) (x3 : Vec F S640x128 .f32) (x4 : Vec F S2048x1024 .bf16) (x5 : Vec F S1024x2048 .bf16) (d6 : Vec F S640x1024 .bf16) (d7 : Vec F S1024x640 .bf16) (xs : Vec F S640x2048 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare d7 ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay7 xs x4) ∗ owns (c : Thread nD τ) arg9 fullShare (d7) ∗ owns (c : Thread nD τ) arg10 fullShare (xs)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10) K := by
    intro E K
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6; obtain rfl := harg9.eq_unread hf7; obtain rfl := harg10.eq_unread hfs
    sl_exec (disch := first | sl_exact hc0 | sl_exact hc1 | sl_exact hc2 | sl_exact hc3 | sl_exact hc4 | sl_exact hc5 | sl_exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr
      swap; · iexact H6
      ipureintro; rw [View.read_writes_full, View.readAt_full, View.readAt_full, harg10.read_unread, harg6.read_unread]
    isplitl [H7]
    · iexists _; isplitr
      swap; · iexact H7
      ipureintro; exact harg9.read_unread _
    iexists _; isplitr
    swap; · iexact HS
    ipureintro; exact harg10.read_unread _

set_option maxHeartbeats 2000000 in
/-- The fourth column tile: the keys of the neighbourhood attention, as they are. -/
theorem runD (c : Dev nD) (i : grid0.Coords) (arg2 : Memref sig .tc .vmem S640x2048 .f32) (harg2 : arg2.IsWhole) (arg3 : Memref sig .tc .vmem S1x2048 .f32) (harg3 : arg3.IsWhole) (arg4 : Memref sig .tc .vmem S640x128 .f32) (harg4 : arg4.IsWhole) (arg5 : Memref sig .tc .vmem S640x128 .f32) (harg5 : arg5.IsWhole)
    (arg6 : Memref sig .tc .vmem S2048x1024 .bf16) (harg6 : arg6.IsWhole) (arg7 : Memref sig .tc .vmem S1024x2048 .bf16) (harg7 : arg7.IsWhole) (arg8 : Memref sig .tc .vmem S640x1024 .bf16) (harg8 : arg8.IsWhole) (arg9 : Memref sig .tc .vmem S1024x640 .bf16) (harg9 : arg9.IsWhole)
    (arg10 : Memref sig .tc .vmem S640x2048 .bf16) (harg10 : arg10.IsWhole) (hc0 : ¬cond0 i) (hc1 : ¬cond1 i) (hc2 : ¬cond2 i) (hc3 : ¬cond3 i) (hc4 : cond4 i) (hc5 : ¬cond5 i) (hc6 : ¬cond6 i)
    (x0 : Vec F S640x2048 .f32) (x1 : Vec F S1x2048 .f32) (x2 : Vec F S640x128 .f32) (x3 : Vec F S640x128 .f32) (x4 : Vec F S2048x1024 .bf16) (x5 : Vec F S1024x2048 .bf16) (d6 : Vec F S640x1024 .bf16) (d7 : Vec F S1024x640 .bf16) (xs : Vec F S640x2048 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare d7 ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay8 xs x4) ∗ owns (c : Thread nD τ) arg9 fullShare (d7) ∗ owns (c : Thread nD τ) arg10 fullShare (xs)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10) K := by
    intro E K
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6; obtain rfl := harg9.eq_unread hf7; obtain rfl := harg10.eq_unread hfs
    sl_exec (disch := first | sl_exact hc0 | sl_exact hc1 | sl_exact hc2 | sl_exact hc3 | sl_exact hc4 | sl_exact hc5 | sl_exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr
      swap; · iexact H6
      ipureintro; rw [View.read_writes_full, View.readAt_full, View.readAt_full, harg10.read_unread, harg6.read_unread]
    isplitl [H7]
    · iexists _; isplitr
      swap; · iexact H7
      ipureintro; exact harg9.read_unread _
    iexists _; isplitr
    swap; · iexact HS
    ipureintro; exact harg10.read_unread _

set_option maxHeartbeats 2000000 in
/-- The gate tiles: through the sigmoid. -/
theorem runE (c : Dev nD) (i : grid0.Coords) (arg2 : Memref sig .tc .vmem S640x2048 .f32) (harg2 : arg2.IsWhole) (arg3 : Memref sig .tc .vmem S1x2048 .f32) (harg3 : arg3.IsWhole) (arg4 : Memref sig .tc .vmem S640x128 .f32) (harg4 : arg4.IsWhole) (arg5 : Memref sig .tc .vmem S640x128 .f32) (harg5 : arg5.IsWhole)
    (arg6 : Memref sig .tc .vmem S2048x1024 .bf16) (harg6 : arg6.IsWhole) (arg7 : Memref sig .tc .vmem S1024x2048 .bf16) (harg7 : arg7.IsWhole) (arg8 : Memref sig .tc .vmem S640x1024 .bf16) (harg8 : arg8.IsWhole) (arg9 : Memref sig .tc .vmem S1024x640 .bf16) (harg9 : arg9.IsWhole)
    (arg10 : Memref sig .tc .vmem S640x2048 .bf16) (harg10 : arg10.IsWhole) (hc0 : ¬cond0 i) (hc1 : ¬cond1 i) (hc2 : ¬cond2 i) (hc3 : ¬cond3 i) (hc4 : ¬cond4 i) (hc5 : cond5 i) (hc6 : ¬cond6 i)
    (x0 : Vec F S640x2048 .f32) (x1 : Vec F S1x2048 .f32) (x2 : Vec F S640x128 .f32) (x3 : Vec F S640x128 .f32) (x4 : Vec F S2048x1024 .bf16) (x5 : Vec F S1024x2048 .bf16) (d6 : Vec F S640x1024 .bf16) (d7 : Vec F S1024x640 .bf16) (xs : Vec F S640x2048 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare d7 ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay9 xs x4) ∗ owns (c : Thread nD τ) arg9 fullShare (d7) ∗ owns (c : Thread nD τ) arg10 fullShare (xs)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10) K := by
    intro E K
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6; obtain rfl := harg9.eq_unread hf7; obtain rfl := harg10.eq_unread hfs
    sl_exec (disch := first | sl_exact hc0 | sl_exact hc1 | sl_exact hc2 | sl_exact hc3 | sl_exact hc4 | sl_exact hc5 | sl_exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr
      swap; · iexact H6
      ipureintro; rw [View.read_writes_full, View.readAt_full, View.readAt_full, harg10.read_unread, harg6.read_unread]
    isplitl [H7]
    · iexists _; isplitr
      swap; · iexact H7
      ipureintro; exact harg9.read_unread _
    iexists _; isplitr
    swap; · iexact HS
    ipureintro; exact harg10.read_unread _

set_option maxHeartbeats 2000000 in
/-- The value tiles, stored transposed. -/
theorem runF (c : Dev nD) (i : grid0.Coords) (arg2 : Memref sig .tc .vmem S640x2048 .f32) (harg2 : arg2.IsWhole) (arg3 : Memref sig .tc .vmem S1x2048 .f32) (harg3 : arg3.IsWhole) (arg4 : Memref sig .tc .vmem S640x128 .f32) (harg4 : arg4.IsWhole) (arg5 : Memref sig .tc .vmem S640x128 .f32) (harg5 : arg5.IsWhole)
    (arg6 : Memref sig .tc .vmem S2048x1024 .bf16) (harg6 : arg6.IsWhole) (arg7 : Memref sig .tc .vmem S1024x2048 .bf16) (harg7 : arg7.IsWhole) (arg8 : Memref sig .tc .vmem S640x1024 .bf16) (harg8 : arg8.IsWhole) (arg9 : Memref sig .tc .vmem S1024x640 .bf16) (harg9 : arg9.IsWhole)
    (arg10 : Memref sig .tc .vmem S640x2048 .bf16) (harg10 : arg10.IsWhole) (hc0 : ¬cond0 i) (hc1 : ¬cond1 i) (hc2 : ¬cond2 i) (hc3 : ¬cond3 i) (hc4 : ¬cond4 i) (hc5 : ¬cond5 i) (hc6 : cond6 i)
    (x0 : Vec F S640x2048 .f32) (x1 : Vec F S1x2048 .f32) (x2 : Vec F S640x128 .f32) (x3 : Vec F S640x128 .f32) (x4 : Vec F S2048x1024 .bf16) (x5 : Vec F S1024x2048 .bf16) (d6 : Vec F S640x1024 .bf16) (d7 : Vec F S1024x640 .bf16) (xs : Vec F S640x2048 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare d7 ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (d6) ∗ owns (c : Thread nD τ) arg9 fullShare (k0_pay10 x5 xs) ∗ owns (c : Thread nD τ) arg10 fullShare (xs)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10) K := by
    intro E K
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6; obtain rfl := harg9.eq_unread hf7; obtain rfl := harg10.eq_unread hfs
    sl_exec (disch := first | sl_exact hc0 | sl_exact hc1 | sl_exact hc2 | sl_exact hc3 | sl_exact hc4 | sl_exact hc5 | sl_exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr
      swap; · iexact H6
      ipureintro; exact harg8.read_unread _
    isplitl [H7]
    · iexists _; isplitr
      swap; · iexact H7
      ipureintro; rw [View.read_writes_full, View.readAt_full, View.readAt_full, harg10.read_unread, harg7.read_unread]
    iexists _; isplitr
    swap; · iexact HS
    ipureintro; exact harg10.read_unread _

end Cert.ProjIdeal.Proj
-- ==== Proof.ProjRun.lean ====
module

public import proofs.«01_k».proof.Proof.ProjRunC
public import Idealize.ShloMosaic.Lib.Pipeline.TableIdle
public import Idealize.ShloMosaic.Lib.Claim

/-!
# The run of the input projection

What each window's buffer holds after every grid point, and the run of the whole grid.
The scratch keeps the normalised rows of a row block through its ten column tiles.  The
block of the first result waits two grid points before it is written back, the block of the
second result is not touched before the ninth tile.
-/

@[expose] public section

set_option maxRecDepth 16384

noncomputable section

namespace Cert.ProjIdeal.Proj

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window 0's staging buffer at point `t`. -/
abbrev ms0_0 (t : Fin cfg0.N) := win0_0.stage (cfg0.slots t 0)
abbrev hs0_0 (t : Fin cfg0.N) := hstage0_0 ((cfg0.slots t 0).cast nbuf0_0)

/-- Window 1's staging buffer at point `t`. -/
abbrev ms0_1 (t : Fin cfg0.N) := win0_1.stage (cfg0.slots t 1)
abbrev hs0_1 (t : Fin cfg0.N) := hstage0_1 ((cfg0.slots t 1).cast nbuf0_1)

/-- Window 2's staging buffer at point `t`. -/
abbrev ms0_2 (t : Fin cfg0.N) := win0_2.stage (cfg0.slots t 2)
abbrev hs0_2 (t : Fin cfg0.N) := hstage0_2 ((cfg0.slots t 2).cast nbuf0_2)

/-- Window 3's staging buffer at point `t`. -/
abbrev ms0_3 (t : Fin cfg0.N) := win0_3.stage (cfg0.slots t 3)
abbrev hs0_3 (t : Fin cfg0.N) := hstage0_3 ((cfg0.slots t 3).cast nbuf0_3)

/-- Window 4's staging buffer at point `t`. -/
abbrev ms0_4 (t : Fin cfg0.N) := win0_4.stage (cfg0.slots t 4)
abbrev hs0_4 (t : Fin cfg0.N) := hstage0_4 ((cfg0.slots t 4).cast nbuf0_4)

/-- Window 5's staging buffer at point `t`. -/
abbrev ms0_5 (t : Fin cfg0.N) := win0_5.stage (cfg0.slots t 5)
abbrev hs0_5 (t : Fin cfg0.N) := hstage0_5 ((cfg0.slots t 5).cast nbuf0_5)

/-- Window 6's staging buffer at point `t`. -/
abbrev ms0_6 (t : Fin cfg0.N) := win0_6.stage (cfg0.slots t 6)
abbrev hs0_6 (t : Fin cfg0.N) := hstage0_6 ((cfg0.slots t 6).cast nbuf0_6)

/-- Window 7's staging buffer at point `t`. -/
abbrev ms0_7 (t : Fin cfg0.N) := win0_7.stage (cfg0.slots t 7)
abbrev hs0_7 (t : Fin cfg0.N) := hstage0_7 ((cfg0.slots t 7).cast nbuf0_7)

/-- The scratch buffer. -/
abbrev scM0 : Memref sig .tc .vmem S640x2048 .bf16 := Memref.whole cc0_scratch0

theorem lt_N (t : Fin cfg0.N) : t.val < 520 := lt_of_lt_of_eq t.isLt N_0

/-- The first grid point of a row block. -/
def first (t : Fin cfg0.N) : Fin cfg0.N := ⟨10 * (t.val / 10), lt_of_le_of_lt (Nat.mul_div_le _ _) t.isLt⟩
/-- The last grid point of a row block up to `t` that stores to the first result. -/
def lastStore (t : Fin cfg0.N) : Fin cfg0.N := ⟨min t.val (10 * (t.val / 10) + 7), lt_of_le_of_lt (Nat.min_le_left _ _) t.isLt⟩

/-- The normalised rows of the row block of point `t`. -/
def rowsAt (c : Dev nD) (t : Fin cfg0.N) : Vec F S640x2048 .bf16 :=
  k0_pay1 (iblk m c 0 (first t)) (iblk m c 1 (first t))

/-- What a point that stores to the first result leaves there. -/
def storeAt (c : Dev nD) (t : Fin cfg0.N) : Vec F S640x1024 .bf16 :=
  if t.val % 10 = 0 then outA (rowsAt m c t) (iblk m c 4 t) (iblk m c 2 t) (iblk m c 3 t)
  else if t.val % 10 = 1 then outB (rowsAt m c t) (iblk m c 4 t) (iblk m c 2 t) (iblk m c 3 t)
  else if t.val % 10 = 2 then k0_pay7 (rowsAt m c t) (iblk m c 4 t)
  else if t.val % 10 = 3 then k0_pay8 (rowsAt m c t) (iblk m c 4 t)
  else k0_pay9 (rowsAt m c t) (iblk m c 4 t)

/-- What a point that stores to the second result leaves there. -/
def transAt (c : Dev nD) (t : Fin cfg0.N) : Vec F S1024x640 .bf16 := k0_pay10 (iblk m c 5 t) (rowsAt m c t)

theorem first_eq (t : Fin cfg0.N) (h : t.val % 10 = 0) : first t = t := by
  unfold first; exact Fin.ext (by show 10 * (t.val / 10) = t.val; omega)
theorem first_pred (t : Fin cfg0.N) (h : t.val % 10 ≠ 0) (hp : t.val - 1 < cfg0.N) : first ⟨t.val - 1, hp⟩ = first t := by
  unfold first; exact Fin.ext (by show 10 * ((t.val - 1) / 10) = 10 * (t.val / 10); omega)
theorem lastStore_eq (t : Fin cfg0.N) (h : t.val % 10 ≤ 7) : lastStore t = t := by
  unfold lastStore; exact Fin.ext (by show min t.val (10 * (t.val / 10) + 7) = t.val; omega)
theorem lastStore_pred (t : Fin cfg0.N) (h : 8 ≤ t.val % 10) (hp : t.val - 1 < cfg0.N) : lastStore ⟨t.val - 1, hp⟩ = lastStore t := by
  unfold lastStore; exact Fin.ext (by show min (t.val - 1) (10 * ((t.val - 1) / 10) + 7) = min t.val (10 * (t.val / 10) + 7); omega)
theorem rowsAt_zero (c : Dev nD) (t : Fin cfg0.N) (h : t.val % 10 = 0) : rowsAt m c t = k0_pay1 (iblk m c 0 t) (iblk m c 1 t) := by
  unfold rowsAt; rw [first_eq t h]
theorem rowsAt_pred (c : Dev nD) (t : Fin cfg0.N) (h : t.val % 10 ≠ 0) (hp : t.val - 1 < cfg0.N) : rowsAt m c ⟨t.val - 1, hp⟩ = rowsAt m c t := by
  unfold rowsAt; rw [first_pred t h hp]

/-- The invariant: before the first point the scratch holds anything, afterwards the
    normalised rows of the row block of the point before. -/
def PhiS (c : Dev nD) : (n : ℕ) → n ≤ cfg0.N → sProp 𝕄
  | 0, _ => Pipeline.ΦA spec0 c
  | n + 1, hn => iprop(iprop(owns (c : Thread nD τ) scM0 fullShare (rowsAt m c ⟨n, hn⟩)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0 fullShare (rowsAt m c ⟨n, hn⟩)) ∗ (∃ r, prngReg c r)) := rfl
theorem PhiS_pos (c : Dev nD) (n : ℕ) (h : n ≤ cfg0.N) (hz : n ≠ 0) :
    PhiS m c n h = iprop(iprop(owns (c : Thread nD τ) scM0 fullShare (rowsAt m c ⟨n - 1, by omega⟩)) ∗ (∃ r, prngReg c r)) := by
  cases n with
  | zero => exact absurd rfl hz
  | succ n => rfl

theorem PhiA0_eq (c : Dev nD) :
    (Pipeline.ΦA spec0 c : sProp 𝕄)
      = iprop(iprop((∃ d, owns (c : Thread nD τ) scM0 fullShare d)) ∗ (∃ r, prngReg c r)) := by
  unfold Pipeline.ΦA; rw [scopedRest0_eq]; simp only [scM0, owns_whole]; try rfl

/-- The invariant at any point, its scratch forgotten. -/
theorem PhiS_any (c : Dev nD) (n : ℕ) (h : n ≤ cfg0.N) : PhiS m c n h ⊢ (iprop(iprop((∃ d, owns (c : Thread nD τ) scM0 fullShare d)) ∗ (∃ r, prngReg c r)) : sProp 𝕄) := by
  by_cases hz : n = 0
  · rw [PhiS_zero m c n h hz, PhiA0_eq]
  · rw [PhiS_pos m c n h hz]
    iintro ⟨HS, Hg⟩
    isplitl [HS]
    · iexists _; iexact HS
    iexact Hg

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => storeAt m c (lastStore t)
    | ⟨7, _⟩ => transAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = storeAt m c (lastStore t) := by dsimp only [dats]
theorem after0_7 (c : Dev nD) (t : Fin cfg0.N) : (dats m 0 c).after 7 t = transAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- Where the first result's window is idle, and where it is written back. -/
theorem idle6 : ∀ t : Fin cfg0.N, cfg0.idle 6 (grid0.coords t) = decide (8 ≤ t.val % 10) :=
  (by decide +kernel : ∀ t : Fin grid0.N, idle0 6 (grid0.coords t) = decide (8 ≤ t.val % 10))
theorem idle7 : ∀ t : Fin cfg0.N, cfg0.idle 7 (grid0.coords t) = decide (t.val % 10 < 8) :=
  (by decide +kernel : ∀ t : Fin grid0.N, idle0 7 (grid0.coords t) = decide (t.val % 10 < 8))
theorem flush6 : ∀ t : Fin cfg0.N, (cfg0.win 6).flush t = (decide (t.val % 10 < 7) || decide (t.val % 10 = 9)) :=
  (by decide +kernel : ∀ t : Fin grid0.N, win0_6.flush t = (decide (t.val % 10 < 7) || decide (t.val % 10 = 9)))
theorem flush7 : ∀ t : Fin cfg0.N, (cfg0.win 7).flush t = decide (8 ≤ t.val % 10) :=
  (by decide +kernel : ∀ t : Fin grid0.N, win0_7.flush t = decide (8 ≤ t.val % 10))

/-- The block of the first result found at the last tile of a row block is the one stored there last. -/
theorem before_last (c : Dev nD) (t : Fin cfg0.N) (h : t.val % 10 = 9) (d) : (dats m 0 c).before 6 t d = (dats m 0 c).after 6 t := by
  have hN := lt_N t
  have e1 : t.val - 1 < cfg0.N := lt_of_le_of_lt (Nat.sub_le _ _) t.isLt
  have e2 : t.val - 1 - 1 < cfg0.N := lt_of_le_of_lt (Nat.sub_le _ _) e1
  have s1 := (dats m 0 c).before_of_pos 6 t (by omega) ((cfg0.win 6).fetch_out rfl t) d
  have s2 := (dats m 0 c).before_of_pos 6 ⟨t.val - 1, e1⟩ (by show t.val - 1 ≠ 0; omega) ((cfg0.win 6).fetch_out rfl _) d
  have f1 : (cfg0.win 6).flush ⟨t.val - 1, e1⟩ = false := by
    rw [flush6]; simp only [Bool.or_eq_false_iff, decide_eq_false_iff_not]; omega
  have f2 : (cfg0.win 6).flush ⟨t.val - 1 - 1, e2⟩ = false := by
    rw [flush6]; simp only [Bool.or_eq_false_iff, decide_eq_false_iff_not]; omega
  have i1 : cfg0.idle 6 (grid0.coords ⟨t.val - 1, e1⟩) = true := by
    rw [idle6]; simp only [decide_eq_true_eq]; omega
  have i2 : cfg0.idle 6 (grid0.coords ⟨t.val - 1 - 1, e2⟩) = false := by
    rw [idle6]; simp only [decide_eq_false_iff_not]; omega
  rw [f1, if_neg Bool.false_ne_true] at s1
  rw [f2, if_neg Bool.false_ne_true] at s2
  rw [s1]; unfold Dat.left; rw [i1]
  show (dats m 0 c).before 6 ⟨t.val - 1, e1⟩ d = _
  rw [s2]; unfold Dat.left; rw [i2]
  show (dats m 0 c).after 6 ⟨t.val - 1 - 1, e2⟩ = _
  rw [after0_6, after0_6]
  refine congrArg (storeAt m c) (Fin.ext ?_)
  unfold lastStore
  show min (t.val - 1 - 1) (10 * ((t.val - 1 - 1) / 10) + 7) = min t.val (10 * (t.val / 10) + 7)
  omega

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (dats m 0 c).leavesExact 6 t ∗ (dats m 0 c).leavesExact 7 t)

theorem leaves6_live (c : Dev nD) (t : Fin cfg0.N) (h : t.val % 10 < 8) :
    (dats m 0 c).leavesExact 6 t = owns (c : Thread nD τ) (ms0_6 t) fullShare (storeAt m c t) := by
  unfold Dat.leavesExact
  rw [show cfg0.idle 6 (cfg0.grid.coords t) = false from (idle6 t).trans (decide_eq_false (by omega)), after0_6, lastStore_eq t (by omega)]
theorem leaves6_eight (c : Dev nD) (t : Fin cfg0.N) (h : t.val % 10 = 8) :
    (dats m 0 c).leavesExact 6 t = iprop(∃ d, owns (c : Thread nD τ) (ms0_6 t) fullShare ((dats m 0 c).before 6 t d)) :=
  (dats m 0 c).leavesExact_idle 6 t ((idle6 t).trans (decide_eq_true (by omega)))
    ((flush6 t).trans (by simp only [Bool.or_eq_false_iff, decide_eq_false_iff_not]; omega))
theorem leaves6_nine (c : Dev nD) (t : Fin cfg0.N) (h : t.val % 10 = 9) :
    (dats m 0 c).leavesExact 6 t = owns (c : Thread nD τ) (ms0_6 t) fullShare ((dats m 0 c).after 6 t) := by
  unfold Dat.leavesExact
  rw [show cfg0.idle 6 (cfg0.grid.coords t) = true from (idle6 t).trans (decide_eq_true (by omega)),
    show (cfg0.win 6).flush t = true from (flush6 t).trans (by simp only [Bool.or_eq_true, decide_eq_true_eq]; omega)]
theorem leaves7_idle (c : Dev nD) (t : Fin cfg0.N) (h : t.val % 10 < 8) :
    (dats m 0 c).leavesExact 7 t = iprop(∃ d, owns (c : Thread nD τ) (ms0_7 t) fullShare ((dats m 0 c).before 7 t d)) :=
  (dats m 0 c).leavesExact_idle 7 t ((idle7 t).trans (decide_eq_true (by omega)))
    ((flush7 t).trans (decide_eq_false (by omega)))
theorem leaves7_live (c : Dev nD) (t : Fin cfg0.N) (h : 8 ≤ t.val % 10) :
    (dats m 0 c).leavesExact 7 t = owns (c : Thread nD τ) (ms0_7 t) fullShare (transAt m c t) := by
  unfold Dat.leavesExact
  rw [show cfg0.idle 7 (cfg0.grid.coords t) = false from (idle7 t).trans (decide_eq_false (by omega)), after0_7]

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ, PhiS_castSucc]
  have hN := lt_N t
  rcases (show t.val % 10 = 0 ∨ t.val % 10 = 1 ∨ t.val % 10 = 2 ∨ t.val % 10 = 3 ∨ (4 ≤ t.val % 10 ∧ t.val % 10 ≤ 7) ∨ t.val % 10 = 8 ∨ t.val % 10 = 9 by omega) with h | h | h | h | h | h | h
  · rw [leaves6_live m c t (by omega), leaves7_idle m c t (by omega)]
    unfold storeAt; rw [if_pos h]
    rw [rowsAt_zero m c t h]
    by_cases hz : t.val = 0
    · rw [PhiS_zero m c _ _ hz, PhiA0_eq]
      iintro ⟨⟨⟨%s0, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runA c (grid0.coords t) _ (hs0_0 t) _ (hs0_1 t) _ (hs0_2 t) _ (hs0_3 t) _ (hs0_4 t) _ (hs0_5 t) _ (hs0_6 t) _ (hs0_7 t) scM0 (Memref.isWhole_whole _) ((hcond0 t).mpr (by omega)) ((hcond1 t).mpr (by omega)) (fun h => absurd ((hcond2 t).mp h) (by omega)) (fun h => absurd ((hcond3 t).mp h) (by omega)) (fun h => absurd ((hcond4 t).mp h) (by omega)) (fun h => absurd ((hcond5 t).mp h) (by omega)) (fun h => absurd ((hcond6 t).mp h) (by omega)) (iblk m c 0 t) (iblk m c 1 t) (iblk m c 2 t) (iblk m c 3 t) (iblk m c 4 t) (iblk m c 5 t) ((dats m 0 c).before 6 t d6) ((dats m 0 c).before 7 t d7) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS Hg]
      · isplitl [HS]
        · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists d7; iexact H7
    · rw [PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runA c (grid0.coords t) _ (hs0_0 t) _ (hs0_1 t) _ (hs0_2 t) _ (hs0_3 t) _ (hs0_4 t) _ (hs0_5 t) _ (hs0_6 t) _ (hs0_7 t) scM0 (Memref.isWhole_whole _) ((hcond0 t).mpr (by omega)) ((hcond1 t).mpr (by omega)) (fun h => absurd ((hcond2 t).mp h) (by omega)) (fun h => absurd ((hcond3 t).mp h) (by omega)) (fun h => absurd ((hcond4 t).mp h) (by omega)) (fun h => absurd ((hcond5 t).mp h) (by omega)) (fun h => absurd ((hcond6 t).mp h) (by omega)) (iblk m c 0 t) (iblk m c 1 t) (iblk m c 2 t) (iblk m c 3 t) (iblk m c 4 t) (iblk m c 5 t) ((dats m 0 c).before 6 t d6) ((dats m 0 c).before 7 t d7) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS Hg]
      · isplitl [HS]
        · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists d7; iexact H7
  · rw [PhiS_pos m c _ _ (show t.val ≠ 0 by omega), rowsAt_pred m c t (by omega)]
    rw [leaves6_live m c t (by omega), leaves7_idle m c t (by omega)]
    unfold storeAt; rw [if_neg (by omega), if_pos h]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runB c (grid0.coords t) _ (hs0_0 t) _ (hs0_1 t) _ (hs0_2 t) _ (hs0_3 t) _ (hs0_4 t) _ (hs0_5 t) _ (hs0_6 t) _ (hs0_7 t) scM0 (Memref.isWhole_whole _) (fun h => absurd ((hcond0 t).mp h) (by omega)) (fun h => absurd ((hcond1 t).mp h) (by omega)) ((hcond2 t).mpr (by omega)) (fun h => absurd ((hcond3 t).mp h) (by omega)) (fun h => absurd ((hcond4 t).mp h) (by omega)) (fun h => absurd ((hcond5 t).mp h) (by omega)) (fun h => absurd ((hcond6 t).mp h) (by omega)) (iblk m c 0 t) (iblk m c 1 t) (iblk m c 2 t) (iblk m c 3 t) (iblk m c 4 t) (iblk m c 5 t) ((dats m 0 c).before 6 t d6) ((dats m 0 c).before 7 t d7) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists d7; iexact H7
  · rw [PhiS_pos m c _ _ (show t.val ≠ 0 by omega), rowsAt_pred m c t (by omega)]
    rw [leaves6_live m c t (by omega), leaves7_idle m c t (by omega)]
    unfold storeAt; rw [if_neg (by omega), if_neg (by omega), if_pos h]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runC c (grid0.coords t) _ (hs0_0 t) _ (hs0_1 t) _ (hs0_2 t) _ (hs0_3 t) _ (hs0_4 t) _ (hs0_5 t) _ (hs0_6 t) _ (hs0_7 t) scM0 (Memref.isWhole_whole _) (fun h => absurd ((hcond0 t).mp h) (by omega)) (fun h => absurd ((hcond1 t).mp h) (by omega)) (fun h => absurd ((hcond2 t).mp h) (by omega)) ((hcond3 t).mpr (by omega)) (fun h => absurd ((hcond4 t).mp h) (by omega)) (fun h => absurd ((hcond5 t).mp h) (by omega)) (fun h => absurd ((hcond6 t).mp h) (by omega)) (iblk m c 0 t) (iblk m c 1 t) (iblk m c 2 t) (iblk m c 3 t) (iblk m c 4 t) (iblk m c 5 t) ((dats m 0 c).before 6 t d6) ((dats m 0 c).before 7 t d7) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists d7; iexact H7
  · rw [PhiS_pos m c _ _ (show t.val ≠ 0 by omega), rowsAt_pred m c t (by omega)]
    rw [leaves6_live m c t (by omega), leaves7_idle m c t (by omega)]
    unfold storeAt; rw [if_neg (by omega), if_neg (by omega), if_neg (by omega), if_pos h]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runD c (grid0.coords t) _ (hs0_0 t) _ (hs0_1 t) _ (hs0_2 t) _ (hs0_3 t) _ (hs0_4 t) _ (hs0_5 t) _ (hs0_6 t) _ (hs0_7 t) scM0 (Memref.isWhole_whole _) (fun h => absurd ((hcond0 t).mp h) (by omega)) (fun h => absurd ((hcond1 t).mp h) (by omega)) (fun h => absurd ((hcond2 t).mp h) (by omega)) (fun h => absurd ((hcond3 t).mp h) (by omega)) ((hcond4 t).mpr (by omega)) (fun h => absurd ((hcond5 t).mp h) (by omega)) (fun h => absurd ((hcond6 t).mp h) (by omega)) (iblk m c 0 t) (iblk m c 1 t) (iblk m c 2 t) (iblk m c 3 t) (iblk m c 4 t) (iblk m c 5 t) ((dats m 0 c).before 6 t d6) ((dats m 0 c).before 7 t d7) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists d7; iexact H7
  · rw [PhiS_pos m c _ _ (show t.val ≠ 0 by omega), rowsAt_pred m c t (by omega)]
    rw [leaves6_live m c t (by omega), leaves7_idle m c t (by omega)]
    unfold storeAt; rw [if_neg (by omega), if_neg (by omega), if_neg (by omega), if_neg (by omega)]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runE c (grid0.coords t) _ (hs0_0 t) _ (hs0_1 t) _ (hs0_2 t) _ (hs0_3 t) _ (hs0_4 t) _ (hs0_5 t) _ (hs0_6 t) _ (hs0_7 t) scM0 (Memref.isWhole_whole _) (fun h => absurd ((hcond0 t).mp h) (by omega)) (fun h => absurd ((hcond1 t).mp h) (by omega)) (fun h => absurd ((hcond2 t).mp h) (by omega)) (fun h => absurd ((hcond3 t).mp h) (by omega)) (fun h => absurd ((hcond4 t).mp h) (by omega)) ((hcond5 t).mpr (by omega)) (fun h => absurd ((hcond6 t).mp h) (by omega)) (iblk m c 0 t) (iblk m c 1 t) (iblk m c 2 t) (iblk m c 3 t) (iblk m c 4 t) (iblk m c 5 t) ((dats m 0 c).before 6 t d6) ((dats m 0 c).before 7 t d7) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists d7; iexact H7
  · rw [PhiS_pos m c _ _ (show t.val ≠ 0 by omega), rowsAt_pred m c t (by omega)]
    rw [leaves7_live m c t (by omega)]; unfold transAt
    rw [leaves6_eight m c t (by omega)]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runF c (grid0.coords t) _ (hs0_0 t) _ (hs0_1 t) _ (hs0_2 t) _ (hs0_3 t) _ (hs0_4 t) _ (hs0_5 t) _ (hs0_6 t) _ (hs0_7 t) scM0 (Memref.isWhole_whole _) (fun h => absurd ((hcond0 t).mp h) (by omega)) (fun h => absurd ((hcond1 t).mp h) (by omega)) (fun h => absurd ((hcond2 t).mp h) (by omega)) (fun h => absurd ((hcond3 t).mp h) (by omega)) (fun h => absurd ((hcond4 t).mp h) (by omega)) (fun h => absurd ((hcond5 t).mp h) (by omega)) ((hcond6 t).mpr (by omega)) (iblk m c 0 t) (iblk m c 1 t) (iblk m c 2 t) (iblk m c 3 t) (iblk m c 4 t) (iblk m c 5 t) ((dats m 0 c).before 6 t d6) ((dats m 0 c).before 7 t d7) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists d6; iexact H6
    iexact H7
  · rw [PhiS_pos m c _ _ (show t.val ≠ 0 by omega), rowsAt_pred m c t (by omega)]
    rw [leaves7_live m c t (by omega)]; unfold transAt
    rw [leaves6_nine m c t (by omega)]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runF c (grid0.coords t) _ (hs0_0 t) _ (hs0_1 t) _ (hs0_2 t) _ (hs0_3 t) _ (hs0_4 t) _ (hs0_5 t) _ (hs0_6 t) _ (hs0_7 t) scM0 (Memref.isWhole_whole _) (fun h => absurd ((hcond0 t).mp h) (by omega)) (fun h => absurd ((hcond1 t).mp h) (by omega)) (fun h => absurd ((hcond2 t).mp h) (by omega)) (fun h => absurd ((hcond3 t).mp h) (by omega)) (fun h => absurd ((hcond4 t).mp h) (by omega)) (fun h => absurd ((hcond5 t).mp h) (by omega)) ((hcond6 t).mpr (by omega)) (iblk m c 0 t) (iblk m c 1 t) (iblk m c 2 t) (iblk m c 3 t) (iblk m c 4 t) (iblk m c 5 t) ((dats m 0 c).before 6 t d6) ((dats m 0 c).before 7 t d7) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · rw [before_last m c t (by omega)]; iexact H6
    iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA0_eq]
  exact PhiS_any m c _ _

set_option backward.isDefEq.respectTransparency.types false in
/-- The run of the whole grid. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they began, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.ProjIdeal.Proj
-- ==== Proof.ProjFrame.lean ====
module

public import proofs.«01_k».proof.Defs
public import proofs.«01_k».proof.Proof.Gen.Proj
public import proofs.«01_k».proof.Proof.Gen.ProjIdeal
public import proofs.«01_k».proof.Proof.ProjRun

/-!
# The frame of the input projection at the machine's floats

The kernel and its ideal text are the same text, so the one run serves both.
-/

@[expose] public section

set_option maxRecDepth 16384

noncomputable section

namespace Cert.Proof.Proj

open Idealize.ShloMosaic Idealize.SL.Sem

attribute [local instance] Cert.Proj.Gen.facts Cert.ProjIdeal.Gen.facts

/-- Both body tables have one label, with one body. -/
theorem bodies_eq : Cert.Proj.defs₀ (F := Bits) = Cert.ProjIdeal.defs₀ (F := Bits) := by
  unfold Cert.Proj.defs₀ Cert.ProjIdeal.defs₀
  refine congrArg Defs.onTc ?_
  funext l a
  rcases l with ⟨l, h⟩
  cases l with
  | zero => rfl
  | succ n => exact absurd h (Nat.not_lt.2 (Nat.le_add_left _ _))

theorem defs_eq : Cert.Proj.defs (F := Bits) = Cert.ProjIdeal.defs (F := Bits) := by
  unfold Cert.Proj.defs Cert.ProjIdeal.defs
  exact congrArg (Pipeline.defs (Cert.ProjIdeal.pcfgs (F := Bits))) bodies_eq

set_option maxHeartbeats 4000000 in
/-- The kernel runs and changes nothing but its results. -/
theorem frame_proj : Cert.quiescent_Proj := fun m ρ _ => by
  have h := Cert.ProjIdeal.Proj.frame (F := Bits) m ρ
  rw [← defs_eq] at h
  exact h

/-- So does its ideal text. -/
theorem frame_projIdeal : Cert.quiescent_ProjIdeal := fun m ρ _ => Cert.ProjIdeal.Proj.frame m ρ

end Cert.Proof.Proj

end
-- ==== Proof.ProjArrays.lean ====
module

public import proofs.«01_k».proof.Proof.ProjRun
public import Idealize.ShloMosaic.Lib.Pointwise
public import Idealize.ShloMosaic.Lib.Pipeline.ValueKit
public import Idealize.ShloMosaic.Lib.Pipeline.ReadBack
public import Idealize.ShloMosaic.Lib.Claim

/-!
# The arrays that the input projection works on

The weights in the order of the results' columns, the weights of the values transposed, and the tables of cosines and
sines that turn queries and keys.
-/

@[expose] public section

set_option maxRecDepth 16384

noncomputable section

namespace Cert.ProjIdeal.Proj

open Cert.ProjIdeal Cert.ProjIdeal.Gen
open Idealize.ShloMosaic Idealize.ShloMosaic.TcCoe

variable (m : (ℓ : Loc nD τ sig) → Buf (Elt Ideal) ℓ)

/-- Where each window stands. -/
theorem idx0 : ∀ t : Fin cfg0.N, win0_0.index t = ![t.val / 10, 0] ∧ win0_1.index t = ![0, 0]
    ∧ win0_2.index t = ![t.val / 10, 0] ∧ win0_3.index t = ![t.val / 10, 0] ∧ win0_4.index t = ![0, min (t.val % 10) 7]
    ∧ win0_5.index t = ![t.val % 10 - 8, 0] ∧ win0_6.index t = ![t.val / 10, min (t.val % 10) 7] ∧ win0_7.index t = ![t.val % 10 - 8, t.val / 10] :=
  (by decide +kernel : ∀ t : Fin grid0.N, _)

theorem row_block (c : Dev nD) (t : Fin cfg0.N) (r : Fin 640) (k : Fin 2048) (hb : 640 * (t.val / 10) + r.val < 33280) :
    iblk m c 0 t (ix2 r k) = m ((c : Thread nD τ).loc main_arg0) (ix2 ⟨640 * (t.val / 10) + r.val, hb⟩ k) := by
  obtain ⟨e0, e1, e2, e3, e4, e5, e6, e7⟩ := idx0 t
  blk_point [iblk, V, e0]

theorem gain_block (c : Dev nD) (t : Fin cfg0.N) (k : Fin 2048) :
    iblk m c 1 t (ix2 0 k) = m ((c : Thread nD τ).loc main_arg1) (ix1 k) := by
  obtain ⟨e0, e1, e2, e3, e4, e5, e6, e7⟩ := idx0 t
  blk_point [iblk, V, e1]

/-- The weights of the first result. -/
def wMain (A2 : FVec Ideal S2048x10240 .f32) : FVec Ideal S2048x8192 .f32 :=
  concatenate S2048x8192 1 [⟨S2048x1024, extractStridedSlice S2048x1024 ![0, 0] A2 slices_S2048x10240_S2048x1024_0_0⟩,
    ⟨S2048x1024, extractStridedSlice S2048x1024 ![0, 1024] A2 slices_S2048x10240_S2048x1024_0_1024⟩,
    ⟨S2048x1024, extractStridedSlice S2048x1024 ![0, 3072] A2 slices_S2048x10240_S2048x1024_0_3072⟩,
    ⟨S2048x1024, extractStridedSlice S2048x1024 ![0, 4096] A2 slices_S2048x10240_S2048x1024_0_4096⟩,
    ⟨S2048x2048, extractStridedSlice S2048x2048 ![0, 6144] A2 slices_S2048x10240_S2048x2048_0_6144⟩,
    ⟨S2048x2048, extractStridedSlice S2048x2048 ![0, 8192] A2 slices_S2048x10240_S2048x2048_0_8192⟩]
    concatenates_S2048x1024_S2048x1024_S2048x1024_S2048x1024_S2048x2048_S2048x2048_S2048x8192_d1

/-- The weights of the values, transposed. -/
def wvt (A2 : FVec Ideal S2048x10240 .f32) : FVec Ideal S2048x2048 .f32 :=
  transpose S2048x2048 [1, 0] (concatenate S2048x2048 1 [⟨S2048x1024, extractStridedSlice S2048x1024 ![0, 2048] A2 slices_S2048x10240_S2048x1024_0_2048⟩,
    ⟨S2048x1024, extractStridedSlice S2048x1024 ![0, 5120] A2 slices_S2048x10240_S2048x1024_0_5120⟩]
    concatenates_S2048x1024_S2048x1024_S2048x2048_d1) transposes_S2048x2048_S2048x2048_1_0

/-- The angles by position in a sequence and column of a half head. Padding rows stand at position 0. -/
def angles : FVec Ideal S8320x64 .f32 :=
  mulf (broadcastInDim S8320x64 ![0, 1] bcast_S8320x1_S8320x64_0_1 (broadcastInDim S8320x1 ![0] bcast_S8320_S8320x1_0 (sitofp .f32 (maxsi (subi (iotaInDim S8320 32 0) (broadcastInDim S8320 ![] bcast_S_S8320 (constantI S_ 32 112#32))) (broadcastInDim S8320 ![] bcast_S_S8320 (constantI S_ 32 0#32))))))
    (broadcastInDim S8320x64 ![0, 1] bcast_S1x64_S8320x64_0_1 (broadcastInDim S1x64 ![1] bcast_S64_S1x64_1 (Host.divf (broadcastInDim S64 ![] bcast_S_S64 (constant S_ .f32 0x3F800000#32)) (Host.powf (broadcastInDim S64 ![] bcast_S_S64 (constant S_ .f32 0x461C4000#32)) (Host.divf (addf (broadcastInDim S64 ![] bcast_S_S64 (constant S_ .f32 0x00000000#32)) (mulf (broadcastInDim S64 ![] bcast_S_S64 (constant S_ .f32 0x40000000#32)) (sitofp .f32 (iotaInDim S64 32 0)))) (broadcastInDim S64 ![] bcast_S_S64 (constant S_ .f32 0x43000000#32)))))))

/-- The cosines, for each row, over both halves of a head. -/
def cosTable : FVec Ideal S33280x128 .f32 :=
  shapeCast S33280x128 (broadcastInDim S4x8320x1x128 ![0, 1, 2, 3] bcast_S1x8320x1x128_S4x8320x1x128_0_1_2_3 (shapeCast S1x8320x1x128
    (concatenate S8320x128 1 [⟨S8320x64, Host.cos angles⟩, ⟨S8320x64, Host.cos angles⟩] concatenates_S8320x64_S8320x64_S8320x128_d1)
    shapeCasts_S8320x128_S1x8320x1x128)) shapeCasts_S4x8320x1x128_S33280x128

/-- The sines, negative in the first half of a head. -/
def sinTable : FVec Ideal S33280x128 .f32 :=
  shapeCast S33280x128 (broadcastInDim S4x8320x1x128 ![0, 1, 2, 3] bcast_S1x8320x1x128_S4x8320x1x128_0_1_2_3 (shapeCast S1x8320x1x128
    (concatenate S8320x128 1 [⟨S8320x64, Host.negf (Host.sin angles)⟩, ⟨S8320x64, Host.sin angles⟩] concatenates_S8320x64_S8320x64_S8320x128_d1)
    shapeCasts_S8320x128_S1x8320x1x128)) shapeCasts_S4x8320x1x128_S33280x128

theorem V_main (c : Dev nD) : V m c main_v42 = (truncf .bf16 (wMain (m ((c : Thread nD τ).loc main_arg2))) bitsLt_bf16_f32 : FVec Ideal S2048x8192 .bf16) := by
  unfold wMain V
  after_results_simp
  rfl

theorem V_wvt (c : Dev nD) : V m c main_v45 = (truncf .bf16 (wvt (m ((c : Thread nD τ).loc main_arg2))) bitsLt_bf16_f32 : FVec Ideal S2048x2048 .bf16) := by
  unfold wvt V
  after_results_simp
  rfl

theorem V_cos (c : Dev nD) : V m c main_v29 = cosTable := by
  unfold cosTable angles V
  after_results_simp
  rfl

theorem V_sin (c : Dev nD) : V m c main_v32 = sinTable := by
  unfold sinTable angles V
  after_results_simp
  rfl

/-- The column of the weights that column `n` of the first result is made with. -/
def col (n : ℕ) : ℕ := if n < 2048 then n else if n < 4096 then n + 1024 else n + 2048

theorem col_lt (n : Fin 8192) : col n.val < 10240 := by unfold col; split_ifs <;> omega

theorem wMain_apply (A2 : FVec Ideal S2048x10240 .f32) (k : Fin 2048) (n : Fin 8192) :
    wMain A2 (ix2 k n) = A2 (ix2 k ⟨col n.val, col_lt n⟩) := by
  have hn : n.val < 8192 := n.isLt
  pointwise [wMain]
  split_ifs <;> exact congrArg (fun q => A2 (ix2 k q)) (Fin.ext (by simp only [col]; split_ifs <;> omega))

/-- The column of the weights that row `n` of the second result is made with. -/
def vcol (n : ℕ) : ℕ := if n < 1024 then n + 2048 else n + 4096

theorem vcol_lt (n : Fin 2048) : vcol n.val < 10240 := by unfold vcol; split_ifs <;> omega

theorem wvt_apply (A2 : FVec Ideal S2048x10240 .f32) (k : Fin 2048) (n : Fin 2048) :
    wvt A2 (ix2 n k) = A2 (ix2 k ⟨vcol n.val, vcol_lt n⟩) := by
  have hn : n.val < 2048 := n.isLt
  pointwise [wvt]
  split_ifs <;> exact congrArg (fun q => A2 (ix2 k q)) (Fin.ext (by simp only [vcol]; split_ifs <;> omega))

theorem cos_apply (i : Fin 33280) (d : Fin 128) :
    cosTable (ix2 i d) = Ideal.cos (angles (ix2 ⟨i.val % 8320, Nat.mod_lt _ (by decide)⟩ ⟨d.val % 64, Nat.mod_lt _ (by decide)⟩)) := by
  have hd : d.val < 128 := d.isLt
  pointwise [cosTable]
  split_ifs <;> exact congrArg (fun q => Ideal.cos (angles (ix2 _ q))) (Fin.ext (by simp only; omega))

theorem sin_apply (i : Fin 33280) (d : Fin 128) :
    sinTable (ix2 i d) = if d.val < 64 then -Ideal.sin (angles (ix2 ⟨i.val % 8320, Nat.mod_lt _ (by decide)⟩ ⟨d.val % 64, Nat.mod_lt _ (by decide)⟩))
      else Ideal.sin (angles (ix2 ⟨i.val % 8320, Nat.mod_lt _ (by decide)⟩ ⟨d.val % 64, Nat.mod_lt _ (by decide)⟩)) := by
  have hd : d.val < 128 := d.isLt
  pointwise [sinTable]
  split_ifs <;> first
    | exact congrArg (fun q => -Ideal.sin (angles (ix2 _ q))) (Fin.ext (by simp only; omega))
    | exact congrArg (fun q => Ideal.sin (angles (ix2 _ q))) (Fin.ext (by simp only; omega))

theorem main_block (c : Dev nD) (t : Fin cfg0.N) (k : Fin 2048) (n : Fin 1024) (hb : 1024 * min (t.val % 10) 7 + n.val < 8192) :
    iblk m c 4 t (ix2 k n) = wMain (m ((c : Thread nD τ).loc main_arg2)) (ix2 k ⟨1024 * min (t.val % 10) 7 + n.val, hb⟩) := by
  obtain ⟨e0, e1, e2, e3, e4, e5, e6, e7⟩ := idx0 t
  have hp : ((cfg0.win 4).blk t).view.emb (ix2 k n) = ix2 k (⟨1024 * min (t.val % 10) 7 + n.val, hb⟩ : Fin 8192) := by
    blk_ext [e4]
  unfold iblk
  refine (show _ = V m c main_v42 (((cfg0.win 4).blk t).view.emb (ix2 k n)) from rfl).trans ?_
  rw [hp, V_main]
  rfl

theorem vt_block (c : Dev nD) (t : Fin cfg0.N) (n : Fin 1024) (k : Fin 2048) (hb : 1024 * (t.val % 10 - 8) + n.val < 2048) :
    iblk m c 5 t (ix2 n k) = wvt (m ((c : Thread nD τ).loc main_arg2)) (ix2 ⟨1024 * (t.val % 10 - 8) + n.val, hb⟩ k) := by
  obtain ⟨e0, e1, e2, e3, e4, e5, e6, e7⟩ := idx0 t
  have hp : ((cfg0.win 5).blk t).view.emb (ix2 n k) = ix2 (⟨1024 * (t.val % 10 - 8) + n.val, hb⟩ : Fin 2048) k := by
    blk_ext [e5]
  unfold iblk
  refine (show _ = V m c main_v45 (((cfg0.win 5).blk t).view.emb (ix2 n k)) from rfl).trans ?_
  rw [hp, V_wvt]
  rfl

theorem cos_block (c : Dev nD) (t : Fin cfg0.N) (r : Fin 640) (d : Fin 128) (hb : 640 * (t.val / 10) + r.val < 33280) :
    iblk m c 2 t (ix2 r d) = cosTable (ix2 ⟨640 * (t.val / 10) + r.val, hb⟩ d) := by
  obtain ⟨e0, e1, e2, e3, e4, e5, e6, e7⟩ := idx0 t
  have hp : ((cfg0.win 2).blk t).view.emb (ix2 r d) = ix2 (⟨640 * (t.val / 10) + r.val, hb⟩ : Fin 33280) d := by
    blk_ext [e2]
  unfold iblk
  refine (show _ = V m c main_v29 (((cfg0.win 2).blk t).view.emb (ix2 r d)) from rfl).trans ?_
  rw [hp, V_cos]

theorem sin_block (c : Dev nD) (t : Fin cfg0.N) (r : Fin 640) (d : Fin 128) (hb : 640 * (t.val / 10) + r.val < 33280) :
    iblk m c 3 t (ix2 r d) = sinTable (ix2 ⟨640 * (t.val / 10) + r.val, hb⟩ d) := by
  obtain ⟨e0, e1, e2, e3, e4, e5, e6, e7⟩ := idx0 t
  have hp : ((cfg0.win 3).blk t).view.emb (ix2 r d) = ix2 (⟨640 * (t.val / 10) + r.val, hb⟩ : Fin 33280) d := by
    blk_ext [e3]
  unfold iblk
  refine (show _ = V m c main_v32 (((cfg0.win 3).blk t).view.emb (ix2 r d)) from rfl).trans ?_
  rw [hp, V_sin]

end Cert.ProjIdeal.Proj

end
-- ==== Proof.ProjTiles.lean ====
module

public import proofs.«01_k».proof.Proof.ProjPoint
public import Idealize.ShloMosaic.Lib.Pointwise
public import Idealize.ShloMosaic.Lib.Pipeline.ValueKit
public import Idealize.ShloMosaic.Lib.Pipeline.ReadBack
public import Idealize.ShloMosaic.Lib.Claim

/-!
# What the tiles of the input projection hold

Each tile's columns are products of the normalised rows and the tile's weights. Queries and keys are rotated: a
column of a head is turned with the column 64 away from it. Queries are scaled, gates go through the sigmoid.
-/

@[expose] public section

set_option maxRecDepth 16384

noncomputable section

namespace Cert.ProjIdeal.Proj

open Cert.ProjIdeal Cert.ProjIdeal.Gen
open Idealize.ShloMosaic Idealize.ShloMosaic.TcCoe

/-- Entry `k` of a normalised row with entries `x`, scaled by `g`. -/
def rms (x : Fin 2048 → EReal) (g : EReal) (k : Fin 2048) : EReal :=
  x k * Ideal.rsqrt (Ideal.div (∑ l, x l * x l) (Ideal.ofBits .f32 0x45000000#32) + Ideal.ofBits .f32 0x358637BD#32) * g

/-- The scale of the queries. -/
def scale : EReal := Ideal.ofBits .f32 0x3E0293EE#32

/-- Column `d` of head `g` of a row `p`, turned with the column 64 away from it. -/
def turn (p : Fin 1024 → EReal) (c s : EReal) (g : Fin 8) (d : Fin 128) : EReal :=
  p ⟨128 * g.val + d.val, by omega⟩ * c + p ⟨128 * g.val + (d.val + 128 - 64) % 128, by omega⟩ * s

/-- The rows that the first tile stores. -/
theorem rows_apply (x : Vec Ideal S640x2048 .f32) (g : Vec Ideal S1x2048 .f32) (r : Fin 640) (k : Fin 2048) :
    (k0_pay1 (F := Ideal) x g : Vec Ideal S640x2048 .bf16) (ix2 r k) = rms (fun l => x (ix2 r l)) (g (ix2 0 k)) k := by
  pointwise [k0_pay1, rms]

/-- Entry `n` of the product of a row and a tile of weights. -/
def prod (hn : Vec Ideal S640x2048 .bf16) (w : Vec Ideal S2048x1024 .bf16) (r : Fin 640) (n : Fin 1024) : EReal :=
  ∑ k, hn (ix2 r k) * w (ix2 k n)

theorem pay11_apply (hn : Vec Ideal S640x2048 .bf16) (w : Vec Ideal S2048x1024 .bf16) (r : Fin 640) (n : Fin 1024) :
    (k0_pay11 (F := Ideal) hn w : FVec Ideal S640x1024 .f32) (ix2 r n) = prod hn w r n := by
  pointwise [k0_pay11, prod]
theorem pay25_apply (hn : Vec Ideal S640x2048 .bf16) (w : Vec Ideal S2048x1024 .bf16) (r : Fin 640) (n : Fin 1024) :
    (k0_pay25 (F := Ideal) hn w : FVec Ideal S640x1024 .f32) (ix2 r n) = prod hn w r n := by
  pointwise [k0_pay25, prod]
theorem pay7_apply (hn : Vec Ideal S640x2048 .bf16) (w : Vec Ideal S2048x1024 .bf16) (r : Fin 640) (n : Fin 1024) :
    (k0_pay7 (F := Ideal) hn w : FVec Ideal S640x1024 .bf16) (ix2 r n) = prod hn w r n * scale := by
  pointwise [k0_pay7, prod, scale]
theorem pay8_apply (hn : Vec Ideal S640x2048 .bf16) (w : Vec Ideal S2048x1024 .bf16) (r : Fin 640) (n : Fin 1024) :
    (k0_pay8 (F := Ideal) hn w : FVec Ideal S640x1024 .bf16) (ix2 r n) = prod hn w r n := by
  pointwise [k0_pay8, prod]
theorem pay9_apply (hn : Vec Ideal S640x2048 .bf16) (w : Vec Ideal S2048x1024 .bf16) (r : Fin 640) (n : Fin 1024) :
    (k0_pay9 (F := Ideal) hn w : FVec Ideal S640x1024 .bf16) (ix2 r n) = Ideal.logistic (prod hn w r n) := by
  pointwise [k0_pay9, prod]
theorem pay10_apply (wt : Vec Ideal S1024x2048 .bf16) (hn : Vec Ideal S640x2048 .bf16) (n : Fin 1024) (r : Fin 640) :
    (k0_pay10 (F := Ideal) wt hn : FVec Ideal S1024x640 .bf16) (ix2 n r) = ∑ k, wt (ix2 n k) * hn (ix2 r k) := by
  pointwise [k0_pay10]

/-- Head `g` of a block `a`, turned. -/
def head (a : FVec Ideal S640x1024 .f32) (ct st : Vec Ideal S640x128 .f32) (g : Fin 8) (r : Fin 640) (d : Fin 128) : EReal :=
  turn (fun n => a (ix2 r n)) (ct (ix2 r d)) (st (ix2 r d)) g d

theorem query0_apply (hn : Vec Ideal S640x2048 .bf16) (w : Vec Ideal S2048x1024 .bf16) (ct st : Vec Ideal S640x128 .f32) (r : Fin 640) (d : Fin 128) :
    (k0_pay14 (F := Ideal) hn w ct st : FVec Ideal S640x128 .bf16) (ix2 r d) = head (k0_pay11 (F := Ideal) hn w) ct st 0 r d * scale := by
  pointwise [k0_pay14, k0_pay12, k0_pay13, head, turn, scale]

theorem query1_apply (hn : Vec Ideal S640x2048 .bf16) (w : Vec Ideal S2048x1024 .bf16) (ct st : Vec Ideal S640x128 .f32) (r : Fin 640) (d : Fin 128) :
    (k0_pay15 (F := Ideal) hn w ct st : FVec Ideal S640x128 .bf16) (ix2 r d) = head (k0_pay11 (F := Ideal) hn w) ct st 1 r d * scale := by
  pointwise [k0_pay15, k0_pay12, k0_pay13, head, turn, scale]

theorem query2_apply (hn : Vec Ideal S640x2048 .bf16) (w : Vec Ideal S2048x1024 .bf16) (ct st : Vec Ideal S640x128 .f32) (r : Fin 640) (d : Fin 128) :
    (k0_pay16 (F := Ideal) hn w ct st : FVec Ideal S640x128 .bf16) (ix2 r d) = head (k0_pay11 (F := Ideal) hn w) ct st 2 r d * scale := by
  pointwise [k0_pay16, k0_pay12, k0_pay13, head, turn, scale]

theorem query3_apply (hn : Vec Ideal S640x2048 .bf16) (w : Vec Ideal S2048x1024 .bf16) (ct st : Vec Ideal S640x128 .f32) (r : Fin 640) (d : Fin 128) :
    (k0_pay18 (F := Ideal) (k0_pay12 ct) (k0_pay13 st) (k0_pay17 hn w) : FVec Ideal S640x128 .bf16) (ix2 r d) = head (k0_pay11 (F := Ideal) hn w) ct st 3 r d * scale := by
  pointwise [k0_pay18, k0_pay17, k0_pay12, k0_pay13, head, turn, scale]

theorem query4_apply (hn : Vec Ideal S640x2048 .bf16) (w : Vec Ideal S2048x1024 .bf16) (ct st : Vec Ideal S640x128 .f32) (r : Fin 640) (d : Fin 128) :
    (k0_pay19 (F := Ideal) (k0_pay11 hn w) (k0_pay12 ct) (k0_pay13 st) : FVec Ideal S640x128 .bf16) (ix2 r d) = head (k0_pay11 (F := Ideal) hn w) ct st 4 r d * scale := by
  pointwise [k0_pay19, k0_pay12, k0_pay13, head, turn, scale]

theorem query5_apply (hn : Vec Ideal S640x2048 .bf16) (w : Vec Ideal S2048x1024 .bf16) (ct st : Vec Ideal S640x128 .f32) (r : Fin 640) (d : Fin 128) :
    (k0_pay20 (F := Ideal) (k0_pay11 hn w) (k0_pay12 ct) (k0_pay13 st) : FVec Ideal S640x128 .bf16) (ix2 r d) = head (k0_pay11 (F := Ideal) hn w) ct st 5 r d * scale := by
  pointwise [k0_pay20, k0_pay12, k0_pay13, head, turn, scale]

theorem query6_apply (hn : Vec Ideal S640x2048 .bf16) (w : Vec Ideal S2048x1024 .bf16) (ct st : Vec Ideal S640x128 .f32) (r : Fin 640) (d : Fin 128) :
    (k0_pay21 (F := Ideal) (k0_pay11 hn w) (k0_pay12 ct) (k0_pay13 st) : FVec Ideal S640x128 .bf16) (ix2 r d) = head (k0_pay11 (F := Ideal) hn w) ct st 6 r d * scale := by
  pointwise [k0_pay21, k0_pay12, k0_pay13, head, turn, scale]

theorem query7_apply (hn : Vec Ideal S640x2048 .bf16) (w : Vec Ideal S2048x1024 .bf16) (ct st : Vec Ideal S640x128 .f32) (r : Fin 640) (d : Fin 128) :
    (k0_pay2 (F := Ideal) (k0_pay23 (k0_pay11 hn w) (k0_pay12 ct)) (k0_pay24 (k0_pay11 hn w) (k0_pay13 st)) : FVec Ideal S640x128 .bf16) (ix2 r d) = head (k0_pay11 (F := Ideal) hn w) ct st 7 r d * scale := by
  pointwise [k0_pay2, k0_pay23, k0_pay24, k0_pay22, k0_pay12, k0_pay13, head, turn, scale]

theorem key0_apply (hn : Vec Ideal S640x2048 .bf16) (w : Vec Ideal S2048x1024 .bf16) (ct st : Vec Ideal S640x128 .f32) (r : Fin 640) (d : Fin 128) :
    (k0_pay28 (F := Ideal) hn w ct st : FVec Ideal S640x128 .bf16) (ix2 r d) = head (k0_pay25 (F := Ideal) hn w) ct st 0 r d := by
  pointwise [k0_pay28, k0_pay26, k0_pay27, head, turn]

theorem key1_apply (hn : Vec Ideal S640x2048 .bf16) (w : Vec Ideal S2048x1024 .bf16) (ct st : Vec Ideal S640x128 .f32) (r : Fin 640) (d : Fin 128) :
    (k0_pay29 (F := Ideal) hn w ct st : FVec Ideal S640x128 .bf16) (ix2 r d) = head (k0_pay25 (F := Ideal) hn w) ct st 1 r d := by
  pointwise [k0_pay29, k0_pay26, k0_pay27, head, turn]

theorem key2_apply (hn : Vec Ideal S640x2048 .bf16) (w : Vec Ideal S2048x1024 .bf16) (ct st : Vec Ideal S640x128 .f32) (r : Fin 640) (d : Fin 128) :
    (k0_pay30 (F := Ideal) hn w ct st : FVec Ideal S640x128 .bf16) (ix2 r d) = head (k0_pay25 (F := Ideal) hn w) ct st 2 r d := by
  pointwise [k0_pay30, k0_pay26, k0_pay27, head, turn]

theorem key3_apply (hn : Vec Ideal S640x2048 .bf16) (w : Vec Ideal S2048x1024 .bf16) (ct st : Vec Ideal S640x128 .f32) (r : Fin 640) (d : Fin 128) :
    (k0_pay31 (F := Ideal) hn w ct st : FVec Ideal S640x128 .bf16) (ix2 r d) = head (k0_pay25 (F := Ideal) hn w) ct st 3 r d := by
  pointwise [k0_pay31, k0_pay26, k0_pay27, head, turn]

theorem key4_apply (hn : Vec Ideal S640x2048 .bf16) (w : Vec Ideal S2048x1024 .bf16) (ct st : Vec Ideal S640x128 .f32) (r : Fin 640) (d : Fin 128) :
    (k0_pay3 (F := Ideal) (k0_pay25 hn w) (k0_pay26 ct) (k0_pay27 st) : FVec Ideal S640x128 .bf16) (ix2 r d) = head (k0_pay25 (F := Ideal) hn w) ct st 4 r d := by
  pointwise [k0_pay3, k0_pay26, k0_pay27, head, turn]

theorem key5_apply (hn : Vec Ideal S640x2048 .bf16) (w : Vec Ideal S2048x1024 .bf16) (ct st : Vec Ideal S640x128 .f32) (r : Fin 640) (d : Fin 128) :
    (k0_pay4 (F := Ideal) (k0_pay25 hn w) (k0_pay26 ct) (k0_pay27 st) : FVec Ideal S640x128 .bf16) (ix2 r d) = head (k0_pay25 (F := Ideal) hn w) ct st 5 r d := by
  pointwise [k0_pay4, k0_pay26, k0_pay27, head, turn]

theorem key6_apply (hn : Vec Ideal S640x2048 .bf16) (w : Vec Ideal S2048x1024 .bf16) (ct st : Vec Ideal S640x128 .f32) (r : Fin 640) (d : Fin 128) :
    (k0_pay5 (F := Ideal) (k0_pay25 hn w) (k0_pay26 ct) (k0_pay27 st) : FVec Ideal S640x128 .bf16) (ix2 r d) = head (k0_pay25 (F := Ideal) hn w) ct st 6 r d := by
  pointwise [k0_pay5, k0_pay26, k0_pay27, head, turn]

theorem key7_apply (hn : Vec Ideal S640x2048 .bf16) (w : Vec Ideal S2048x1024 .bf16) (ct st : Vec Ideal S640x128 .f32) (r : Fin 640) (d : Fin 128) :
    (k0_pay6 (F := Ideal) (k0_pay25 hn w) (k0_pay26 ct) (k0_pay27 st) : FVec Ideal S640x128 .bf16) (ix2 r d) = head (k0_pay25 (F := Ideal) hn w) ct st 7 r d := by
  pointwise [k0_pay6, k0_pay26, k0_pay27, head, turn]

/-- The tile of queries. -/
theorem outA_apply (hn : Vec Ideal S640x2048 .bf16) (w : Vec Ideal S2048x1024 .bf16) (ct st : Vec Ideal S640x128 .f32) (r : Fin 640) (n : Fin 1024) :
    outA (F := Ideal) hn w ct st (ix2 r n)
      = turn (prod hn w r) (ct (ix2 r ⟨n.val % 128, by omega⟩)) (st (ix2 r ⟨n.val % 128, by omega⟩)) ⟨n.val / 128, by omega⟩ ⟨n.val % 128, by omega⟩ * scale := by
  have key : ∀ g : Fin 8, ∀ d : Fin 128, n.val / 128 = g.val → n.val % 128 = d.val → outA (F := Ideal) hn w ct st (ix2 r n)
      = head (k0_pay11 (F := Ideal) hn w) ct st g r d * scale := by
    intro g d hg hd
    unfold outA
    have e := groups_at (F := Ideal) ![k0_pay14 hn w ct st, k0_pay15 hn w ct st, k0_pay16 hn w ct st, k0_pay18 (k0_pay12 ct) (k0_pay13 st) (k0_pay17 hn w), k0_pay19 (k0_pay11 hn w) (k0_pay12 ct) (k0_pay13 st), k0_pay20 (k0_pay11 hn w) (k0_pay12 ct) (k0_pay13 st), k0_pay21 (k0_pay11 hn w) (k0_pay12 ct) (k0_pay13 st), k0_pay2 (k0_pay23 (k0_pay11 hn w) (k0_pay12 ct)) (k0_pay24 (k0_pay11 hn w) (k0_pay13 st))] g (ix2 r d) (ix2 r n) rfl
      (by show n.val = 128 * g.val + d.val; omega)
    rw [← e]
    fin_cases g
    · exact query0_apply hn w ct st r d
    · exact query1_apply hn w ct st r d
    · exact query2_apply hn w ct st r d
    · exact query3_apply hn w ct st r d
    · exact query4_apply hn w ct st r d
    · exact query5_apply hn w ct st r d
    · exact query6_apply hn w ct st r d
    · exact query7_apply hn w ct st r d
  rw [key ⟨n.val / 128, by omega⟩ ⟨n.val % 128, by omega⟩ rfl rfl]
  unfold head
  simp only [pay11_apply]

/-- The tile of keys. -/
theorem outB_apply (hn : Vec Ideal S640x2048 .bf16) (w : Vec Ideal S2048x1024 .bf16) (ct st : Vec Ideal S640x128 .f32) (r : Fin 640) (n : Fin 1024) :
    outB (F := Ideal) hn w ct st (ix2 r n)
      = turn (prod hn w r) (ct (ix2 r ⟨n.val % 128, by omega⟩)) (st (ix2 r ⟨n.val % 128, by omega⟩)) ⟨n.val / 128, by omega⟩ ⟨n.val % 128, by omega⟩ := by
  have key : ∀ g : Fin 8, ∀ d : Fin 128, n.val / 128 = g.val → n.val % 128 = d.val → outB (F := Ideal) hn w ct st (ix2 r n)
      = head (k0_pay25 (F := Ideal) hn w) ct st g r d := by
    intro g d hg hd
    unfold outB
    have e := groups_at (F := Ideal) ![k0_pay28 hn w ct st, k0_pay29 hn w ct st, k0_pay30 hn w ct st, k0_pay31 hn w ct st, k0_pay3 (k0_pay25 hn w) (k0_pay26 ct) (k0_pay27 st), k0_pay4 (k0_pay25 hn w) (k0_pay26 ct) (k0_pay27 st), k0_pay5 (k0_pay25 hn w) (k0_pay26 ct) (k0_pay27 st), k0_pay6 (k0_pay25 hn w) (k0_pay26 ct) (k0_pay27 st)] g (ix2 r d) (ix2 r n) rfl
      (by show n.val = 128 * g.val + d.val; omega)
    rw [← e]
    fin_cases g
    · exact key0_apply hn w ct st r d
    · exact key1_apply hn w ct st r d
    · exact key2_apply hn w ct st r d
    · exact key3_apply hn w ct st r d
    · exact key4_apply hn w ct st r d
    · exact key5_apply hn w ct st r d
    · exact key6_apply hn w ct st r d
    · exact key7_apply hn w ct st r d
  rw [key ⟨n.val / 128, by omega⟩ ⟨n.val % 128, by omega⟩ rfl rfl]
  unfold head
  simp only [pay25_apply]

end Cert.ProjIdeal.Proj

end
-- ==== Proof.ProjValue.lean ====
module

public import proofs.«01_k».proof.Proof.ProjArrays
public import proofs.«01_k».proof.Proof.ProjTiles

/-!
# What the input projection leaves

Both results entry by entry. Columns of the first result are queries of the first attention (turned and scaled), its
keys (turned), queries of the second (scaled), its keys, and the gates through the sigmoid. The second result is the
values, transposed.
-/

@[expose] public section

set_option maxRecDepth 16384

noncomputable section

namespace Cert.ProjIdeal.Proj

open Cert.ProjIdeal Cert.ProjIdeal.Gen
open Idealize.ShloMosaic Idealize.ShloMosaic.TcCoe

/-- Entry `n` of the product of the normalised row `i` and the weights. -/
def dot (A0 : Vec Ideal S33280x2048 .f32) (a1 : Vec Ideal S2048 .f32) (A2 : Vec Ideal S2048x10240 .f32) (i : Fin 33280) (n : Fin 10240) : EReal :=
  ∑ k, rms (fun l => A0 (ix2 i l)) (a1 (ix1 k)) k * A2 (ix2 k n)

/-- The angle that column `n` of row `i` is turned by. -/
def angle (i : Fin 33280) (n : ℕ) : EReal :=
  angles (ix2 ⟨i.val % 8320, Nat.mod_lt _ (by decide)⟩ ⟨n % 64, Nat.mod_lt _ (by decide)⟩)

/-- Column `n` of row `i`, turned: in the first half of a head with the column 64 after it, in the second half with the
    column 64 before it. -/
def turned (p : Fin 2048 → EReal) (i : Fin 33280) (n : Fin 2048) : EReal :=
  if h : n.val % 128 < 64 then p n * Ideal.cos (angle i n.val) - p ⟨n.val + 64, by omega⟩ * Ideal.sin (angle i n.val)
  else p n * Ideal.cos (angle i n.val) + p ⟨n.val - 64, by omega⟩ * Ideal.sin (angle i n.val)

/-- An entry of the first result. -/
def entry (A0 : Vec Ideal S33280x2048 .f32) (a1 : Vec Ideal S2048 .f32) (A2 : Vec Ideal S2048x10240 .f32) (i : Fin 33280) (n : Fin 8192) : EReal :=
  if h : n.val < 1024 then turned (fun q => dot A0 a1 A2 i ⟨q.val, by omega⟩) i ⟨n.val, by omega⟩ * scale
  else if h : n.val < 2048 then turned (fun q => dot A0 a1 A2 i ⟨q.val, by omega⟩) i ⟨n.val, h⟩
  else if n.val < 3072 then dot A0 a1 A2 i ⟨col n.val, col_lt n⟩ * scale
  else if n.val < 4096 then dot A0 a1 A2 i ⟨col n.val, col_lt n⟩
  else Ideal.logistic (dot A0 a1 A2 i ⟨col n.val, col_lt n⟩)

/-- The first result. -/
def result (A0 : Vec Ideal S33280x2048 .f32) (a1 : Vec Ideal S2048 .f32) (A2 : Vec Ideal S2048x10240 .f32) : Vec Ideal S33280x8192 .bf16 :=
  fun y => entry A0 a1 A2 (y 0) (y 1)

/-- The second result. -/
def values (A0 : Vec Ideal S33280x2048 .f32) (a1 : Vec Ideal S2048 .f32) (A2 : Vec Ideal S2048x10240 .f32) : Vec Ideal S2048x33280 .bf16 :=
  fun y => dot A0 a1 A2 (y 1) ⟨vcol (y 0).val, vcol_lt (y 0)⟩

/-- A tile's turned column with the tables' cosine and sine. -/
theorem turn_eq (P : Fin 2048 → EReal) (p : Fin 1024 → EReal) (i : Fin 33280) (j : ℕ) (hj : j ≤ 1) (n : Fin 1024)
    (hp : ∀ q : Fin 1024, p q = P ⟨1024 * j + q.val, by omega⟩) :
    turn p (cosTable (ix2 i ⟨n.val % 128, by omega⟩)) (sinTable (ix2 i ⟨n.val % 128, by omega⟩)) ⟨n.val / 128, by omega⟩ ⟨n.val % 128, by omega⟩
      = turned P i ⟨1024 * j + n.val, by omega⟩ := by
  have hn : n.val < 1024 := n.isLt
  have ea : angles (ix2 ⟨i.val % 8320, Nat.mod_lt _ (by decide)⟩ ⟨n.val % 128 % 64, Nat.mod_lt _ (by decide)⟩) = angle i (1024 * j + n.val) := by
    unfold angle
    exact congrArg (fun q => angles (ix2 _ q)) (Fin.ext (by simp only; omega))
  have e1 : p ⟨128 * (n.val / 128) + n.val % 128, by omega⟩ = P ⟨1024 * j + n.val, by omega⟩ := by
    rw [hp]
    exact congrArg P (Fin.ext (by simp only; omega))
  unfold turn turned
  rw [cos_apply, sin_apply]
  simp only [ea, e1]
  by_cases h : n.val % 128 < 64
  · have e2 : p ⟨128 * (n.val / 128) + (n.val % 128 + 128 - 64) % 128, by omega⟩ = P ⟨1024 * j + n.val + 64, by omega⟩ := by
      rw [hp]
      exact congrArg P (Fin.ext (by simp only; omega))
    rw [dif_pos (show (1024 * j + n.val) % 128 < 64 by omega), if_pos h, e2, mul_neg, sub_eq_add_neg]
  · have e2 : p ⟨128 * (n.val / 128) + (n.val % 128 + 128 - 64) % 128, by omega⟩ = P ⟨1024 * j + n.val - 64, by omega⟩ := by
      rw [hp]
      exact congrArg P (Fin.ext (by simp only; omega))
    rw [dif_neg (show ¬ (1024 * j + n.val) % 128 < 64 by omega), if_neg h, e2]

variable (m : (ℓ : Loc nD τ sig) → Buf (Elt Ideal) ℓ)

/-- The scratch holds the normalised rows of the row block. -/
theorem rowsAt_apply (c : Dev nD) (t : Fin cfg0.N) (r : Fin 640) (k : Fin 2048) (hb : 640 * (t.val / 10) + r.val < 33280) :
    rowsAt m c t (ix2 r k) = rms (fun l => m ((c : Thread nD τ).loc main_arg0) (ix2 ⟨640 * (t.val / 10) + r.val, hb⟩ l)) (m ((c : Thread nD τ).loc main_arg1) (ix1 k)) k := by
  unfold rowsAt
  have e : (first t).val / 10 = t.val / 10 := by unfold first; simp only; omega
  have hb' : 640 * ((first t).val / 10) + r.val < 33280 := by omega
  refine (rows_apply _ _ r k).trans ?_
  rw [gain_block]
  simp only [row_block m c (first t) r _ hb', e]

/-- A tile's product. -/
theorem prod_eq (c : Dev nD) (t : Fin cfg0.N) (r : Fin 640) (n : Fin 1024) (hb : 640 * (t.val / 10) + r.val < 33280)
    (hn : 1024 * min (t.val % 10) 7 + n.val < 8192) :
    prod (rowsAt m c t) (iblk m c 4 t) r n
      = dot (m ((c : Thread nD τ).loc main_arg0)) (m ((c : Thread nD τ).loc main_arg1)) (m ((c : Thread nD τ).loc main_arg2))
          ⟨640 * (t.val / 10) + r.val, hb⟩ ⟨col (1024 * min (t.val % 10) 7 + n.val), col_lt ⟨_, hn⟩⟩ := by
  unfold prod dot
  refine Finset.sum_congr rfl fun k _ => ?_
  rw [rowsAt_apply m c t r k hb, main_block m c t k n hn, wMain_apply]

/-- What the tiles of the first result hold. -/
theorem storeAt_apply (c : Dev nD) (t : Fin cfg0.N) (ht : t.val % 10 ≤ 7) (r : Fin 640) (n : Fin 1024) (hb : 640 * (t.val / 10) + r.val < 33280)
    (hn : 1024 * (t.val % 10) + n.val < 8192) :
    storeAt m c t (ix2 r n)
      = entry (m ((c : Thread nD τ).loc main_arg0)) (m ((c : Thread nD τ).loc main_arg1)) (m ((c : Thread nD τ).loc main_arg2))
          ⟨640 * (t.val / 10) + r.val, hb⟩ ⟨1024 * (t.val % 10) + n.val, hn⟩ := by
  have hn1 : n.val < 1024 := n.isLt
  have em : min (t.val % 10) 7 = t.val % 10 := by omega
  have hp : ∀ q : Fin 1024, ∀ hq : col (1024 * (t.val % 10) + q.val) < 10240, prod (rowsAt m c t) (iblk m c 4 t) r q
      = dot (m ((c : Thread nD τ).loc main_arg0)) (m ((c : Thread nD τ).loc main_arg1)) (m ((c : Thread nD τ).loc main_arg2))
          ⟨640 * (t.val / 10) + r.val, hb⟩ ⟨col (1024 * (t.val % 10) + q.val), hq⟩ := by
    intro q hq
    rw [prod_eq m c t r q hb (by omega)]
    simp only [em]
  unfold storeAt entry
  by_cases h0 : t.val % 10 = 0
  · rw [if_pos h0, dif_pos (show 1024 * (t.val % 10) + n.val < 1024 by omega)]
    refine (outA_apply _ _ _ _ r n).trans ?_
    rw [cos_block m c t r _ hb, sin_block m c t r _ hb]
    refine congrArg (· * scale) ?_
    refine turn_eq _ _ _ (t.val % 10) (by omega) n fun q => ?_
    have hq : q.val < 1024 := q.isLt
    have e : col (1024 * (t.val % 10) + q.val) = 1024 * (t.val % 10) + q.val := by unfold col; rw [if_pos (by omega)]
    rw [hp q (by omega)]
    simp only [e]
  · rw [if_neg h0, dif_neg (show ¬ 1024 * (t.val % 10) + n.val < 1024 by omega)]
    by_cases h1 : t.val % 10 = 1
    · rw [if_pos h1, dif_pos (show 1024 * (t.val % 10) + n.val < 2048 by omega)]
      refine (outB_apply _ _ _ _ r n).trans ?_
      rw [cos_block m c t r _ hb, sin_block m c t r _ hb]
      refine turn_eq _ _ _ (t.val % 10) (by omega) n fun q => ?_
      have hq : q.val < 1024 := q.isLt
      have e : col (1024 * (t.val % 10) + q.val) = 1024 * (t.val % 10) + q.val := by unfold col; rw [if_pos (by omega)]
      rw [hp q (by omega)]
      simp only [e]
    · rw [if_neg h1, dif_neg (show ¬ 1024 * (t.val % 10) + n.val < 2048 by omega)]
      by_cases h2 : t.val % 10 = 2
      · rw [if_pos h2, if_pos (show 1024 * (t.val % 10) + n.val < 3072 by omega)]
        refine (pay7_apply _ _ r n).trans ?_
        rw [hp n (col_lt ⟨_, hn⟩)]
      · rw [if_neg h2, if_neg (show ¬ 1024 * (t.val % 10) + n.val < 3072 by omega)]
        by_cases h3 : t.val % 10 = 3
        · rw [if_pos h3, if_pos (show 1024 * (t.val % 10) + n.val < 4096 by omega)]
          refine (pay8_apply _ _ r n).trans ?_
          rw [hp n (col_lt ⟨_, hn⟩)]
        · rw [if_neg h3, if_neg (show ¬ 1024 * (t.val % 10) + n.val < 4096 by omega)]
          refine (pay9_apply _ _ r n).trans ?_
          rw [hp n (col_lt ⟨_, hn⟩)]

/-- What the tiles of the second result hold. -/
theorem transAt_apply (c : Dev nD) (t : Fin cfg0.N) (n : Fin 1024) (r : Fin 640) (hb : 640 * (t.val / 10) + r.val < 33280)
    (hn : 1024 * (t.val % 10 - 8) + n.val < 2048) :
    transAt m c t (ix2 n r)
      = dot (m ((c : Thread nD τ).loc main_arg0)) (m ((c : Thread nD τ).loc main_arg1)) (m ((c : Thread nD τ).loc main_arg2))
          ⟨640 * (t.val / 10) + r.val, hb⟩ ⟨vcol (1024 * (t.val % 10 - 8) + n.val), vcol_lt ⟨_, hn⟩⟩ := by
  unfold transAt dot
  refine (pay10_apply _ _ n r).trans ?_
  refine Finset.sum_congr rfl fun k _ => ?_
  rw [rowsAt_apply m c t r k hb, vt_block m c t n k hn, wvt_apply, mul_comm]

/-- The array that the call leaves as its first result. -/
theorem array_eq (c : Dev nD) : (dats m 0 c).arrAt 6 cfg0.N
    = result (m ((c : Thread nD τ).loc main_arg0)) (m ((c : Thread nD τ).loc main_arg1)) (m ((c : Thread nD τ).loc main_arg2)) := by
  refine (dats m 0 c).arrAt_eq_of_covers 6 _ (by decide +kernel) fun t hf y => ?_
  rw [after0_6]
  obtain ⟨e0, e1, e2, e3, e4, e5, e6, e7⟩ := idx0 t
  have ht := lt_N t
  obtain ⟨r, n, rfl⟩ : ∃ (r : Fin 640) (n : Fin 1024), y = ix2 r n := ⟨y 0, y 1, by
    funext a
    match a with
    | ⟨0, _⟩ => rfl
    | ⟨1, _⟩ => rfl⟩
  have hr : 640 * (t.val / 10) + r.val < 33280 := by omega
  have hn : 1024 * min (t.val % 10) 7 + n.val < 8192 := by omega
  have hp : ((cfg0.win 6).blk t).view.emb (ix2 r n) = ix2 (⟨640 * (t.val / 10) + r.val, hr⟩ : Fin 33280) (⟨1024 * min (t.val % 10) 7 + n.val, hn⟩ : Fin 8192) := by
    blk_ext [e6]
  rw [hp]
  have l1 : (lastStore t).val / 10 = t.val / 10 := by unfold lastStore; simp only; omega
  have l2 : (lastStore t).val % 10 = min (t.val % 10) 7 := by unfold lastStore; simp only; omega
  refine (show _ = storeAt m c (lastStore t) (ix2 r n) from rfl).trans ?_
  rw [storeAt_apply m c (lastStore t) (by omega) r n (by omega) (by omega)]
  simp only [l1, l2]
  rfl

/-- The array that the call leaves as its second result. -/
theorem values_eq (c : Dev nD) : (dats m 0 c).arrAt 7 cfg0.N
    = values (m ((c : Thread nD τ).loc main_arg0)) (m ((c : Thread nD τ).loc main_arg1)) (m ((c : Thread nD τ).loc main_arg2)) := by
  refine (dats m 0 c).arrAt_eq_of_covers 7 _ (by decide +kernel) fun t hf y => ?_
  rw [after0_7]
  obtain ⟨e0, e1, e2, e3, e4, e5, e6, e7⟩ := idx0 t
  have ht := lt_N t
  obtain ⟨n, r, rfl⟩ : ∃ (n : Fin 1024) (r : Fin 640), y = ix2 n r := ⟨y 0, y 1, by
    funext a
    match a with
    | ⟨0, _⟩ => rfl
    | ⟨1, _⟩ => rfl⟩
  have hr : 640 * (t.val / 10) + r.val < 33280 := by omega
  have hn : 1024 * (t.val % 10 - 8) + n.val < 2048 := by omega
  have hp : ((cfg0.win 7).blk t).view.emb (ix2 n r) = ix2 (⟨1024 * (t.val % 10 - 8) + n.val, hn⟩ : Fin 2048) (⟨640 * (t.val / 10) + r.val, hr⟩ : Fin 33280) := by
    blk_ext [e7]
  rw [hp]
  refine (show _ = transAt m c t (ix2 n r) from rfl).trans ?_
  rw [transAt_apply m c t n r hr hn]
  rfl

end Cert.ProjIdeal.Proj

end
-- ==== Proof.ProjReference.lean ====
module

public import proofs.«01_k».proof.Proof.Gen.ProjReferenceIdeal.Run
public import proofs.«01_k».proof.Proof.ProjValue
public import Idealize.ShloMosaic.Lib.Pointwise

/-!
# The reference of the input projection

Rows are normalised and multiplied with the weights; columns of queries and keys are turned head by head.
-/

@[expose] public section

set_option maxRecDepth 16384

noncomputable section

namespace Cert.ProjReferenceIdeal.Proj

open Cert.ProjReferenceIdeal Cert.ProjReferenceIdeal.Gen
open Idealize.ShloMosaic Idealize.ShloMosaic.TcCoe
open Cert.ProjIdeal.Proj (rms scale dot angle turned entry result values col col_lt vcol vcol_lt)

/-- The normalised rows. -/
def rows (A0 : FVec Ideal S33280x2048 .f32) (a1 : FVec Ideal S2048 .f32) : FVec Ideal S33280x2048 .f32 :=
  mulf (mulf A0 (broadcastInDim S33280x2048 ![0, 1] bcast_S33280x1_S33280x2048_0_1 (Host.rsqrt (addf (Host.divf
    (broadcastInDim S33280x1 ![0] bcast_S33280_S33280x1_0 (Host.reduceAdd (mulf A0 A0) (constant S_ .f32 0x00000000#32) reducesTo_S33280x2048_S33280_d1 h_S_))
    (broadcastInDim S33280x1 ![] bcast_S_S33280x1 (constant S_ .f32 0x45000000#32))) (broadcastInDim S33280x1 ![] bcast_S_S33280x1 (constant S_ .f32 0x358637BD#32))))))
    (broadcastInDim S33280x2048 ![0, 1] bcast_S1x2048_S33280x2048_0_1 (broadcastInDim S1x2048 ![1] bcast_S2048_S1x2048_1 a1))

/-- The product with the weights. -/
def dots (A0 : FVec Ideal S33280x2048 .f32) (a1 : FVec Ideal S2048 .f32) (A2 : FVec Ideal S2048x10240 .f32) : FVec Ideal S33280x10240 .f32 :=
  Host.dotGeneral dot_S33280x2048_S2048x10240_S33280x10240_1_0_0_1_n_n none (rows A0 a1) A2

/-- The angles by position and column of a half head. -/
def angles : FVec Ideal S8320x64 .f32 :=
  (mulf (broadcastInDim S8320x64 ![0, 1] bcast_S8320x1_S8320x64_0_1 (broadcastInDim S8320x1 ![0] bcast_S8320_S8320x1_0 (sitofp .f32 (maxsi (subi (iotaInDim S8320 32 0) (broadcastInDim S8320 ![] bcast_S_S8320 (constantI S_ 32 112#32))) (broadcastInDim S8320 ![] bcast_S_S8320 (constantI S_ 32 0#32)))))) (broadcastInDim S8320x64 ![0, 1] bcast_S1x64_S8320x64_0_1 (broadcastInDim S1x64 ![1] bcast_S64_S1x64_1 (Host.divf (broadcastInDim S64 ![] bcast_S_S64 (constant S_ .f32 0x3F800000#32)) (Host.powf (broadcastInDim S64 ![] bcast_S_S64 (constant S_ .f32 0x461C4000#32)) (Host.divf (addf (broadcastInDim S64 ![] bcast_S_S64 (constant S_ .f32 0x00000000#32)) (mulf (broadcastInDim S64 ![] bcast_S_S64 (constant S_ .f32 0x40000000#32)) (sitofp .f32 (iotaInDim S64 32 0)))) (broadcastInDim S64 ![] bcast_S_S64 (constant S_ .f32 0x43000000#32))))))))

/-- A table of one sequence, spread over sequences and heads. -/
def wide (f : FVec Ideal S8320x64 .f32) : FVec Ideal S4x8320x8x64 .f32 :=
  broadcastInDim S4x8320x8x64 ![0, 1, 2, 3] bcast_S1x8320x1x64_S4x8320x8x64_0_1_2_3 (broadcastInDim S1x8320x1x64 ![1, 2, 3] bcast_S8320x1x64_S1x8320x1x64_1_2_3 (broadcastInDim S8320x1x64 ![0, 2] bcast_S8320x64_S8320x1x64_0_2 f))

/-- The first halves of the heads. -/
def low (h : FVec Ideal S33280x1024 .f32) : FVec Ideal S4x8320x8x64 .f32 :=
  extractStridedSlice S4x8320x8x64 ![0, 0, 0, 0] (shapeCast _ h shapeCasts_S33280x1024_S4x8320x8x128) slices_S4x8320x8x128_S4x8320x8x64_0_0_0_0

/-- The second halves of the heads. -/
def high (h : FVec Ideal S33280x1024 .f32) : FVec Ideal S4x8320x8x64 .f32 :=
  extractStridedSlice S4x8320x8x64 ![0, 0, 0, 64] (shapeCast _ h shapeCasts_S33280x1024_S4x8320x8x128) slices_S4x8320x8x128_S4x8320x8x64_0_0_0_64

/-- Eight heads, turned with tables of cosines and sines. -/
def rotatedBy (f g : FVec Ideal S8320x64 .f32) (h : FVec Ideal S33280x1024 .f32) : FVec Ideal S33280x1024 .f32 :=
  shapeCast _ (concatenate S4x8320x8x128 3 [⟨S4x8320x8x64, subf (mulf (low h) (wide f)) (mulf (high h) (wide g))⟩,
    ⟨S4x8320x8x64, addf (mulf (high h) (wide f)) (mulf (low h) (wide g))⟩]
    concatenates_S4x8320x8x64_S4x8320x8x64_S4x8320x8x128_d3) shapeCasts_S4x8320x8x128_S33280x1024

/-- Eight heads, turned. -/
def rotated (h : FVec Ideal S33280x1024 .f32) : FVec Ideal S33280x1024 .f32 := rotatedBy (Host.cos angles) (Host.sin angles) h

/-- The sigmoid. -/
def gates (h : FVec Ideal S33280x2048 .f32) : FVec Ideal S33280x2048 .f32 :=
  Host.divf (broadcastInDim S33280x2048 ![] bcast_S_S33280x2048 (constant S_ .f32 0x3F800000#32))
    (addf (broadcastInDim S33280x2048 ![] bcast_S_S33280x2048 (constant S_ .f32 0x3F800000#32)) (Host.exp (Host.negf h)))

/-- Queries, scaled. -/
def scaled (h : FVec Ideal S33280x1024 .f32) : FVec Ideal S33280x1024 .f32 :=
  mulf h (broadcastInDim S33280x1024 ![] bcast_S_S33280x1024 (constant S_ .f32 0x3E0293EE#32))

/-- The first result, of the product. -/
def outOf (D : FVec Ideal S33280x10240 .f32) : FVec Ideal S33280x8192 .bf16 :=
  truncf .bf16 (concatenate S33280x8192 1 [⟨S33280x1024, scaled (rotated (extractStridedSlice S33280x1024 ![0, 0] D slices_S33280x10240_S33280x1024_0_0))⟩,
    ⟨S33280x1024, rotated (extractStridedSlice S33280x1024 ![0, 1024] D slices_S33280x10240_S33280x1024_0_1024)⟩,
    ⟨S33280x1024, scaled (extractStridedSlice S33280x1024 ![0, 3072] D slices_S33280x10240_S33280x1024_0_3072)⟩,
    ⟨S33280x1024, extractStridedSlice S33280x1024 ![0, 4096] D slices_S33280x10240_S33280x1024_0_4096⟩,
    ⟨S33280x2048, gates (extractStridedSlice S33280x2048 ![0, 6144] D slices_S33280x10240_S33280x2048_0_6144)⟩,
    ⟨S33280x2048, gates (extractStridedSlice S33280x2048 ![0, 8192] D slices_S33280x10240_S33280x2048_0_8192)⟩]
    concatenates_S33280x1024_S33280x1024_S33280x1024_S33280x1024_S33280x2048_S33280x2048_S33280x8192_d1) bitsLt_bf16_f32

/-- The second result, of the product. -/
def valuesOf (D : FVec Ideal S33280x10240 .f32) : FVec Ideal S2048x33280 .bf16 :=
  truncf .bf16 (transpose S2048x33280 [1, 0] (concatenate S33280x2048 1 [⟨S33280x1024, extractStridedSlice S33280x1024 ![0, 2048] D slices_S33280x10240_S33280x1024_0_2048⟩,
    ⟨S33280x1024, extractStridedSlice S33280x1024 ![0, 5120] D slices_S33280x10240_S33280x1024_0_5120⟩]
    concatenates_S33280x1024_S33280x1024_S33280x2048_d1) transposes_S33280x2048_S2048x33280_1_0) bitsLt_bf16_f32

theorem angles_eq : angles = Cert.ProjIdeal.Proj.angles := rfl

theorem rows_apply (A0 : FVec Ideal S33280x2048 .f32) (a1 : FVec Ideal S2048 .f32) (i : Fin 33280) (k : Fin 2048) :
    rows A0 a1 (ix2 i k) = rms (fun l => A0 (ix2 i l)) (a1 (ix1 k)) k := by
  pointwise [rows, rms]

theorem dots_apply (A0 : FVec Ideal S33280x2048 .f32) (a1 : FVec Ideal S2048 .f32) (A2 : FVec Ideal S2048x10240 .f32) (i : Fin 33280) (n : Fin 10240) :
    dots A0 a1 A2 (ix2 i n) = dot A0 a1 A2 i n := by
  have e : dots A0 a1 A2 (ix2 i n) = ∑ k, rows A0 a1 (ix2 i k) * A2 (ix2 k n) := by pointwise [dots]
  rw [e]
  exact Finset.sum_congr rfl fun k _ => congrArg (· * A2 (ix2 k n)) (rows_apply A0 a1 i k)

theorem scaled_apply (h : FVec Ideal S33280x1024 .f32) (i : Fin 33280) (n : Fin 1024) : scaled h (ix2 i n) = h (ix2 i n) * scale := by
  pointwise [scaled, scale]

theorem gates_apply (h : FVec Ideal S33280x2048 .f32) (i : Fin 33280) (n : Fin 2048) : gates h (ix2 i n) = Ideal.logistic (h (ix2 i n)) := by
  pointwise [gates]
  rfl

theorem rotatedBy_apply (f g : FVec Ideal S8320x64 .f32) (h : FVec Ideal S33280x1024 .f32) (i : Fin 33280) (n : Fin 1024) : rotatedBy f g h (ix2 i n)
    = if hd : n.val % 128 < 64 then h (ix2 i n) * f (ix2 ⟨i.val % 8320, Nat.mod_lt _ (by decide)⟩ ⟨n.val % 64, Nat.mod_lt _ (by decide)⟩) - h (ix2 i ⟨n.val + 64, by omega⟩) * g (ix2 ⟨i.val % 8320, Nat.mod_lt _ (by decide)⟩ ⟨n.val % 64, Nat.mod_lt _ (by decide)⟩)
      else h (ix2 i n) * f (ix2 ⟨i.val % 8320, Nat.mod_lt _ (by decide)⟩ ⟨n.val % 64, Nat.mod_lt _ (by decide)⟩) + h (ix2 i ⟨n.val - 64, by omega⟩) * g (ix2 ⟨i.val % 8320, Nat.mod_lt _ (by decide)⟩ ⟨n.val % 64, Nat.mod_lt _ (by decide)⟩) := by
  pointwise [rotatedBy, low, high, wide]
  by_cases hd : n.val % 128 < 64
  · refine (dif_pos hd).trans (Eq.trans ?_ (dif_pos hd).symm)
    simp only [show n.val / 128 * 128 + (64 + n.val % 128) = n.val + 64 by omega]
    simp only [show n.val % 128 = n.val % 64 by omega]
  · refine (dif_neg hd).trans (Eq.trans ?_ (dif_neg hd).symm)
    simp only [show n.val / 128 * 128 + (64 + (n.val % 128 - 64)) = n.val by omega, show n.val / 128 * 128 + (n.val % 128 - 64) = n.val - 64 by omega]
    simp only [show n.val % 128 - 64 = n.val % 64 by omega]

theorem cos_apply (i : Fin 33280) (n : ℕ) :
    Host.cos angles (ix2 ⟨i.val % 8320, Nat.mod_lt _ (by decide)⟩ ⟨n % 64, Nat.mod_lt _ (by decide)⟩) = Ideal.cos (angle i n) := by
  rw [angles_eq]
  pointwise [angle]

theorem sin_apply (i : Fin 33280) (n : ℕ) :
    Host.sin angles (ix2 ⟨i.val % 8320, Nat.mod_lt _ (by decide)⟩ ⟨n % 64, Nat.mod_lt _ (by decide)⟩) = Ideal.sin (angle i n) := by
  rw [angles_eq]
  pointwise [angle]

theorem rotated_apply (h : FVec Ideal S33280x1024 .f32) (i : Fin 33280) (n : Fin 1024) : rotated h (ix2 i n)
    = if hd : n.val % 128 < 64 then h (ix2 i n) * Ideal.cos (angle i n.val) - h (ix2 i ⟨n.val + 64, by omega⟩) * Ideal.sin (angle i n.val)
      else h (ix2 i n) * Ideal.cos (angle i n.val) + h (ix2 i ⟨n.val - 64, by omega⟩) * Ideal.sin (angle i n.val) := by
  rw [rotated, rotatedBy_apply]
  simp only [cos_apply, sin_apply]

/-- Heads of 1024 columns from column `1024 * j` on are turned as columns of both groups. -/
theorem rotated_turned (P : Fin 2048 → EReal) (h : FVec Ideal S33280x1024 .f32) (i : Fin 33280) (j : ℕ) (hj : j ≤ 1) (n : Fin 1024)
    (hp : ∀ q : Fin 1024, h (ix2 i q) = P ⟨1024 * j + q.val, by omega⟩) : rotated h (ix2 i n) = turned P i ⟨1024 * j + n.val, by omega⟩ := by
  have hn : n.val < 1024 := n.isLt
  have ea : angle i (1024 * j + n.val) = angle i n.val := by
    unfold angle
    exact congrArg (fun q => Cert.ProjIdeal.Proj.angles (ix2 _ q)) (Fin.ext (by simp only; omega))
  rw [rotated_apply]
  unfold turned
  simp only [ea, hp]
  by_cases hd : n.val % 128 < 64
  · rw [dif_pos hd, dif_pos (show (1024 * j + n.val) % 128 < 64 by omega)]
    rfl
  · rw [dif_neg hd, dif_neg (show ¬ (1024 * j + n.val) % 128 < 64 by omega)]
    exact congrArg (fun q => _ + P q * _) (Fin.ext (by simp only; omega))

theorem valuesOf_apply (D : FVec Ideal S33280x10240 .f32) (n : Fin 2048) (i : Fin 33280) :
    valuesOf D (ix2 n i) = D (ix2 i ⟨vcol n.val, vcol_lt n⟩) := by
  have hn : n.val < 2048 := n.isLt
  pointwise [valuesOf]
  split_ifs <;> exact congrArg (fun q => D (ix2 i q)) (Fin.ext (by simp only [vcol]; split_ifs <;> omega))

theorem outOf_apply (A0 : FVec Ideal S33280x2048 .f32) (a1 : FVec Ideal S2048 .f32) (A2 : FVec Ideal S2048x10240 .f32) (D : FVec Ideal S33280x10240 .f32)
    (hD : ∀ i n, D (ix2 i n) = dot A0 a1 A2 i n) (i : Fin 33280) (n : Fin 8192) : outOf D (ix2 i n) = entry A0 a1 A2 i n := by
  have hn : n.val < 8192 := n.isLt
  have s0 : ∀ q : Fin 1024, extractStridedSlice S33280x1024 ![0, 0] D slices_S33280x10240_S33280x1024_0_0 (ix2 i q) = dot A0 a1 A2 i ⟨q.val, by omega⟩ := by
    intro q
    rw [← hD]
    pointwise
  have s1 : ∀ q : Fin 1024, extractStridedSlice S33280x1024 ![0, 1024] D slices_S33280x10240_S33280x1024_0_1024 (ix2 i q) = dot A0 a1 A2 i ⟨1024 + q.val, by omega⟩ := by
    intro q
    rw [← hD]
    pointwise
  have s3 : ∀ q : Fin 1024, extractStridedSlice S33280x1024 ![0, 3072] D slices_S33280x10240_S33280x1024_0_3072 (ix2 i q) = dot A0 a1 A2 i ⟨3072 + q.val, by omega⟩ := by
    intro q
    rw [← hD]
    pointwise
  have s6 : ∀ q : Fin 2048, extractStridedSlice S33280x2048 ![0, 6144] D slices_S33280x10240_S33280x2048_0_6144 (ix2 i q) = dot A0 a1 A2 i ⟨6144 + q.val, by omega⟩ := by
    intro q
    rw [← hD]
    pointwise
  have s8 : ∀ q : Fin 2048, extractStridedSlice S33280x2048 ![0, 8192] D slices_S33280x10240_S33280x2048_0_8192 (ix2 i q) = dot A0 a1 A2 i ⟨8192 + q.val, by omega⟩ := by
    intro q
    rw [← hD]
    pointwise
  pointwise [outOf]
  unfold entry
  by_cases h0 : n.val < 1024
  · rw [dif_pos h0, dif_pos h0, scaled_apply]
    refine congrArg (· * scale) ?_
    refine (rotated_turned (fun q => dot A0 a1 A2 i ⟨q.val, by omega⟩) _ i 0 (by omega) _ fun q => ?_).trans ?_
    · rw [s0]
      exact congrArg (dot A0 a1 A2 i) (Fin.ext (by simp only; omega))
    · exact congrArg (turned _ i) (Fin.ext (by simp only; omega))
  rw [dif_neg h0, dif_neg h0]
  by_cases h1 : n.val < 2048
  · rw [dif_pos (show n.val - 1024 < 1024 by omega), dif_pos h1]
    refine (rotated_turned (fun q => dot A0 a1 A2 i ⟨q.val, by omega⟩) _ i 1 (by omega) _ fun q => ?_).trans ?_
    · rw [s1]
    · exact congrArg (turned _ i) (Fin.ext (by simp only; omega))
  rw [dif_neg (show ¬ n.val - 1024 < 1024 by omega), dif_neg h1]
  by_cases h2 : n.val < 3072
  · rw [dif_pos (show n.val - 1024 - 1024 < 1024 by omega), if_pos h2, scaled_apply, s3]
    refine congrArg (· * scale) ?_
    exact congrArg (dot A0 a1 A2 i) (Fin.ext (by simp only [col]; split_ifs <;> omega))
  rw [dif_neg (show ¬ n.val - 1024 - 1024 < 1024 by omega), if_neg h2]
  by_cases h3 : n.val < 4096
  · rw [dif_pos (show n.val - 1024 - 1024 - 1024 < 1024 by omega), if_pos h3, hD]
    exact congrArg (dot A0 a1 A2 i) (Fin.ext (by simp only [col]; split_ifs <;> omega))
  rw [dif_neg (show ¬ n.val - 1024 - 1024 - 1024 < 1024 by omega), if_neg h3]
  by_cases h4 : n.val < 6144
  · rw [dif_pos (show n.val - 1024 - 1024 - 1024 - 1024 < 2048 by omega), gates_apply, s6]
    refine congrArg Ideal.logistic ?_
    exact congrArg (dot A0 a1 A2 i) (Fin.ext (by simp only [col]; split_ifs <;> omega))
  · rw [dif_neg (show ¬ n.val - 1024 - 1024 - 1024 - 1024 < 2048 by omega), gates_apply, s8]
    refine congrArg Ideal.logistic ?_
    exact congrArg (dot A0 a1 A2 i) (Fin.ext (by simp only [col]; split_ifs <;> omega))

/-- The reference's first result is the call's. -/
theorem out_eq (A0 : FVec Ideal S33280x2048 .f32) (a1 : FVec Ideal S2048 .f32) (A2 : FVec Ideal S2048x10240 .f32) : outOf (dots A0 a1 A2) = result A0 a1 A2 := by
  funext y
  obtain ⟨i, n, rfl⟩ : ∃ (i : Fin 33280) (n : Fin 8192), y = ix2 i n := ⟨y 0, y 1, eq_ix2 y⟩
  exact outOf_apply A0 a1 A2 _ (dots_apply A0 a1 A2) i n

/-- The reference's second result is the call's. -/
theorem values_eq (A0 : FVec Ideal S33280x2048 .f32) (a1 : FVec Ideal S2048 .f32) (A2 : FVec Ideal S2048x10240 .f32) : valuesOf (dots A0 a1 A2) = values A0 a1 A2 := by
  funext y
  obtain ⟨n, i, rfl⟩ : ∃ (n : Fin 2048) (i : Fin 33280), y = ix2 n i := ⟨y 0, y 1, eq_ix2 y⟩
  rw [valuesOf_apply, dots_apply]
  rfl

theorem res_eq (m : (ℓ : Loc nD τ sig) → Buf (Elt Ideal) ℓ) (c : Dev nD) : Value.res_main_v131 m c
    = outOf (dots (m ((c.tc : Thread nD τ).loc main_arg0)) (m ((c.tc : Thread nD τ).loc main_arg1)) (m ((c.tc : Thread nD τ).loc main_arg2))) := rfl

end Cert.ProjReferenceIdeal.Proj

end
-- ==== Proof.MixValue.lean ====
module

public import proofs.«01_k».proof.Proof.Gen.MixIdeal.Value
public import proofs.«01_k».proof.Proof.UpValue
public import Idealize.ShloMosaic.Lib.Pointwise
public import Idealize.ShloMosaic.Lib.Pipeline.ValueKit
public import Idealize.ShloMosaic.Lib.Claim

/-!
# The two attentions mixed

The grid goes over 130 blocks of 256 rows. Each row is the two attention rows projected, weighted by their gates, projected
again, normalised and added to the row of the residual stream; padding rows are set to zero.
-/

@[expose] public section

set_option maxRecDepth 16384

noncomputable section

namespace Cert.MixIdeal.Mixing

open Cert.MixIdeal Cert.MixIdeal.Gen
open Idealize.ShloMosaic Idealize.ShloMosaic.TcCoe
open Cert.UpIdeal.Ffn (rms)

/-- A row times a matrix. -/
def rowMul {K N : ℕ} (x : Fin K → EReal) (w : Fin K → Fin N → EReal) (n : Fin N) : EReal := ∑ k, x k * w k n

/-- The sum of the two attention rows `oa` and `ob`, each projected and weighted by its gate. -/
def gated (oa ob : Fin 1024 → EReal) (ga gb : Fin 2048 → EReal) (wa wb : Fin 1024 → Fin 2048 → EReal) (n : Fin 2048) : EReal :=
  ga n * rowMul oa wa n + gb n * rowMul ob wb n

/-- A row of the result outside the padding. -/
def mixRow (oa ob : Fin 1024 → EReal) (ga gb : Fin 2048 → EReal) (x : Fin 2048 → EReal) (wa wb : Fin 1024 → Fin 2048 → EReal)
    (wo : Fin 2048 → Fin 2048 → EReal) (g : Fin 2048 → EReal) (n : Fin 2048) : EReal :=
  x n + rms (rowMul (gated oa ob ga gb wa wb) wo) (g n) n

/-- The value that is masked afterwards. -/
theorem value_apply (oa : Vec Ideal S256x1024 .bf16) (wa : Vec Ideal S1024x2048 .bf16) (ob : Vec Ideal S256x1024 .bf16) (wb : Vec Ideal S1024x2048 .bf16)
    (ga gb : Vec Ideal S256x2048 .bf16) (wo : Vec Ideal S2048x2048 .bf16) (x : Vec Ideal S256x2048 .f32) (g : Vec Ideal S1x2048 .f32) (r : Fin 256) (n : Fin 2048) :
    (k0_pay2 (F := Ideal) oa wa ob wb ga gb wo x g : Vec Ideal S256x2048 .f32) (ix2 r n)
      = mixRow (fun k => oa (ix2 r k)) (fun k => ob (ix2 r k)) (fun k => ga (ix2 r k)) (fun k => gb (ix2 r k)) (fun k => x (ix2 r k))
          (fun k n => wa (ix2 k n)) (fun k n => wb (ix2 k n)) (fun k n => wo (ix2 k n)) (fun k => g (ix2 0 k)) n := by
  pointwise [k0_pay2, mixRow, rms, gated, rowMul]

/-- Number of a row, as the kernel counts it. -/
theorem row_word (i r : ℕ) : IntOp.addi (Scalar.muli (BitVec.ofNat 32 i) 256#32) (BitVec.ofNat 32 r) = BitVec.ofNat 32 (256 * i + r) := by
  apply BitVec.eq_of_toNat_eq
  simp [IntOp.addi, Scalar.muli, IntOp.muli, BitVec.toNat_add, BitVec.toNat_mul, mul_comm]

/-- The mask: zero in the first 112 rows of each sequence of 8320. -/
theorem mask_apply (i : Fin 130) (v : FVec Ideal S256x2048 .f32) (r : Fin 256) (n : Fin 2048) :
    (k0_pay1 (F := Ideal) (BitVec.ofNat 32 i.val) v : Vec Ideal S256x2048 .f32) (ix2 r n)
      = if (256 * i.val + r.val) % 8320 < 112 then 0 else v (ix2 r n) := by
  pointwise [k0_pay1]
  simp only [row_word]
  have hk : 256 * i.val + r.val < 33280 := by omega
  generalize 256 * i.val + r.val = k at hk ⊢
  simp (disch := word_cmp_side) only [hlo_ix]
  exact if_congr (by omega) rfl rfl

variable (m : (ℓ : Loc nD τ sig) → Buf (Elt Ideal) ℓ)

/-- The result array. -/
def result (A0 A1 : Vec Ideal S33280x1024 .bf16) (A2 : Vec Ideal S33280x8192 .bf16) (A3 : Vec Ideal S33280x2048 .f32) (A4 A5 : Vec Ideal S1024x2048 .f32)
    (A6 : Vec Ideal S2048x2048 .f32) (a7 : Vec Ideal S2048 .f32) : Vec Ideal S33280x2048 .f32 := fun y =>
  if (y 0).val % 8320 < 112 then 0 else
    mixRow (fun k => A0 (ix2 (y 0) k)) (fun k => A1 (ix2 (y 0) k)) (fun k => A2 (ix2 (y 0) ⟨4096 + k.val, by omega⟩)) (fun k => A2 (ix2 (y 0) ⟨6144 + k.val, by omega⟩))
      (fun k => A3 (ix2 (y 0) k)) (fun k n => A4 (ix2 k n)) (fun k n => A5 (ix2 k n)) (fun k n => A6 (ix2 k n)) (fun k => a7 (ix1 k)) (y 1)

theorem idx0 : ∀ t : Fin cfg0.N, win0_0.index t = ![t.val, 0] ∧ win0_1.index t = ![t.val, 0] ∧ win0_2.index t = ![t.val, 2] ∧ win0_3.index t = ![t.val, 3]
    ∧ win0_4.index t = ![t.val, 0] ∧ win0_5.index t = ![0, 0] ∧ win0_6.index t = ![0, 0] ∧ win0_7.index t = ![0, 0] ∧ win0_8.index t = ![0, 0]
    ∧ win0_9.index t = ![t.val, 0] ∧ (grid0.coords t 0).val = t.val :=
  (by decide +kernel : ∀ t : Fin grid0.N, _)

theorem first_block (c : Dev nD) (t : Fin cfg0.N) (r : Fin 256) (k : Fin 1024) (hb : 256 * t.val + r.val < 33280) :
    iblk m c 0 t (ix2 r k) = m ((c : Thread nD τ).loc main_arg0) (ix2 ⟨256 * t.val + r.val, hb⟩ k) := by
  obtain ⟨e0, e1, e2, e3, e4, e5, e6, e7, e8, e9, et⟩ := idx0 t
  blk_point [iblk, V, e0]

theorem second_block (c : Dev nD) (t : Fin cfg0.N) (r : Fin 256) (k : Fin 1024) (hb : 256 * t.val + r.val < 33280) :
    iblk m c 1 t (ix2 r k) = m ((c : Thread nD τ).loc main_arg1) (ix2 ⟨256 * t.val + r.val, hb⟩ k) := by
  obtain ⟨e0, e1, e2, e3, e4, e5, e6, e7, e8, e9, et⟩ := idx0 t
  blk_point [iblk, V, e1]

theorem gate_a_block (c : Dev nD) (t : Fin cfg0.N) (r : Fin 256) (k : Fin 2048) (hb : 256 * t.val + r.val < 33280) :
    iblk m c 2 t (ix2 r k) = m ((c : Thread nD τ).loc main_arg2) (ix2 ⟨256 * t.val + r.val, hb⟩ ⟨4096 + k.val, by omega⟩) := by
  obtain ⟨e0, e1, e2, e3, e4, e5, e6, e7, e8, e9, et⟩ := idx0 t
  blk_point [iblk, V, e2]

theorem gate_b_block (c : Dev nD) (t : Fin cfg0.N) (r : Fin 256) (k : Fin 2048) (hb : 256 * t.val + r.val < 33280) :
    iblk m c 3 t (ix2 r k) = m ((c : Thread nD τ).loc main_arg2) (ix2 ⟨256 * t.val + r.val, hb⟩ ⟨6144 + k.val, by omega⟩) := by
  obtain ⟨e0, e1, e2, e3, e4, e5, e6, e7, e8, e9, et⟩ := idx0 t
  blk_point [iblk, V, e3]

theorem stream_block (c : Dev nD) (t : Fin cfg0.N) (r : Fin 256) (k : Fin 2048) (hb : 256 * t.val + r.val < 33280) :
    iblk m c 4 t (ix2 r k) = m ((c : Thread nD τ).loc main_arg3) (ix2 ⟨256 * t.val + r.val, hb⟩ k) := by
  obtain ⟨e0, e1, e2, e3, e4, e5, e6, e7, e8, e9, et⟩ := idx0 t
  blk_point [iblk, V, e4]

theorem branch_a_block (c : Dev nD) (t : Fin cfg0.N) (k : Fin 1024) (n : Fin 2048) : iblk m c 5 t (ix2 k n) = m ((c : Thread nD τ).loc main_arg4) (ix2 k n) := by
  obtain ⟨e0, e1, e2, e3, e4, e5, e6, e7, e8, e9, et⟩ := idx0 t
  blk_point [iblk, V, e5]

theorem branch_b_block (c : Dev nD) (t : Fin cfg0.N) (k : Fin 1024) (n : Fin 2048) : iblk m c 6 t (ix2 k n) = m ((c : Thread nD τ).loc main_arg5) (ix2 k n) := by
  obtain ⟨e0, e1, e2, e3, e4, e5, e6, e7, e8, e9, et⟩ := idx0 t
  blk_point [iblk, V, e6]

theorem out_block (c : Dev nD) (t : Fin cfg0.N) (k n : Fin 2048) : iblk m c 7 t (ix2 k n) = m ((c : Thread nD τ).loc main_arg6) (ix2 k n) := by
  obtain ⟨e0, e1, e2, e3, e4, e5, e6, e7, e8, e9, et⟩ := idx0 t
  blk_point [iblk, V, e7]

theorem gain_block (c : Dev nD) (t : Fin cfg0.N) (k : Fin 2048) : iblk m c 8 t (ix2 0 k) = m ((c : Thread nD τ).loc main_arg7) (ix1 k) := by
  obtain ⟨e0, e1, e2, e3, e4, e5, e6, e7, e8, e9, et⟩ := idx0 t
  blk_point [iblk, V, e8]

/-- The array that the call leaves. -/
theorem array_eq (c : Dev nD) : (dats m 0 c).arrAt 9 cfg0.N
    = result (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t hf y => ?_
  rw [after0_9]
  obtain ⟨e0, e1, e2, e3, e4, e5, e6, e7, e8, e9, et⟩ := idx0 t
  have ht : t.val < 130 := t.isLt
  obtain ⟨r, n, rfl⟩ : ∃ (r : Fin 256) (n : Fin 2048), y = ix2 r n := ⟨y 0, y 1, by
    funext a
    match a with
    | ⟨0, _⟩ => rfl
    | ⟨1, _⟩ => rfl⟩
  have hb : 256 * t.val + r.val < 33280 := by omega
  have hp : ((cfg0.win 9).blk t).view.emb (ix2 r n) = ix2 (⟨256 * t.val + r.val, hb⟩ : Fin 33280) n := by
    blk_ext [e9]
  rw [hp]
  have key : out0_9 (grid0.coords t) (iblk m c 0 t) (iblk m c 1 t) (iblk m c 2 t) (iblk m c 3 t) (iblk m c 4 t) (iblk m c 5 t) (iblk m c 6 t) (iblk m c 7 t) (iblk m c 8 t)
      = k0_pay1 (BitVec.ofNat 32 t.val) (k0_pay2 (iblk m c 0 t) (iblk m c 5 t) (iblk m c 1 t) (iblk m c 6 t) (iblk m c 2 t) (iblk m c 3 t) (iblk m c 7 t) (iblk m c 4 t) (iblk m c 8 t)) := by
    rw [← et]
    funext y
    unfold out0_9
    frame_out
  rw [key]
  refine (mask_apply ⟨t.val, ht⟩ _ r n).trans ?_
  refine if_congr Iff.rfl rfl ?_
  rw [value_apply]
  simp only [first_block m c t r _ hb, second_block m c t r _ hb, gate_a_block m c t r _ hb, gate_b_block m c t r _ hb, stream_block m c t r _ hb,
    branch_a_block, branch_b_block, out_block, gain_block]
  rfl

end Cert.MixIdeal.Mixing

end
-- ==== Proof.MixReference.lean ====
module

public import proofs.«01_k».proof.Proof.Gen.MixReferenceIdeal.Run
public import proofs.«01_k».proof.Proof.MixValue
public import Idealize.ShloMosaic.Lib.Pointwise

/-!
# The reference of the mixing step

The reference leaves the padding rows out and puts zero rows in their place.
-/

@[expose] public section

set_option maxRecDepth 16384

noncomputable section

namespace Cert.MixReferenceIdeal.Mixing

open Cert.MixReferenceIdeal Cert.MixReferenceIdeal.Gen
open Idealize.ShloMosaic Idealize.ShloMosaic.TcCoe
open Cert.UpIdeal.Ffn (rms)
open Cert.MixIdeal.Mixing (rowMul gated mixRow result)

/-- The attentions, projected and weighted by their gates. -/
def mixed (A0 A1 : FVec Ideal S33280x1024 .bf16) (A2 : FVec Ideal S33280x8192 .bf16) (A4 A5 : FVec Ideal S1024x2048 .f32) : FVec Ideal S33280x2048 .f32 :=
  addf (mulf (extractStridedSlice S33280x2048 ![0, 4096] (extf .f32 A2 bitsLt_bf16_f32) slices_S33280x8192_S33280x2048_0_4096)
      (Host.dotGeneral dot_S33280x1024_S1024x2048_S33280x2048_1_0_0_1_n_n none (extf .f32 A0 bitsLt_bf16_f32) A4))
    (mulf (extractStridedSlice S33280x2048 ![0, 6144] (extf .f32 A2 bitsLt_bf16_f32) slices_S33280x8192_S33280x2048_0_6144)
      (Host.dotGeneral dot_S33280x1024_S1024x2048_S33280x2048_1_0_0_1_n_n none (extf .f32 A1 bitsLt_bf16_f32) A5))

/-- The projection of the mixed rows. -/
def proj (x : FVec Ideal S33280x2048 .f32) (A6 : FVec Ideal S2048x2048 .f32) : FVec Ideal S33280x2048 .f32 :=
  Host.dotGeneral dot_S33280x2048_S2048x2048_S33280x2048_1_0_0_1_n_n none x A6

/-- Rows normalised and scaled. -/
def norms (x : FVec Ideal S33280x2048 .f32) (a7 : FVec Ideal S2048 .f32) : FVec Ideal S33280x2048 .f32 :=
  mulf (mulf x (broadcastInDim S33280x2048 ![0, 1] bcast_S33280x1_S33280x2048_0_1 (Host.rsqrt (addf (Host.divf
    (broadcastInDim S33280x1 ![0] bcast_S33280_S33280x1_0 (Host.reduceAdd (mulf x x) (constant S_ .f32 0x00000000#32) reducesTo_S33280x2048_S33280_d1 h_S_))
    (broadcastInDim S33280x1 ![] bcast_S_S33280x1 (constant S_ .f32 0x45000000#32))) (broadcastInDim S33280x1 ![] bcast_S_S33280x1 (constant S_ .f32 0x358637BD#32))))))
    (broadcastInDim S33280x2048 ![0, 1] bcast_S1x2048_S33280x2048_0_1 (broadcastInDim S1x2048 ![1] bcast_S2048_S1x2048_1 a7))

/-- Zero rows in the place of the padding rows. -/
def zeroPad (y : FVec Ideal S33280x2048 .f32) : FVec Ideal S33280x2048 .f32 :=
  shapeCast _ (pad S4x8320x2048 ![0, 112, 0] ![0, 0, 0] ![0, 0, 0]
    (extractStridedSlice S4x8208x2048 ![0, 112, 0] (shapeCast _ y shapeCasts_S33280x2048_S4x8320x2048) slices_S4x8320x2048_S4x8208x2048_0_112_0)
    (sitofp .f32 (constantI S_ 32 0#32)) pads_S4x8208x2048_S4x8320x2048_000_11200_000 h_S_) shapeCasts_S4x8320x2048_S33280x2048

/-- The reference's result. -/
def out (A0 A1 : FVec Ideal S33280x1024 .bf16) (A2 : FVec Ideal S33280x8192 .bf16) (A3 : FVec Ideal S33280x2048 .f32) (A4 A5 : FVec Ideal S1024x2048 .f32)
    (A6 : FVec Ideal S2048x2048 .f32) (a7 : FVec Ideal S2048 .f32) : FVec Ideal S33280x2048 .f32 :=
  zeroPad (addf A3 (norms (proj (mixed A0 A1 A2 A4 A5) A6) a7))

theorem mixed_apply (A0 A1 : FVec Ideal S33280x1024 .bf16) (A2 : FVec Ideal S33280x8192 .bf16) (A4 A5 : FVec Ideal S1024x2048 .f32) (i : Fin 33280) (n : Fin 2048) :
    mixed A0 A1 A2 A4 A5 (ix2 i n) = gated (fun k => A0 (ix2 i k)) (fun k => A1 (ix2 i k)) (fun k => A2 (ix2 i ⟨4096 + k.val, by omega⟩))
      (fun k => A2 (ix2 i ⟨6144 + k.val, by omega⟩)) (fun k n => A4 (ix2 k n)) (fun k n => A5 (ix2 k n)) n := by
  pointwise [mixed, gated, rowMul]

theorem proj_apply (x : FVec Ideal S33280x2048 .f32) (A6 : FVec Ideal S2048x2048 .f32) (i : Fin 33280) (n : Fin 2048) :
    proj x A6 (ix2 i n) = rowMul (fun k => x (ix2 i k)) (fun k n => A6 (ix2 k n)) n := by
  pointwise [proj, rowMul]

theorem norms_apply (x : FVec Ideal S33280x2048 .f32) (a7 : FVec Ideal S2048 .f32) (i : Fin 33280) (n : Fin 2048) :
    norms x a7 (ix2 i n) = rms (fun k => x (ix2 i k)) (a7 (ix1 n)) n := by
  pointwise [norms, rms]

theorem zeroPad_apply (y : FVec Ideal S33280x2048 .f32) (i : Fin 33280) (n : Fin 2048) :
    zeroPad y (ix2 i n) = if i.val % 8320 < 112 then 0 else y (ix2 i n) := by
  pointwise [zeroPad]
  have hz : (FloatOps.sitofp (F := Ideal) FTy.f32 (0#32) : EReal) = 0 := by
    show (((0#32 : BitVec 32).toInt : ℝ) : EReal) = 0
    simp
  by_cases h : i.val % 8320 < 112
  · rw [dif_neg (by omega), if_pos h]
    exact hz
  · rw [dif_pos (by omega), if_neg h]
    exact congrArg y (congrArg (ix2 · n) (Fin.ext (by dsimp only; omega)))

/-- The reference's result is the call's. -/
theorem out_eq (A0 A1 : FVec Ideal S33280x1024 .bf16) (A2 : FVec Ideal S33280x8192 .bf16) (A3 : FVec Ideal S33280x2048 .f32) (A4 A5 : FVec Ideal S1024x2048 .f32)
    (A6 : FVec Ideal S2048x2048 .f32) (a7 : FVec Ideal S2048 .f32) : out A0 A1 A2 A3 A4 A5 A6 a7 = result A0 A1 A2 A3 A4 A5 A6 a7 := by
  funext y
  obtain ⟨i, n, rfl⟩ : ∃ (i : Fin 33280) (n : Fin 2048), y = ix2 i n := ⟨y 0, y 1, eq_ix2 y⟩
  rw [out, zeroPad_apply]
  refine if_congr Iff.rfl rfl ?_
  show A3 (ix2 i n) + norms _ a7 (ix2 i n) = _
  rw [norms_apply]
  simp only [proj_apply, mixed_apply]
  rfl

end Cert.MixReferenceIdeal.Mixing

end
-- ==== Proof.DownBlock.lean ====
module

public import proofs.«01_k».proof.Proof.Gen.DownIdeal.Frame
public import proofs.«01_k».proof.Proof.UpValue
public import Idealize.ShloMosaic.Lib.Pointwise

/-!
# One step of the second feed-forward product

A step takes a block of 512 rows and 512 columns of the gate, with one row before it and one after it, convolves it along
the rows, and multiplies the result of the activation with the other half of the columns and with the weights.
-/

@[expose] public section

set_option maxRecDepth 16384

noncomputable section

namespace Cert.DownIdeal.Ffn

open Cert.DownIdeal Cert.DownIdeal.Gen
open Idealize.ShloMosaic Idealize.ShloMosaic.TcCoe
open Cert.UpIdeal.Ffn (rms)

/-- The convolution of three neighbours. -/
def conv (p g n c0 c1 c2 b : EReal) : EReal := b + p * c0 + g * c1 + n * c2

/-- The activation. -/
def gelu (a : EReal) : EReal :=
  a * (Ideal.ofBits .f32 0x3F000000#32 * (Ideal.ofBits .f32 0x3F800000#32 + Ideal.tanh (Ideal.ofBits .f32 0x3F4C422A#32 * (a + Ideal.ofBits .f32 0x3D372713#32 * (a * (a * a))))))

/-- The row after row `r` of a block. -/
def after (g : Vec Ideal S512x512 .bf16) (n : Vec Ideal S1x512 .bf16) (i : ℕ) (r k : Fin 512) : EReal :=
  if r.val = 511 then (if i = 64 then 0 else n (ix2 0 k)) else g (ix2 ⟨(r.val + 1) % 512, Nat.mod_lt _ (by decide)⟩ k)

/-- The row before row `r` of a block. -/
def before (g : Vec Ideal S512x512 .bf16) (p : Vec Ideal S1x512 .bf16) (i : ℕ) (r k : Fin 512) : EReal :=
  if r.val = 0 then (if i = 0 then 0 else p (ix2 0 k)) else g (ix2 ⟨(r.val + 511) % 512, Nat.mod_lt _ (by decide)⟩ k)

theorem after_apply (i : grid0.Coords) (hi : (i 0).val < 65) (g : Vec Ideal S512x512 .bf16) (n : Vec Ideal S1x512 .bf16) (r k : Fin 512) :
    (k0_pay8 (F := Ideal) i g n : Vec Ideal S512x512 .f32) (ix2 r k) = after g n (i 0).val r k := by
  pointwise [k0_pay8, k0_pay7, after]
  have hr : r.val < 512 := r.isLt
  simp (disch := word_cmp_side) only [hlo_ix]
  simp only [show r.val + 512 - 511 = r.val + 1 by omega]

theorem before_apply (i : grid0.Coords) (hi : (i 0).val < 65) (g : Vec Ideal S512x512 .bf16) (p : Vec Ideal S1x512 .bf16) (w : Vec Ideal S3x512 .f32) (b : Vec Ideal S1x512 .f32) (r k : Fin 512) :
    (k0_pay9 (F := Ideal) i g p w b : Vec Ideal S512x512 .f32) (ix2 r k) = b (ix2 0 k) + before g p (i 0).val r k * w (ix2 0 k) := by
  pointwise [k0_pay9, k0_pay7, before]
  have hr : r.val < 512 := r.isLt
  simp (disch := word_cmp_side) only [hlo_ix]
  simp only [show r.val + 512 - 1 = r.val + 511 by omega]

theorem middle_apply (g : Vec Ideal S512x512 .bf16) (w : Vec Ideal S3x512 .f32) (r k : Fin 512) :
    (k0_pay10 (F := Ideal) g w : Vec Ideal S512x512 .f32) (ix2 r k) = g (ix2 r k) * w (ix2 1 k) := by
  pointwise [k0_pay10, k0_pay7]

theorem step_apply (n : FVec Ideal S512x512 .f32) (w : Vec Ideal S3x512 .f32) (p g : FVec Ideal S512x512 .f32) (v : Vec Ideal S512x512 .bf16) (d : Vec Ideal S512x2048 .bf16)
    (r : Fin 512) (j : Fin 2048) :
    (k0_pay1 (F := Ideal) n w p g v d : Vec Ideal S512x2048 .f32) (ix2 r j)
      = ∑ k, gelu (p (ix2 r k) + g (ix2 r k) + n (ix2 r k) * w (ix2 2 k)) * v (ix2 r k) * d (ix2 k j) := by
  pointwise [k0_pay1, gelu]

/-- What a step adds at row `r` and column `j`. -/
theorem contrib_apply (i : grid0.Coords) (hi : (i 0).val < 65) (g : Vec Ideal S512x512 .bf16) (p n : Vec Ideal S1x512 .bf16) (w : Vec Ideal S3x512 .f32) (b : Vec Ideal S1x512 .f32)
    (v : Vec Ideal S512x512 .bf16) (d : Vec Ideal S512x2048 .bf16) (r : Fin 512) (j : Fin 2048) :
    (k0_pay1 (F := Ideal) (k0_pay8 i g n) w (k0_pay9 i g p w b) (k0_pay10 g w) v d : Vec Ideal S512x2048 .f32) (ix2 r j)
      = ∑ k, gelu (conv (before g p (i 0).val r k) (g (ix2 r k)) (after g n (i 0).val r k) (w (ix2 0 k)) (w (ix2 1 k)) (w (ix2 2 k)) (b (ix2 0 k)))
          * v (ix2 r k) * d (ix2 k j) := by
  rw [step_apply]
  refine Finset.sum_congr rfl fun k _ => ?_
  rw [after_apply i hi, before_apply i hi, middle_apply]
  rfl

/-- The first step's sum. -/
theorem first_eq (n : FVec Ideal S512x512 .f32) (w : Vec Ideal S3x512 .f32) (p g : FVec Ideal S512x512 .f32) (v : Vec Ideal S512x512 .bf16) (d : Vec Ideal S512x2048 .bf16)
    (r : Fin 512) (j : Fin 2048) : (k0_pay2 (F := Ideal) n w p g v d : Vec Ideal S512x2048 .f32) (ix2 r j) = (k0_pay1 (F := Ideal) n w p g v d : Vec Ideal S512x2048 .f32) (ix2 r j) := by
  pointwise [k0_pay2]

/-- A later step's sum. -/
theorem later_eq (n : FVec Ideal S512x512 .f32) (w : Vec Ideal S3x512 .f32) (p g : FVec Ideal S512x512 .f32) (v : Vec Ideal S512x512 .bf16) (d : Vec Ideal S512x2048 .bf16)
    (a : Vec Ideal S512x2048 .f32) (r : Fin 512) (j : Fin 2048) : (k0_pay3 (F := Ideal) n w p g v d a : Vec Ideal S512x2048 .f32) (ix2 r j)
      = a (ix2 r j) + (k0_pay1 (F := Ideal) n w p g v d : Vec Ideal S512x2048 .f32) (ix2 r j) := by
  pointwise [k0_pay3]

/-- The rows after the last step, before the mask. -/
theorem value_apply (x a : Vec Ideal S512x2048 .f32) (g : Vec Ideal S1x2048 .f32) (r : Fin 512) (j : Fin 2048) :
    (k0_pay5 (F := Ideal) x a g : Vec Ideal S512x2048 .f32) (ix2 r j) = x (ix2 r j) + rms (fun l => a (ix2 r l)) (g (ix2 0 j)) j := by
  pointwise [k0_pay5, rms]

/-- Number of a row, as the kernel counts it. -/
theorem row_word (i r : ℕ) : IntOp.addi (Scalar.muli (BitVec.ofNat 32 i) 512#32) (BitVec.ofNat 32 r) = BitVec.ofNat 32 (512 * i + r) := by
  apply BitVec.eq_of_toNat_eq
  simp [IntOp.addi, Scalar.muli, IntOp.muli, BitVec.toNat_add, BitVec.toNat_mul, mul_comm]

/-- The mask: zero in the first 112 rows of each sequence of 8320. -/
theorem mask_apply (i : ℕ) (hi : i < 65) (v : FVec Ideal S512x2048 .f32) (r : Fin 512) (j : Fin 2048) :
    (k0_pay4 (F := Ideal) v (Scalar.ofBits .f32 0x00000000#32) (k0_pay6 (BitVec.ofNat 32 i)) : Vec Ideal S512x2048 .f32) (ix2 r j)
      = if (512 * i + r.val) % 8320 < 112 then 0 else v (ix2 r j) := by
  pointwise [k0_pay4, k0_pay6]
  simp only [row_word]
  have hk : 512 * i + r.val < 33280 := by omega
  generalize 512 * i + r.val = k at hk ⊢
  simp (disch := word_cmp_side) only [hlo_ix]
  exact if_congr (by omega) rfl rfl

end Cert.DownIdeal.Ffn

end
-- ==== Proof.DownValue.lean ====
module

public import proofs.«01_k».proof.Proof.Gen.DownIdeal.Frame
public import proofs.«01_k».proof.Proof.DownBlock
public import Idealize.ShloMosaic.Lib.Pipeline.ValueKit
public import Idealize.ShloMosaic.Lib.Pipeline.ReadBack
public import Idealize.ShloMosaic.Lib.Claim

/-!
# The second product of the feed-forward part

The grid goes over 65 blocks of 512 rows and, for each, over eleven blocks of 512 columns of the gate. A buffer holds the sum
of the products of the columns so far; the last column block normalises it, adds the residual stream and masks the padding.
-/

@[expose] public section

set_option maxRecDepth 16384

noncomputable section

namespace Cert.DownIdeal.Ffn

open Cert.DownIdeal Cert.DownIdeal.Gen
open Idealize.ShloMosaic Idealize.ShloMosaic.TcCoe
open Cert.UpIdeal.Ffn (rms)

/-- Column `k` of the gate in the row before row `i`. -/
def prevRow (A0 : Vec Ideal S33280x11264 .bf16) (i : ℕ) (hi : i < 33280) (k : Fin 5632) : EReal :=
  if i = 0 then 0 else A0 (ix2 ⟨i - 1, by omega⟩ ⟨k.val, by omega⟩)

/-- Column `k` of the gate in the row after row `i`. -/
def nextRow (A0 : Vec Ideal S33280x11264 .bf16) (i : ℕ) (hi : i < 33280) (k : Fin 5632) : EReal :=
  if h : i = 33279 then 0 else A0 (ix2 ⟨i + 1, by omega⟩ ⟨k.val, by omega⟩)

/-- Entry `k` of the activation in row `i`. -/
def act (A0 : Vec Ideal S33280x11264 .bf16) (A2 : Vec Ideal S3x5632 .f32) (a3 : Vec Ideal S5632 .f32) (i : ℕ) (hi : i < 33280) (k : Fin 5632) : EReal :=
  gelu (conv (prevRow A0 i hi k) (A0 (ix2 ⟨i, hi⟩ ⟨k.val, by omega⟩)) (nextRow A0 i hi k) (A2 (ix2 0 k)) (A2 (ix2 1 k)) (A2 (ix2 2 k)) (a3 (ix1 k)))
    * A0 (ix2 ⟨i, hi⟩ ⟨5632 + k.val, by omega⟩)

/-- An entry of row `i` of the result: the residual stream's plus the normalised row's, zero in the padding. -/
def masked (i : ℕ) (x : EReal) (f : Fin 2048 → EReal) (g : EReal) (n : Fin 2048) : EReal :=
  if i % 8320 < 112 then 0 else x + rms f g n

/-- The result array. -/
def result (A0 : Vec Ideal S33280x11264 .bf16) (A1 : Vec Ideal S33280x2048 .f32) (A2 : Vec Ideal S3x5632 .f32) (a3 : Vec Ideal S5632 .f32)
    (A4 : Vec Ideal S5632x2048 .f32) (a5 : Vec Ideal S2048 .f32) : Vec Ideal S33280x2048 .f32 := fun y =>
  masked (y 0).val (A1 (ix2 (y 0) (y 1))) (fun n => ∑ k, act A0 A2 a3 (y 0).val (y 0).isLt k * A4 (ix2 k n)) (a5 (ix1 (y 1))) (y 1)

variable (m : (ℓ : Loc nD τ sig) → Buf (Elt Ideal) ℓ)

theorem idx0 : ∀ t : Fin cfg0.N, win0_0.index t = ![t.val / 11, t.val % 11] ∧ win0_1.index t = ![32 * (t.val / 11) - 1, t.val % 11]
    ∧ win0_2.index t = ![min (32 * (t.val / 11 + 1)) 2079, t.val % 11] ∧ win0_3.index t = ![t.val / 11, 11 + t.val % 11]
    ∧ win0_4.index t = ![0, t.val % 11] ∧ win0_5.index t = ![0, t.val % 11] ∧ win0_6.index t = ![t.val % 11, 0] ∧ win0_7.index t = ![t.val / 11, 0]
    ∧ win0_8.index t = ![0, 0] ∧ win0_9.index t = ![t.val / 11, 0] ∧ (grid0.coords t 0).val = t.val / 11 :=
  (by decide +kernel : ∀ t : Fin grid0.N, _)

theorem gate_block (c : Dev nD) (t : Fin cfg0.N) (r k : Fin 512) (hb : 512 * (t.val / 11) + r.val < 33280) (hk : 512 * (t.val % 11) + k.val < 11264) :
    iblk m c 0 t (ix2 r k) = m ((c : Thread nD τ).loc main_arg0) (ix2 ⟨512 * (t.val / 11) + r.val, hb⟩ ⟨512 * (t.val % 11) + k.val, hk⟩) := by
  obtain ⟨e0, e1, e2, e3, e4, e5, e6, e7, e8, e9, et⟩ := idx0 t
  blk_point [iblk, V, e0]

theorem prev_block (c : Dev nD) (t : Fin cfg0.N) (r : Fin 16) (k : Fin 512) (hb : 16 * (32 * (t.val / 11) - 1) + r.val < 33280) (hk : 512 * (t.val % 11) + k.val < 11264) :
    iblk m c 1 t (ix2 r k) = m ((c : Thread nD τ).loc main_arg0) (ix2 ⟨16 * (32 * (t.val / 11) - 1) + r.val, hb⟩ ⟨512 * (t.val % 11) + k.val, hk⟩) := by
  obtain ⟨e0, e1, e2, e3, e4, e5, e6, e7, e8, e9, et⟩ := idx0 t
  blk_point [iblk, V, e1]

theorem next_block (c : Dev nD) (t : Fin cfg0.N) (r : Fin 16) (k : Fin 512) (hb : 16 * min (32 * (t.val / 11 + 1)) 2079 + r.val < 33280) (hk : 512 * (t.val % 11) + k.val < 11264) :
    iblk m c 2 t (ix2 r k) = m ((c : Thread nD τ).loc main_arg0) (ix2 ⟨16 * min (32 * (t.val / 11 + 1)) 2079 + r.val, hb⟩ ⟨512 * (t.val % 11) + k.val, hk⟩) := by
  obtain ⟨e0, e1, e2, e3, e4, e5, e6, e7, e8, e9, et⟩ := idx0 t
  blk_point [iblk, V, e2]

theorem value_block (c : Dev nD) (t : Fin cfg0.N) (r k : Fin 512) (hb : 512 * (t.val / 11) + r.val < 33280) (hk : 5632 + (512 * (t.val % 11) + k.val) < 11264) :
    iblk m c 3 t (ix2 r k) = m ((c : Thread nD τ).loc main_arg0) (ix2 ⟨512 * (t.val / 11) + r.val, hb⟩ ⟨5632 + (512 * (t.val % 11) + k.val), hk⟩) := by
  obtain ⟨e0, e1, e2, e3, e4, e5, e6, e7, e8, e9, et⟩ := idx0 t
  blk_point [iblk, V, e3]

theorem taps_block (c : Dev nD) (t : Fin cfg0.N) (s : Fin 3) (k : Fin 512) (hk : 512 * (t.val % 11) + k.val < 5632) :
    iblk m c 4 t (ix2 s k) = m ((c : Thread nD τ).loc main_arg2) (ix2 s ⟨512 * (t.val % 11) + k.val, hk⟩) := by
  obtain ⟨e0, e1, e2, e3, e4, e5, e6, e7, e8, e9, et⟩ := idx0 t
  blk_point [iblk, V, e4]

theorem bias_block (c : Dev nD) (t : Fin cfg0.N) (k : Fin 512) (hk : 512 * (t.val % 11) + k.val < 5632) :
    iblk m c 5 t (ix2 0 k) = m ((c : Thread nD τ).loc main_arg3) (ix1 ⟨512 * (t.val % 11) + k.val, hk⟩) := by
  obtain ⟨e0, e1, e2, e3, e4, e5, e6, e7, e8, e9, et⟩ := idx0 t
  blk_point [iblk, V, e5]

theorem weight_block (c : Dev nD) (t : Fin cfg0.N) (k : Fin 512) (n : Fin 2048) (hk : 512 * (t.val % 11) + k.val < 5632) :
    iblk m c 6 t (ix2 k n) = m ((c : Thread nD τ).loc main_arg4) (ix2 ⟨512 * (t.val % 11) + k.val, hk⟩ n) := by
  obtain ⟨e0, e1, e2, e3, e4, e5, e6, e7, e8, e9, et⟩ := idx0 t
  blk_point [iblk, V, e6]

theorem stream_block (c : Dev nD) (t : Fin cfg0.N) (r : Fin 512) (n : Fin 2048) (hb : 512 * (t.val / 11) + r.val < 33280) :
    iblk m c 7 t (ix2 r n) = m ((c : Thread nD τ).loc main_arg1) (ix2 ⟨512 * (t.val / 11) + r.val, hb⟩ n) := by
  obtain ⟨e0, e1, e2, e3, e4, e5, e6, e7, e8, e9, et⟩ := idx0 t
  blk_point [iblk, V, e7]

theorem gain_block (c : Dev nD) (t : Fin cfg0.N) (n : Fin 2048) :
    iblk m c 8 t (ix2 0 n) = m ((c : Thread nD τ).loc main_arg5) (ix1 n) := by
  obtain ⟨e0, e1, e2, e3, e4, e5, e6, e7, e8, e9, et⟩ := idx0 t
  blk_point [iblk, V, e8]

/-- The row that a step reads before its block. -/
abbrev prevLine (c : Dev nD) (t : Fin cfg0.N) : Vec Ideal S1x512 .bf16 := View.ld (iblk m c 1 t) (Rect.unit ![15, 0] ![1, 512] inb_S16x512_S1x512_15_0)

/-- The row that a step reads after its block. -/
abbrev nextLine (c : Dev nD) (t : Fin cfg0.N) : Vec Ideal S1x512 .bf16 := View.ld (iblk m c 2 t) (Rect.unit ![0, 0] ![1, 512] inb_S16x512_S1x512_0_0)

theorem prev_line (c : Dev nD) (t : Fin cfg0.N) (k : Fin 512) : prevLine m c t (ix2 0 k) = iblk m c 1 t (ix2 15 k) := by
  refine congrArg (iblk m c 1 t) ?_
  funext a
  apply Fin.ext
  match a with
  | ⟨0, _⟩ => rfl
  | ⟨1, _⟩ => show 0 + 1 * k.val = k.val; omega

theorem next_line (c : Dev nD) (t : Fin cfg0.N) (k : Fin 512) : nextLine m c t (ix2 0 k) = iblk m c 2 t (ix2 0 k) := by
  refine congrArg (iblk m c 2 t) ?_
  funext a
  apply Fin.ext
  match a with
  | ⟨0, _⟩ => rfl
  | ⟨1, _⟩ => show 0 + 1 * k.val = k.val; omega

theorem before_eq (c : Dev nD) (t : Fin cfg0.N) (r k : Fin 512) (hb : 512 * (t.val / 11) + r.val < 33280) (hk : 512 * (t.val % 11) + k.val < 5632) :
    before (iblk m c 0 t) (prevLine m c t) (t.val / 11) r k
      = prevRow (m ((c : Thread nD τ).loc main_arg0)) (512 * (t.val / 11) + r.val) hb ⟨512 * (t.val % 11) + k.val, hk⟩ := by
  have ht : t.val < 715 := lt_of_lt_of_eq t.isLt N_0
  have hr : r.val < 512 := r.isLt
  unfold before prevRow
  by_cases h : r.val = 0
  · rw [if_pos h, prev_line]
    by_cases h' : t.val / 11 = 0
    · rw [if_pos h', if_pos (by omega)]
    · rw [if_neg h', if_neg (by omega), prev_block m c t 15 k (by show _ + 15 < 33280; omega) (by omega)]
      exact congrArg (m ((c : Thread nD τ).loc main_arg0)) (congrArg₂ ix2 (Fin.ext (by show 16 * (32 * (t.val / 11) - 1) + 15 = 512 * (t.val / 11) + r.val - 1; omega)) rfl)
  · rw [if_neg h, if_neg (by omega), gate_block m c t _ k (by show _ + (r.val + 511) % 512 < 33280; omega) (by omega)]
    exact congrArg (m ((c : Thread nD τ).loc main_arg0)) (congrArg₂ ix2 (Fin.ext (by show 512 * (t.val / 11) + (r.val + 511) % 512 = 512 * (t.val / 11) + r.val - 1; omega)) rfl)

theorem after_eq (c : Dev nD) (t : Fin cfg0.N) (r k : Fin 512) (hb : 512 * (t.val / 11) + r.val < 33280) (hk : 512 * (t.val % 11) + k.val < 5632) :
    after (iblk m c 0 t) (nextLine m c t) (t.val / 11) r k
      = nextRow (m ((c : Thread nD τ).loc main_arg0)) (512 * (t.val / 11) + r.val) hb ⟨512 * (t.val % 11) + k.val, hk⟩ := by
  have ht : t.val < 715 := lt_of_lt_of_eq t.isLt N_0
  have hr : r.val < 512 := r.isLt
  unfold after nextRow
  by_cases h : r.val = 511
  · rw [if_pos h, next_line]
    by_cases h' : t.val / 11 = 64
    · rw [if_pos h', dif_pos (by omega)]
    · rw [if_neg h', dif_neg (by omega), next_block m c t 0 k (by show _ + 0 < 33280; omega) (by omega)]
      exact congrArg (m ((c : Thread nD τ).loc main_arg0)) (congrArg₂ ix2 (Fin.ext (by show 16 * min (32 * (t.val / 11 + 1)) 2079 + 0 = 512 * (t.val / 11) + r.val + 1; omega)) rfl)
  · rw [if_neg h, dif_neg (by omega), gate_block m c t _ k (by show _ + (r.val + 1) % 512 < 33280; omega) (by omega)]
    exact congrArg (m ((c : Thread nD τ).loc main_arg0)) (congrArg₂ ix2 (Fin.ext (by show 512 * (t.val / 11) + (r.val + 1) % 512 = 512 * (t.val / 11) + r.val + 1; omega)) rfl)

/-- The product of column `j` of the activation with the weights, zero past the last column. -/
def term (A0 : Vec Ideal S33280x11264 .bf16) (A2 : Vec Ideal S3x5632 .f32) (a3 : Vec Ideal S5632 .f32) (A4 : Vec Ideal S5632x2048 .f32)
    (i : ℕ) (hi : i < 33280) (n : Fin 2048) (j : ℕ) : EReal :=
  if h : j < 5632 then act A0 A2 a3 i hi ⟨j, h⟩ * A4 (ix2 ⟨j, h⟩ n) else 0

/-- The terms of row `i` and column `n` over the launch's arrays. -/
abbrev termOf (c : Dev nD) (i : ℕ) (hi : i < 33280) (n : Fin 2048) : ℕ → EReal :=
  term (m ((c : Thread nD τ).loc main_arg0)) (m ((c : Thread nD τ).loc main_arg2)) (m ((c : Thread nD τ).loc main_arg3)) (m ((c : Thread nD τ).loc main_arg4)) i hi n

/-- What a step adds, over the launch's arrays. -/
theorem step_eq (c : Dev nD) (t : Fin cfg0.N) (r : Fin 512) (n : Fin 2048) (hb : 512 * (t.val / 11) + r.val < 33280) :
    (k0_pay1 (F := Ideal) (k0_pay8 (grid0.coords t) (iblk m c 0 t) (nextLine m c t)) (iblk m c 4 t)
      (k0_pay9 (grid0.coords t) (iblk m c 0 t) (prevLine m c t) (iblk m c 4 t) (iblk m c 5 t))
      (k0_pay10 (iblk m c 0 t) (iblk m c 4 t)) (iblk m c 3 t) (iblk m c 6 t) : Vec Ideal S512x2048 .f32) (ix2 r n)
      = ∑ k : Fin 512, termOf m c (512 * (t.val / 11) + r.val) hb n (512 * (t.val % 11) + k.val) := by
  have ht : t.val < 715 := lt_of_lt_of_eq t.isLt N_0
  obtain ⟨e0, e1, e2, e3, e4, e5, e6, e7, e8, e9, et⟩ := idx0 t
  refine (contrib_apply (grid0.coords t) (by rw [et]; omega) (iblk m c 0 t) (prevLine m c t) (nextLine m c t) (iblk m c 4 t) (iblk m c 5 t) (iblk m c 3 t) (iblk m c 6 t) r n).trans ?_
  refine Finset.sum_congr rfl fun k _ => ?_
  have hk : 512 * (t.val % 11) + k.val < 5632 := by omega
  rw [et, before_eq m c t r k hb hk, after_eq m c t r k hb hk, gate_block m c t r k hb (by omega), value_block m c t r k hb (by omega), weight_block m c t k n hk,
    taps_block m c t 0 k hk, taps_block m c t 1 k hk, taps_block m c t 2 k hk, bias_block m c t k hk]
  unfold termOf term act
  rw [dif_pos hk]

/-- The buffer after any point: the sum of the products of the columns so far. -/
theorem buffer_apply (c : Dev nD) (p : ℕ) : ∀ (hp : p < cfg0.N) (r : Fin 512) (n : Fin 2048) (hb : 512 * (p / 11) + r.val < 33280),
    (outsAt0 m c p hp).2 (ix2 r n) = ∑ j ∈ Finset.range (512 * (p % 11) + 512), termOf m c (512 * (p / 11) + r.val) hb n j := by
  induction p using Nat.strong_induction_on with
  | _ p ih =>
    intro hp r n hb
    rw [Finset.sum_range_add]
    have hs : (∑ x ∈ Finset.range 512, termOf m c (512 * (p / 11) + r.val) hb n (512 * (p % 11) + x))
        = ∑ k : Fin 512, termOf m c (512 * (p / 11) + r.val) hb n (512 * (p % 11) + k.val) := Finset.sum_range _
    rw [hs]
    have st := step_eq m c ⟨p, hp⟩ r n hb
    by_cases h0 : p % 11 = 0
    · rw [outsAt0_A m c ⟨p, hp⟩ h0 (by show ¬1 ≤ p % 11; omega) (by show ¬p % 11 = 10; omega)]
      dsimp only [sout0_A_0]
      frame_out
      rw [first_eq]
      refine st.trans ?_
      have hz : (∑ x ∈ Finset.range (512 * (p % 11)), termOf m c (512 * (p / 11) + r.val) hb n x) = 0 := by rw [h0]; rfl
      rw [hz, zero_add]
    · have e : (p - 1) / 11 = p / 11 := by omega
      have hb' : 512 * ((p - 1) / 11) + r.val < 33280 := by omega
      have prev : (outsAt0 m c (p - 1) (Nat.lt_of_le_of_lt (Nat.sub_le _ _) hp)).2 (ix2 r n)
          = ∑ j ∈ Finset.range (512 * (p % 11)), termOf m c (512 * (p / 11) + r.val) hb n j := by
        rw [ih (p - 1) (by omega) _ r n hb']
        simp only [e, show 512 * ((p - 1) % 11) + 512 = 512 * (p % 11) by omega]
      by_cases h2 : p % 11 = 10
      · rw [outsAt0_C m c ⟨p, hp⟩ h0 (by show 1 ≤ p % 11; omega) h2]
        dsimp only [sout0_C_0]
        frame_out
        rw [later_eq, read_unread_whole]
        exact congrArg₂ (· + ·) prev st
      · rw [outsAt0_B m c ⟨p, hp⟩ h0 (by show 1 ≤ p % 11; omega) h2]
        dsimp only [sout0_B_0]
        frame_out
        rw [later_eq, read_unread_whole]
        exact congrArg₂ (· + ·) prev st

/-- The output block of the last column block. -/
theorem last_apply (c : Dev nD) (t : Fin cfg0.N) (h2 : t.val % 11 = 10) (r : Fin 512) (n : Fin 2048) :
    (outsAt0 m c t.val t.isLt).1 (ix2 r n)
      = masked (512 * (t.val / 11) + r.val) (iblk m c 7 t (ix2 r n)) (fun l => (outsAt0 m c t.val t.isLt).2 (ix2 r l)) (iblk m c 8 t (ix2 0 n)) n := by
  have ht : t.val < 715 := lt_of_lt_of_eq t.isLt N_0
  have h0 : ¬t.val % 11 = 0 := by omega
  have h1 : 1 ≤ t.val % 11 := by omega
  obtain ⟨e0, e1, e2, e3, e4, e5, e6, e7, e8, e9, et⟩ := idx0 t
  have key : (outsAt0 m c t.val t.isLt).1 (ix2 r n)
      = (k0_pay4 (F := Ideal) (k0_pay5 (iblk m c 7 t) (outsAt0 m c t.val t.isLt).2 (iblk m c 8 t)) (Scalar.ofBits .f32 0x00000000#32)
          (k0_pay6 (BitVec.ofNat 32 (t.val / 11))) : Vec Ideal S512x2048 .f32) (ix2 r n) := by
    rw [← et]
    rw [outsAt0_C m c t h0 h1 h2]
    dsimp only [sout0_C_0]
    frame_out
  rw [key, mask_apply (t.val / 11) (by omega)]
  refine if_congr Iff.rfl rfl ?_
  rw [value_apply]

/-- The sum over the range is the sum over the columns. -/
theorem sum_term (A0 : Vec Ideal S33280x11264 .bf16) (A2 : Vec Ideal S3x5632 .f32) (a3 : Vec Ideal S5632 .f32) (A4 : Vec Ideal S5632x2048 .f32)
    (i : ℕ) (hi : i < 33280) (n : Fin 2048) :
    ∑ j ∈ Finset.range 5632, term A0 A2 a3 A4 i hi n j = ∑ k : Fin 5632, act A0 A2 a3 i hi k * A4 (ix2 k n) := by
  rw [Finset.sum_range]
  refine Finset.sum_congr rfl fun k _ => ?_
  unfold term
  rw [dif_pos k.isLt]

/-- The array that the call leaves. -/
theorem array_eq (c : Dev nD) : (dats m 0 c).arrAt 9 cfg0.N
    = result (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) := by
  refine (dats m 0 c).arrAt_eq_of_covers 9 _ (by decide +kernel) fun t hf y => ?_
  have h2 : t.val % 11 = 10 := (flush0_9 t).mp hf
  rw [after0_9]
  obtain ⟨e0, e1, e2, e3, e4, e5, e6, e7, e8, e9, et⟩ := idx0 t
  have ht : t.val < 715 := lt_of_lt_of_eq t.isLt N_0
  obtain ⟨r, n, rfl⟩ : ∃ (r : Fin 512) (n : Fin 2048), y = ix2 r n := ⟨y 0, y 1, by
    funext a
    match a with
    | ⟨0, _⟩ => rfl
    | ⟨1, _⟩ => rfl⟩
  have hr : 512 * (t.val / 11) + r.val < 33280 := by omega
  have hp : ((cfg0.win 9).blk t).view.emb (ix2 r n) = ix2 (⟨512 * (t.val / 11) + r.val, hr⟩ : Fin 33280) n := by
    blk_ext [e9]
  rw [hp]
  refine (show _ = (outsAt0 m c t.val t.isLt).1 (ix2 r n) from rfl).trans ?_
  rw [last_apply m c t h2, stream_block m c t r n hr, gain_block m c t n]
  refine congrArg (fun f => masked (512 * (t.val / 11) + r.val) (m ((c : Thread nD τ).loc main_arg1) (ix2 (⟨512 * (t.val / 11) + r.val, hr⟩ : Fin 33280) n)) f
    (m ((c : Thread nD τ).loc main_arg5) (ix1 n)) n) ?_
  funext l
  rw [buffer_apply m c t.val t.isLt r l hr, show 512 * (t.val % 11) + 512 = 5632 by omega]
  exact sum_term _ _ _ _ _ _ _

end Cert.DownIdeal.Ffn

end
-- ==== Proof.DownReference.lean ====
module

public import proofs.«01_k».proof.Proof.Gen.DownReferenceIdeal.Run
public import proofs.«01_k».proof.Proof.DownValue
public import Idealize.ShloMosaic.Lib.Pointwise

/-!
# The reference of the second product

The reference leaves the padding rows out, convolves each sequence on its own with a zero row on either side, and puts zero
rows in the place of the padding. The call's neighbours outside a sequence are padding rows, so where these are zero the two
agree.
-/

@[expose] public section

set_option maxRecDepth 16384

noncomputable section

namespace Cert.DownReferenceIdeal.Ffn

open Cert.DownReferenceIdeal Cert.DownReferenceIdeal.Gen
open Idealize.ShloMosaic Idealize.ShloMosaic.TcCoe
open Cert.UpIdeal.Ffn (rms)
open Cert.DownIdeal.Ffn (conv gelu act prevRow nextRow masked result)

/-- The rows outside the padding. -/
def rows (A0 : FVec Ideal S33280x11264 .bf16) : FVec Ideal S4x8208x11264 .f32 :=
  extractStridedSlice S4x8208x11264 ![0, 112, 0] (shapeCast _ (extf .f32 A0 bitsLt_bf16_f32) shapeCasts_S33280x11264_S4x8320x11264) slices_S4x8320x11264_S4x8208x11264_0_112_0

/-- The gate with a zero row on either side of each sequence. -/
def gate (A0 : FVec Ideal S33280x11264 .bf16) : FVec Ideal S4x8210x5632 .f32 :=
  pad S4x8210x5632 ![0, 1, 0] ![0, 1, 0] ![0, 0, 0] (extractStridedSlice S4x8208x5632 ![0, 0, 0] (rows A0) slices_S4x8208x11264_S4x8208x5632_0_0_0)
    (sitofp .f32 (constantI S_ 32 0#32)) pads_S4x8208x5632_S4x8210x5632_000_110_000 h_S_

/-- A tap of the convolution, or its bias, for every row. -/
def spread (v : FVec Ideal S5632 .f32) : FVec Ideal S4x8208x5632 .f32 :=
  broadcastInDim S4x8208x5632 ![0, 1, 2] bcast_S1x1x5632_S4x8208x5632_0_1_2 (broadcastInDim S1x1x5632 ![2] bcast_S5632_S1x1x5632_2 v)

/-- The convolution of the gate `g`. -/
def convolved (g : FVec Ideal S4x8210x5632 .f32) (A2 : FVec Ideal S3x5632 .f32) (a3 : FVec Ideal S5632 .f32) : FVec Ideal S4x8208x5632 .f32 :=
  addf (addf (addf (spread a3)
    (mulf (extractStridedSlice S4x8208x5632 ![0, 0, 0] g slices_S4x8210x5632_S4x8208x5632_0_0_0)
      (spread (shapeCast _ (extractStridedSlice S1x5632 ![0, 0] A2 slices_S3x5632_S1x5632_0_0) shapeCasts_S1x5632_S5632))))
    (mulf (extractStridedSlice S4x8208x5632 ![0, 1, 0] g slices_S4x8210x5632_S4x8208x5632_0_1_0)
      (spread (shapeCast _ (extractStridedSlice S1x5632 ![1, 0] A2 slices_S3x5632_S1x5632_1_0) shapeCasts_S1x5632_S5632))))
    (mulf (extractStridedSlice S4x8208x5632 ![0, 2, 0] g slices_S4x8210x5632_S4x8208x5632_0_2_0)
      (spread (shapeCast _ (extractStridedSlice S1x5632 ![2, 0] A2 slices_S3x5632_S1x5632_2_0) shapeCasts_S1x5632_S5632)))

/-- The activation. -/
def activated (x : FVec Ideal S4x8208x5632 .f32) : FVec Ideal S4x8208x5632 .f32 :=
  mulf x (mulf (broadcastInDim S4x8208x5632 ![] bcast_S_S4x8208x5632 (constant S_ .f32 0x3F000000#32))
    (addf (broadcastInDim S4x8208x5632 ![] bcast_S_S4x8208x5632 (constant S_ .f32 0x3F800000#32))
      (Host.tanh (mulf (broadcastInDim S4x8208x5632 ![] bcast_S_S4x8208x5632 (constant S_ .f32 0x3F4C422A#32))
        (addf x (mulf (broadcastInDim S4x8208x5632 ![] bcast_S_S4x8208x5632 (constant S_ .f32 0x3D372713#32)) (mulf (mulf x x) x)))))))

/-- The product with the weights. -/
def product (x v : FVec Ideal S4x8208x5632 .f32) (A4 : FVec Ideal S5632x2048 .f32) : FVec Ideal S4x8208x2048 .f32 :=
  Host.dotGeneral dot_S4x8208x5632_S5632x2048_S4x8208x2048_2_0_01_1_n_n none (mulf x v) A4

/-- Rows normalised and scaled. -/
def norms (x : FVec Ideal S4x8208x2048 .f32) (a5 : FVec Ideal S2048 .f32) : FVec Ideal S4x8208x2048 .f32 :=
  mulf (mulf x (broadcastInDim S4x8208x2048 ![0, 1, 2] bcast_S4x8208x1_S4x8208x2048_0_1_2 (Host.rsqrt (addf (Host.divf
    (broadcastInDim S4x8208x1 ![0, 1] bcast_S4x8208_S4x8208x1_0_1 (Host.reduceAdd (mulf x x) (constant S_ .f32 0x00000000#32) reducesTo_S4x8208x2048_S4x8208_d2 h_S_))
    (broadcastInDim S4x8208x1 ![] bcast_S_S4x8208x1 (constant S_ .f32 0x45000000#32))) (broadcastInDim S4x8208x1 ![] bcast_S_S4x8208x1 (constant S_ .f32 0x358637BD#32))))))
    (broadcastInDim S4x8208x2048 ![0, 1, 2] bcast_S1x1x2048_S4x8208x2048_0_1_2 (broadcastInDim S1x1x2048 ![2] bcast_S2048_S1x1x2048_2 a5))

/-- The rows outside the padding of the residual stream. -/
def stream (A1 : FVec Ideal S33280x2048 .f32) : FVec Ideal S4x8208x2048 .f32 :=
  extractStridedSlice S4x8208x2048 ![0, 112, 0] (shapeCast _ A1 shapeCasts_S33280x2048_S4x8320x2048) slices_S4x8320x2048_S4x8208x2048_0_112_0

/-- Zero rows in the place of the padding rows. -/
def zeroPad (y : FVec Ideal S4x8208x2048 .f32) : FVec Ideal S33280x2048 .f32 :=
  shapeCast _ (pad S4x8320x2048 ![0, 112, 0] ![0, 0, 0] ![0, 0, 0] y (sitofp .f32 (constantI S_ 32 0#32)) pads_S4x8208x2048_S4x8320x2048_000_11200_000 h_S_)
    shapeCasts_S4x8320x2048_S33280x2048

/-- The reference's result. -/
def out (A0 : FVec Ideal S33280x11264 .bf16) (A1 : FVec Ideal S33280x2048 .f32) (A2 : FVec Ideal S3x5632 .f32) (a3 : FVec Ideal S5632 .f32)
    (A4 : FVec Ideal S5632x2048 .f32) (a5 : FVec Ideal S2048 .f32) : FVec Ideal S33280x2048 .f32 :=
  zeroPad (addf (stream A1) (norms (product (activated (convolved (gate A0) A2 a3))
    (extractStridedSlice S4x8208x5632 ![0, 0, 5632] (rows A0) slices_S4x8208x11264_S4x8208x5632_0_0_5632) A4) a5))

theorem res_eq (m : (ℓ : Loc nD τ sig) → Buf (Elt Ideal) ℓ) (c : Dev nD) : Cert.DownReferenceIdeal.Value.res_main_v61 m c
    = out (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) := rfl

theorem zero_eq : (FloatOps.sitofp (F := Ideal) FTy.f32 (0#32) : EReal) = 0 := by
  show (((0#32 : BitVec 32).toInt : ℝ) : EReal) = 0
  simp

theorem rows_apply (A0 : FVec Ideal S33280x11264 .bf16) (b : Fin 4) (s : Fin 8208) (k : Fin 11264) :
    rows A0 (ix3 b s k) = A0 (ix2 ⟨8320 * b.val + (112 + s.val), by omega⟩ k) := by
  pointwise [rows]
  exact congrArg A0 (congrArg (ix2 · k) (Fin.ext (by dsimp only; omega)))

theorem gate_apply (A0 : FVec Ideal S33280x11264 .bf16) (b : Fin 4) (s : Fin 8210) (k : Fin 5632) :
    gate A0 (ix3 b s k) = if h : 1 ≤ s.val ∧ s.val < 8209 then A0 (ix2 ⟨8320 * b.val + (112 + (s.val - 1)), by omega⟩ ⟨k.val, by omega⟩) else 0 := by
  pointwise [gate]
  by_cases h : 1 ≤ s.val ∧ s.val < 8209
  · rw [dif_pos (by omega), dif_pos h, rows_apply]
  · rw [dif_neg (by omega), dif_neg h]
    exact zero_eq

theorem spread_apply (v : FVec Ideal S5632 .f32) (b : Fin 4) (s : Fin 8208) (k : Fin 5632) : spread v (ix3 b s k) = v (ix1 k) := by
  pointwise [spread]

theorem convolved_apply (g : FVec Ideal S4x8210x5632 .f32) (A2 : FVec Ideal S3x5632 .f32) (a3 : FVec Ideal S5632 .f32) (b : Fin 4) (s : Fin 8208) (k : Fin 5632) :
    convolved g A2 a3 (ix3 b s k) = conv (g (ix3 b ⟨s.val, by omega⟩ k)) (g (ix3 b ⟨1 + s.val, by omega⟩ k)) (g (ix3 b ⟨2 + s.val, by omega⟩ k))
      (A2 (ix2 0 k)) (A2 (ix2 1 k)) (A2 (ix2 2 k)) (a3 (ix1 k)) := by
  pointwise [convolved, spread, conv]

theorem activated_apply (x : FVec Ideal S4x8208x5632 .f32) (b : Fin 4) (s : Fin 8208) (k : Fin 5632) :
    activated x (ix3 b s k) = gelu (x (ix3 b s k)) := by
  pointwise [activated, gelu]
  rw [mul_comm (x (ix3 b s k) * x (ix3 b s k)) (x (ix3 b s k))]

theorem product_apply (x v : FVec Ideal S4x8208x5632 .f32) (A4 : FVec Ideal S5632x2048 .f32) (b : Fin 4) (s : Fin 8208) (n : Fin 2048) :
    product x v A4 (ix3 b s n) = ∑ k, x (ix3 b s k) * v (ix3 b s k) * A4 (ix2 k n) := by
  pointwise [product]

theorem norms_apply (x : FVec Ideal S4x8208x2048 .f32) (a5 : FVec Ideal S2048 .f32) (b : Fin 4) (s : Fin 8208) (n : Fin 2048) :
    norms x a5 (ix3 b s n) = rms (fun k => x (ix3 b s k)) (a5 (ix1 n)) n := by
  pointwise [norms, rms]

theorem stream_apply (A1 : FVec Ideal S33280x2048 .f32) (b : Fin 4) (s : Fin 8208) (n : Fin 2048) :
    stream A1 (ix3 b s n) = A1 (ix2 ⟨8320 * b.val + (112 + s.val), by omega⟩ n) := by
  pointwise [stream]
  exact congrArg A1 (congrArg (ix2 · n) (Fin.ext (by dsimp only; omega)))

theorem zeroPad_apply (y : FVec Ideal S4x8208x2048 .f32) (i : Fin 33280) (n : Fin 2048) :
    zeroPad y (ix2 i n) = if h : i.val % 8320 < 112 then 0 else y (ix3 ⟨i.val / 8320, by omega⟩ ⟨i.val % 8320 - 112, by omega⟩ n) := by
  pointwise [zeroPad]
  by_cases h : i.val % 8320 < 112
  · rw [dif_neg (by omega), dif_pos h]
    exact zero_eq
  · rw [dif_pos (by omega), dif_neg h]

/-- The padding rows of the gate are zero. -/
def Padded (A0 : FVec Ideal S33280x11264 .bf16) : Prop :=
  ∀ (i : Fin 33280) (k : Fin 5632), i.val % 8320 < 112 → A0 (ix2 i ⟨k.val, by omega⟩) = (0 : EReal)

/-- The row before, in the reference. -/
theorem gate_prev (A0 : FVec Ideal S33280x11264 .bf16) (hA : Padded A0) (i : Fin 33280) (h : ¬i.val % 8320 < 112) (k : Fin 5632) :
    gate A0 (ix3 ⟨i.val / 8320, by omega⟩ ⟨i.val % 8320 - 112, by omega⟩ k) = prevRow A0 i.val i.isLt k := by
  rw [gate_apply]
  unfold prevRow
  rw [if_neg (by omega)]
  by_cases h' : 1 ≤ i.val % 8320 - 112
  · rw [dif_pos (by dsimp only; omega)]
    exact congrArg A0 (congrArg (ix2 · _) (Fin.ext (by dsimp only; omega)))
  · rw [dif_neg (by dsimp only; omega)]
    exact (hA ⟨i.val - 1, by omega⟩ k (by dsimp only; omega)).symm

/-- The row itself, in the reference. -/
theorem gate_here (A0 : FVec Ideal S33280x11264 .bf16) (i : Fin 33280) (h : ¬i.val % 8320 < 112) (k : Fin 5632) :
    gate A0 (ix3 ⟨i.val / 8320, by omega⟩ ⟨1 + (i.val % 8320 - 112), by omega⟩ k) = A0 (ix2 i ⟨k.val, by omega⟩) := by
  rw [gate_apply, dif_pos (by dsimp only; omega)]
  exact congrArg A0 (congrArg (ix2 · _) (Fin.ext (by dsimp only; omega)))

/-- The row after, in the reference. -/
theorem gate_next (A0 : FVec Ideal S33280x11264 .bf16) (hA : Padded A0) (i : Fin 33280) (h : ¬i.val % 8320 < 112) (k : Fin 5632) :
    gate A0 (ix3 ⟨i.val / 8320, by omega⟩ ⟨2 + (i.val % 8320 - 112), by omega⟩ k) = nextRow A0 i.val i.isLt k := by
  rw [gate_apply]
  unfold nextRow
  by_cases h' : i.val % 8320 < 8319
  · rw [dif_pos (by dsimp only; omega), dif_neg (by omega)]
    exact congrArg A0 (congrArg (ix2 · _) (Fin.ext (by dsimp only; omega)))
  · rw [dif_neg (by dsimp only; omega)]
    by_cases h'' : i.val = 33279
    · rw [dif_pos h'']
    · rw [dif_neg h'']
      exact (hA ⟨i.val + 1, by omega⟩ k (by dsimp only; omega)).symm

/-- The other half of the columns, in the reference. -/
theorem value_here (A0 : FVec Ideal S33280x11264 .bf16) (i : Fin 33280) (h : ¬i.val % 8320 < 112) (k : Fin 5632) :
    extractStridedSlice S4x8208x5632 ![0, 0, 5632] (rows A0) slices_S4x8208x11264_S4x8208x5632_0_0_5632 (ix3 ⟨i.val / 8320, by omega⟩ ⟨i.val % 8320 - 112, by omega⟩ k)
      = A0 (ix2 i ⟨5632 + k.val, by omega⟩) := by
  have e : extractStridedSlice S4x8208x5632 ![0, 0, 5632] (rows A0) slices_S4x8208x11264_S4x8208x5632_0_0_5632 (ix3 ⟨i.val / 8320, by omega⟩ ⟨i.val % 8320 - 112, by omega⟩ k)
      = rows A0 (ix3 ⟨i.val / 8320, by omega⟩ ⟨i.val % 8320 - 112, by omega⟩ ⟨5632 + k.val, by omega⟩) := by pointwise
  rw [e, rows_apply]
  exact congrArg A0 (congrArg (ix2 · _) (Fin.ext (by dsimp only; omega)))

/-- The reference's result is the call's. -/
theorem out_eq (A0 : FVec Ideal S33280x11264 .bf16) (A1 : FVec Ideal S33280x2048 .f32) (A2 : FVec Ideal S3x5632 .f32) (a3 : FVec Ideal S5632 .f32)
    (A4 : FVec Ideal S5632x2048 .f32) (a5 : FVec Ideal S2048 .f32) (hA : Padded A0) : out A0 A1 A2 a3 A4 a5 = result A0 A1 A2 a3 A4 a5 := by
  funext y
  obtain ⟨i, n, rfl⟩ : ∃ (i : Fin 33280) (n : Fin 2048), y = ix2 i n := ⟨y 0, y 1, eq_ix2 y⟩
  rw [out, zeroPad_apply]
  show _ = masked i.val (A1 (ix2 i n)) (fun n => ∑ k, act A0 A2 a3 i.val i.isLt k * A4 (ix2 k n)) (a5 (ix1 n)) n
  unfold masked
  by_cases h : i.val % 8320 < 112
  · rw [dif_pos h, if_pos h]
  · rw [dif_neg h, if_neg h]
    refine congrArg₂ (· + ·) ((stream_apply A1 _ _ n).trans (congrArg A1 (congrArg (ix2 · n) (Fin.ext (by dsimp only; omega))))) ?_
    rw [norms_apply]
    refine congrArg (fun f => rms f (a5 (ix1 n)) n) ?_
    funext l
    rw [product_apply]
    refine Finset.sum_congr rfl fun k _ => ?_
    rw [activated_apply, convolved_apply, value_here A0 i h k, gate_prev A0 hA i h k, gate_here A0 i h k, gate_next A0 hA i h k]
    rfl

end Cert.DownReferenceIdeal.Ffn

end
-- ==== Proof.PadRows.lean ====
module

public import proofs.«01_k».proof.Pre_padded
public import Idealize.ShloMosaic.PureOps.Ideal
public import Idealize.ShloMosaic.Lib.ReduceAll
public import Idealize.ShloMosaic.Lib.Pointwise

/-!
# The precondition of the second product, read back

`padded` of the arguments is one exactly where the gate's padding rows are zero.
-/

@[expose] public section

set_option maxRecDepth 16384

noncomputable section

namespace Cert.Pre_padded.Read

open Cert.Pre_padded
open Idealize.ShloMosaic

variable [Facts]

instance : Subsingleton S_.Idx := ⟨fun a b => funext fun i => i.elim0⟩

theorem zero_of_pre {a0 : FVec Ideal S33280x11264 .bf16} {a1 : FVec Ideal S33280x2048 .f32} {a2 : FVec Ideal S3x5632 .f32} {a3 : FVec Ideal S5632 .f32}
    {a4 : FVec Ideal S5632x2048 .f32} {a5 : FVec Ideal S2048 .f32} (h : fn (F := Ideal) a0 a1 a2 a3 a4 a5 = fun _ => 1#1)
    (i : Fin 33280) (k : Fin 5632) (hi : i.val % 8320 < 112) : a0 (ix2 i ⟨k.val, by omega⟩) = (0 : EReal) := by
  have h' := congrFun h (fun a => a.elim0)
  dsimp only [fn] at h'
  have q := Host.reduce_andi_all _ _ _ _ _ h' (ix3 ⟨i.val / 8320, by omega⟩ ⟨i.val % 8320, hi⟩ k)
  have e : extractStridedSlice S4x112x5632 ![0, 0, 0] (shapeCast S4x8320x11264 (extf .f32 a0 Facts.bitsLt_bf16_f32) Facts.shapeCasts_S33280x11264_S4x8320x11264)
      Facts.slices_S4x8320x11264_S4x112x5632_0_0_0 (ix3 ⟨i.val / 8320, by omega⟩ ⟨i.val % 8320, hi⟩ k) = a0 (ix2 i ⟨k.val, by omega⟩) := by
    pointwise
  have q' : Ideal.cmp .oeq (a0 (ix2 i ⟨k.val, by omega⟩)) (Ideal.ofBits .f32 0x00000000#32) = 1#1 := by
    rw [← e]
    exact q
  have z : Ideal.ofBits .f32 0x00000000#32 = 0 := by simp [Ideal.ofBits, Ideal.ieee]
  rw [z] at q'
  by_contra hne
  simp [Ideal.cmp, hne] at q'

end Cert.Pre_padded.Read

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownReferenceIdeal
public import proofs.«01_k».proof.Proof.Gen.DownReferenceIdeal.Run
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpIdeal.Value
public import proofs.«01_k».proof.Proof.Gen.UpReferenceIdeal
public import proofs.«01_k».proof.Proof.Gen.UpReferenceIdeal.Run
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixIdeal.Value
public import proofs.«01_k».proof.Proof.Gen.MixReferenceIdeal
public import proofs.«01_k».proof.Proof.Gen.MixReferenceIdeal.Run
public import proofs.«01_k».proof.Proof.Gen.Pre_padded
public import proofs.«01_k».proof.Proof.Gen.Proj
public import proofs.«01_k».proof.Proof.Gen.ProjIdeal
public import proofs.«01_k».proof.Proof.Gen.Proj.Frame
public import proofs.«01_k».proof.Proof.Gen.ProjIdeal.Frame
public import proofs.«01_k».proof.Proof.Gen.ProjIdeal.Skeleton
public import proofs.«01_k».proof.Proof.Gen.ProjReferenceIdeal
public import proofs.«01_k».proof.Proof.Gen.ProjReferenceIdeal.Run
public import proofs.«01_k».proof.Proof.FrameKernel
public import proofs.«01_k».proof.Proof.Inputs
public import proofs.«01_k».proof.Proof.RefValue
public import proofs.«01_k».proof.Proof.UpReference
public import proofs.«01_k».proof.Proof.ProjFrame
public import proofs.«01_k».proof.Proof.ProjReference
public import proofs.«01_k».proof.Proof.MixReference
public import proofs.«01_k».proof.Proof.DownReference
public import proofs.«01_k».proof.Proof.PadRows
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts Cert.Down.Gen.facts Cert.DownIdeal.Gen.facts Cert.DownReferenceIdeal.Gen.facts Cert.Up.Gen.facts Cert.UpIdeal.Gen.facts Cert.UpReferenceIdeal.Gen.facts Cert.Mix.Gen.facts Cert.MixIdeal.Gen.facts Cert.MixReferenceIdeal.Gen.facts Cert.Proj.Gen.facts Cert.ProjIdeal.Gen.facts Cert.ProjReferenceIdeal.Gen.facts Cert.Pre_finite.Gen.facts Cert.Pre_padded.Gen.facts

/-- The reference runs, leaves its arguments as they were, and has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On real queries, keys, values and vectors the kernel leaves the reference's result. -/
theorem same_result : Cert.algebraic_KernelIdeal_ReferenceIdeal_pre_finite := by
  intro m ρ m' ρ' hpre hag
  refine ⟨fun c => Cert.KernelIdeal.Attn.result
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · refine (θ_run Cert.KernelIdeal.defs _ _).mono (fun r h c => ⟨?_, h.2.1 c⟩)
      (θ_run_and (Cert.KernelIdeal.Attn.run_main m ρ) (Cert.KernelIdeal.Attn.frame m ρ))
    have R := Cert.Pre_finite.Read.real_of_pre (hpre c)
    exact ((h.1 c).1 5).trans (Cert.KernelIdeal.Attn.array_eq m c R.rows R.vals)
  · refine (θ_run Cert.ReferenceIdeal.defs _ _).mono (fun r h c => ⟨(h c).1.trans ?_, (h c).2⟩) (Cert.ReferenceIdeal.Value.run m' ρ')
    obtain ⟨e0, e1, e2, e3, e4, e5, e6⟩ := hag c
    have R := Cert.Pre_finite.Read.real_of_pre (hpre c)
    refine (Cert.ReferenceIdeal.Attn.res_eq m' c).trans ?_
    rw [e0, e1, e2, e3, e4, e5, e6]
    exact Cert.ReferenceIdeal.Attn.out_eq R.rows R.vals R.vec2 R.vec3 R.vec4 R.vec5

theorem frame_up_reference : Cert.quiescent_UpReferenceIdeal := fun m ρ _ =>
  (θ_run Cert.UpReferenceIdeal.defs _ _).mono (fun r h => ⟨fun c => (h c).2, sem_eq_zero_of_no_sems (by decide) r.2⟩)
    (Cert.UpReferenceIdeal.Value.run (F := Ideal) m ρ)

theorem frame_mix_reference : Cert.quiescent_MixReferenceIdeal := fun m ρ _ =>
  (θ_run Cert.MixReferenceIdeal.defs _ _).mono (fun r h => ⟨fun c => (h c).2, sem_eq_zero_of_no_sems (by decide) r.2⟩)
    (Cert.MixReferenceIdeal.Value.run (F := Ideal) m ρ)

theorem frame_down_reference : Cert.quiescent_DownReferenceIdeal := fun m ρ _ =>
  (θ_run Cert.DownReferenceIdeal.defs _ _).mono (fun r h => ⟨fun c => (h c).2, sem_eq_zero_of_no_sems (by decide) r.2⟩)
    (Cert.DownReferenceIdeal.Value.run (F := Ideal) m ρ)

/-- The feed-forward's first product leaves its reference's result. -/
theorem same_up : Cert.algebraic_UpIdeal_UpReferenceIdeal := by
  intro m ρ m' ρ' _ hag
  refine ⟨fun c => Cert.UpIdeal.Ffn.result
      (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)), ?_, ?_⟩
  · refine (θ_run Cert.UpIdeal.defs _ _).mono (fun r h c => ⟨?_, h.2.1 c⟩)
      (θ_run_and (Cert.UpIdeal.Gen.run_main m ρ) (Cert.UpIdeal.Gen.frame m ρ))
    exact ((h.1 c).1 3).trans (Cert.UpIdeal.Ffn.array_eq m c)
  · refine (θ_run Cert.UpReferenceIdeal.defs _ _).mono (fun r h c => ⟨(h c).1.trans ?_, (h c).2⟩) (Cert.UpReferenceIdeal.Value.run m' ρ')
    obtain ⟨e0, e1, e2⟩ := hag c
    refine (show _ = Cert.UpReferenceIdeal.Ffn.out (m' ((c.tc : Thread Cert.UpReferenceIdeal.nD Cert.UpReferenceIdeal.τ).loc Cert.UpReferenceIdeal.main_arg0)) (m' ((c.tc : Thread Cert.UpReferenceIdeal.nD Cert.UpReferenceIdeal.τ).loc Cert.UpReferenceIdeal.main_arg1)) (m' ((c.tc : Thread Cert.UpReferenceIdeal.nD Cert.UpReferenceIdeal.τ).loc Cert.UpReferenceIdeal.main_arg2)) from rfl).trans ?_
    rw [e0, e1, e2]
    exact Cert.UpReferenceIdeal.Ffn.out_eq _ _ _

theorem frame_proj_reference : Cert.quiescent_ProjReferenceIdeal := fun m ρ _ =>
  (θ_run Cert.ProjReferenceIdeal.defs _ _).mono (fun r h => ⟨fun c => (h c).2.2, sem_eq_zero_of_no_sems (by decide) r.2⟩)
    (Cert.ProjReferenceIdeal.Value.run (F := Ideal) m ρ)

/-- The input projection leaves its reference's two results. -/
theorem same_proj : Cert.algebraic_ProjIdeal_ProjReferenceIdeal := by
  intro m ρ m' ρ' _ hag
  refine ⟨fun c => Cert.ProjIdeal.Proj.result
      (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)),
    fun c => Cert.ProjIdeal.Proj.values
      (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)), ?_, ?_⟩
  · refine (θ_run Cert.ProjIdeal.defs _ _).mono (fun r h c => ⟨?_, ?_, h.2.1 c⟩)
      (θ_run_and (Cert.ProjIdeal.Proj.run_main m ρ) (Cert.ProjIdeal.Proj.frame m ρ))
    · exact ((h.1 c).1 6).trans (Cert.ProjIdeal.Proj.array_eq m c)
    · exact ((h.1 c).1 7).trans (Cert.ProjIdeal.Proj.values_eq m c)
  · refine (θ_run Cert.ProjReferenceIdeal.defs _ _).mono (fun r h c => ⟨(h c).1.trans ?_, (h c).2.1.trans ?_, (h c).2.2⟩) (Cert.ProjReferenceIdeal.Value.run m' ρ')
    · obtain ⟨e0, e1, e2⟩ := hag c
      refine (Cert.ProjReferenceIdeal.Proj.res_eq m' c).trans ?_
      rw [e0, e1, e2]
      exact Cert.ProjReferenceIdeal.Proj.out_eq _ _ _
    · obtain ⟨e0, e1, e2⟩ := hag c
      refine (show _ = Cert.ProjReferenceIdeal.Proj.valuesOf (Cert.ProjReferenceIdeal.Proj.dots (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) (m' ((c.tc : Thread Cert.ProjReferenceIdeal.nD Cert.ProjReferenceIdeal.τ).loc Cert.ProjReferenceIdeal.main_arg2))) from rfl).trans ?_
      rw [e0, e1, e2]
      exact Cert.ProjReferenceIdeal.Proj.values_eq _ _ _

/-- The mixing step leaves its reference's result. -/
theorem same_mix : Cert.algebraic_MixIdeal_MixReferenceIdeal := by
  intro m ρ m' ρ' _ hag
  refine ⟨fun c => Cert.MixIdeal.Mixing.result
      (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)), ?_, ?_⟩
  · refine (θ_run Cert.MixIdeal.defs _ _).mono (fun r h c => ⟨?_, h.2.1 c⟩)
      (θ_run_and (Cert.MixIdeal.Gen.run_main m ρ) (Cert.MixIdeal.Gen.frame m ρ))
    exact ((h.1 c).1 9).trans (Cert.MixIdeal.Mixing.array_eq m c)
  · refine (θ_run Cert.MixReferenceIdeal.defs _ _).mono (fun r h c => ⟨(h c).1.trans ?_, (h c).2⟩) (Cert.MixReferenceIdeal.Value.run m' ρ')
    obtain ⟨e0, e1, e2, e3, e4, e5, e6, e7⟩ := hag c
    refine (show _ = Cert.MixReferenceIdeal.Mixing.out (m' ((c.tc : Thread Cert.MixReferenceIdeal.nD Cert.MixReferenceIdeal.τ).loc Cert.MixReferenceIdeal.main_arg0)) (m' ((c.tc : Thread Cert.MixReferenceIdeal.nD Cert.MixReferenceIdeal.τ).loc Cert.MixReferenceIdeal.main_arg1)) (m' ((c.tc : Thread Cert.MixReferenceIdeal.nD Cert.MixReferenceIdeal.τ).loc Cert.MixReferenceIdeal.main_arg2)) (m' ((c.tc : Thread Cert.MixReferenceIdeal.nD Cert.MixReferenceIdeal.τ).loc Cert.MixReferenceIdeal.main_arg3)) (m' ((c.tc : Thread Cert.MixReferenceIdeal.nD Cert.MixReferenceIdeal.τ).loc Cert.MixReferenceIdeal.main_arg4)) (m' ((c.tc : Thread Cert.MixReferenceIdeal.nD Cert.MixReferenceIdeal.τ).loc Cert.MixReferenceIdeal.main_arg5)) (m' ((c.tc : Thread Cert.MixReferenceIdeal.nD Cert.MixReferenceIdeal.τ).loc Cert.MixReferenceIdeal.main_arg6)) (m' ((c.tc : Thread Cert.MixReferenceIdeal.nD Cert.MixReferenceIdeal.τ).loc Cert.MixReferenceIdeal.main_arg7)) from rfl).trans ?_
    rw [e0, e1, e2, e3, e4, e5, e6, e7]
    exact Cert.MixReferenceIdeal.Mixing.out_eq _ _ _ _ _ _ _ _

/-- Where the gate's padding rows are zero the feed-forward's second product leaves its reference's result. -/
theorem same_down : Cert.algebraic_DownIdeal_DownReferenceIdeal_pre_padded := by
  intro m ρ m' ρ' hpre hag
  refine ⟨fun c => Cert.DownIdeal.Ffn.result
      (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5)), ?_, ?_⟩
  · refine (θ_run Cert.DownIdeal.defs _ _).mono (fun r h c => ⟨?_, h.2.1 c⟩)
      (θ_run_and (Cert.DownIdeal.Gen.run_main m ρ) (Cert.DownIdeal.Gen.frame m ρ))
    exact ((h.1 c).1 9).trans (Cert.DownIdeal.Ffn.array_eq m c)
  · refine (θ_run Cert.DownReferenceIdeal.defs _ _).mono (fun r h c => ⟨(h c).1.trans ?_, (h c).2⟩) (Cert.DownReferenceIdeal.Value.run m' ρ')
    obtain ⟨e0, e1, e2, e3, e4, e5⟩ := hag c
    refine (Cert.DownReferenceIdeal.Ffn.res_eq m' c).trans ?_
    rw [e0, e1, e2, e3, e4, e5]
    exact Cert.DownReferenceIdeal.Ffn.out_eq _ _ _ _ _ _ (Cert.Pre_padded.Read.zero_of_pre (hpre c))

theorem claim : Cert.Claim := ⟨Cert.Kernel.Gen.facts, Cert.KernelIdeal.Gen.facts, Cert.ReferenceIdeal.Gen.facts, Cert.Down.Gen.facts, Cert.DownIdeal.Gen.facts, Cert.DownReferenceIdeal.Gen.facts, Cert.Up.Gen.facts, Cert.UpIdeal.Gen.facts, Cert.UpReferenceIdeal.Gen.facts, Cert.Mix.Gen.facts, Cert.MixIdeal.Gen.facts, Cert.MixReferenceIdeal.Gen.facts, Cert.Proj.Gen.facts, Cert.ProjIdeal.Gen.facts, Cert.ProjReferenceIdeal.Gen.facts, Cert.Pre_finite.Gen.facts, Cert.Pre_padded.Gen.facts,
  frame_kernel, fun m ρ _ => Cert.KernelIdeal.Attn.frame m ρ, fun m ρ _ => Cert.KernelIdeal.Attn.frame m ρ,
  frame_reference, fun m ρ _ => frame_reference m ρ trivial,
  fun m ρ _ => Cert.Down.Gen.frame m ρ, fun m ρ _ => Cert.DownIdeal.Gen.frame m ρ, fun m ρ _ => Cert.DownIdeal.Gen.frame m ρ,
  frame_down_reference, fun m ρ _ => frame_down_reference m ρ trivial,
  fun m ρ _ => Cert.Up.Gen.frame m ρ, fun m ρ _ => Cert.UpIdeal.Gen.frame m ρ, frame_up_reference,
  fun m ρ _ => Cert.Mix.Gen.frame m ρ, fun m ρ _ => Cert.MixIdeal.Gen.frame m ρ, frame_mix_reference,
  Cert.Proof.Proj.frame_proj, Cert.Proof.Proj.frame_projIdeal, frame_proj_reference,
  trivial, same_result, trivial, same_down, trivial, same_up, trivial, same_mix, trivial, same_proj⟩

end Cert.Proof

end
